-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_table_ranges : Cert.Pre_table_ranges.Facts] (m : (ℓ : Loc Cert.Kernel3.nD Cert.Kernel3.τ Cert.Kernel3.sig) → Buf (Elt Bits) ℓ) : Prop :=
  ∀ c : Dev Cert.Kernel3.nD,
    (Cert.Pre_table_ranges.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))) = (fun _ => 1#1)

def Pre_Kernel3Ideal [hPre_table_ranges : Cert.Pre_table_ranges.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_table_ranges.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_table_ranges [hPre_table_ranges : Cert.Pre_table_ranges.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_table_ranges.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_branches [hPre_finite_branches : Cert.Pre_finite_branches.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_branches.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_branches [hPre_finite_branches : Cert.Pre_finite_branches.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_branches.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] [hPre_table_ranges : Cert.Pre_table_ranges.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] [hPre_table_ranges : Cert.Pre_table_ranges.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_table_ranges [hReference3Ideal : Cert.Reference3Ideal.Facts] [hPre_table_ranges : Cert.Pre_table_ranges.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_table_ranges m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ r.2.sem = fun _ => 0)

def quiescent_Kernel5Ideal_pre_finite_branches [hKernel5Ideal : Cert.Kernel5Ideal.Facts] [hPre_finite_branches : Cert.Pre_finite_branches.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_branches m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12))
      ∧ r.2.sem = fun _ => 0)

def quiescent_Reference5Ideal_pre_finite_branches [hReference5Ideal : Cert.Reference5Ideal.Facts] [hPre_finite_branches : Cert.Pre_finite_branches.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_branches m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] [hPre_table_ranges : Cert.Pre_table_ranges.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v143) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v18_0)) (v1 : (c : Dev Cert.Kernel4Ideal.nD) → Buf (Elt Ideal) ((c.tc : Thread Cert.Kernel4Ideal.nD Cert.Kernel4Ideal.τ).loc Cert.Kernel4Ideal.main_v18_1)) (v2 : (c : Dev Cert.Kernel4Ideal.nD) → Buf (Elt Ideal) ((c.tc : Thread Cert.Kernel4Ideal.nD Cert.Kernel4Ideal.τ).loc Cert.Kernel4Ideal.main_v18_2)) (v3 : (c : Dev Cert.Kernel4Ideal.nD) → Buf (Elt Ideal) ((c.tc : Thread Cert.Kernel4Ideal.nD Cert.Kernel4Ideal.τ).loc Cert.Kernel4Ideal.main_v18_3)) (v4 : (c : Dev Cert.Kernel4Ideal.nD) → Buf (Elt Ideal) ((c.tc : Thread Cert.Kernel4Ideal.nD Cert.Kernel4Ideal.τ).loc Cert.Kernel4Ideal.main_v18_4)) (v5 : (c : Dev Cert.Kernel4Ideal.nD) → Buf (Elt Ideal) ((c.tc : Thread Cert.Kernel4Ideal.nD Cert.Kernel4Ideal.τ).loc Cert.Kernel4Ideal.main_v18_5)) (v6 : (c : Dev Cert.Kernel4Ideal.nD) → Buf (Elt Ideal) ((c.tc : Thread Cert.Kernel4Ideal.nD Cert.Kernel4Ideal.τ).loc Cert.Kernel4Ideal.main_v18_6)) (v7 : (c : Dev Cert.Kernel4Ideal.nD) → Buf (Elt Ideal) ((c.tc : Thread Cert.Kernel4Ideal.nD Cert.Kernel4Ideal.τ).loc Cert.Kernel4Ideal.main_v18_7)) (v8 : (c : Dev Cert.Kernel4Ideal.nD) → Buf (Elt Ideal) ((c.tc : Thread Cert.Kernel4Ideal.nD Cert.Kernel4Ideal.τ).loc Cert.Kernel4Ideal.main_v18_8)) (v9 : (c : Dev Cert.Kernel4Ideal.nD) → Buf (Elt Ideal) ((c.tc : Thread Cert.Kernel4Ideal.nD Cert.Kernel4Ideal.τ).loc Cert.Kernel4Ideal.main_v18_9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v18_0) = v0 c
          ∧ r.2.mem ((c.tc : Thread Cert.Kernel4Ideal.nD Cert.Kernel4Ideal.τ).loc Cert.Kernel4Ideal.main_v18_1) = v1 c
          ∧ r.2.mem ((c.tc : Thread Cert.Kernel4Ideal.nD Cert.Kernel4Ideal.τ).loc Cert.Kernel4Ideal.main_v18_2) = v2 c
          ∧ r.2.mem ((c.tc : Thread Cert.Kernel4Ideal.nD Cert.Kernel4Ideal.τ).loc Cert.Kernel4Ideal.main_v18_3) = v3 c
          ∧ r.2.mem ((c.tc : Thread Cert.Kernel4Ideal.nD Cert.Kernel4Ideal.τ).loc Cert.Kernel4Ideal.main_v18_4) = v4 c
          ∧ r.2.mem ((c.tc : Thread Cert.Kernel4Ideal.nD Cert.Kernel4Ideal.τ).loc Cert.Kernel4Ideal.main_v18_5) = v5 c
          ∧ r.2.mem ((c.tc : Thread Cert.Kernel4Ideal.nD Cert.Kernel4Ideal.τ).loc Cert.Kernel4Ideal.main_v18_6) = v6 c
          ∧ r.2.mem ((c.tc : Thread Cert.Kernel4Ideal.nD Cert.Kernel4Ideal.τ).loc Cert.Kernel4Ideal.main_v18_7) = v7 c
          ∧ r.2.mem ((c.tc : Thread Cert.Kernel4Ideal.nD Cert.Kernel4Ideal.τ).loc Cert.Kernel4Ideal.main_v18_8) = v8 c
          ∧ r.2.mem ((c.tc : Thread Cert.Kernel4Ideal.nD Cert.Kernel4Ideal.τ).loc Cert.Kernel4Ideal.main_v18_9) = v9 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v29) = v0 c
          ∧ r.2.mem ((c.tc : Thread Cert.Reference4Ideal.nD Cert.Reference4Ideal.τ).loc Cert.Reference4Ideal.main_v30) = v1 c
          ∧ r.2.mem ((c.tc : Thread Cert.Reference4Ideal.nD Cert.Reference4Ideal.τ).loc Cert.Reference4Ideal.main_v31) = v2 c
          ∧ r.2.mem ((c.tc : Thread Cert.Reference4Ideal.nD Cert.Reference4Ideal.τ).loc Cert.Reference4Ideal.main_v32) = v3 c
          ∧ r.2.mem ((c.tc : Thread Cert.Reference4Ideal.nD Cert.Reference4Ideal.τ).loc Cert.Reference4Ideal.main_v33) = v4 c
          ∧ r.2.mem ((c.tc : Thread Cert.Reference4Ideal.nD Cert.Reference4Ideal.τ).loc Cert.Reference4Ideal.main_v34) = v5 c
          ∧ r.2.mem ((c.tc : Thread Cert.Reference4Ideal.nD Cert.Reference4Ideal.τ).loc Cert.Reference4Ideal.main_v35) = v6 c
          ∧ r.2.mem ((c.tc : Thread Cert.Reference4Ideal.nD Cert.Reference4Ideal.τ).loc Cert.Reference4Ideal.main_v36) = v7 c
          ∧ r.2.mem ((c.tc : Thread Cert.Reference4Ideal.nD Cert.Reference4Ideal.τ).loc Cert.Reference4Ideal.main_v37) = v8 c
          ∧ r.2.mem ((c.tc : Thread Cert.Reference4Ideal.nD Cert.Reference4Ideal.τ).loc Cert.Reference4Ideal.main_v38) = v9 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_finite_branches [hKernel5Ideal : Cert.Kernel5Ideal.Facts] [hReference5Ideal : Cert.Reference5Ideal.Facts] [hPre_finite_branches : Cert.Pre_finite_branches.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_branches m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)) →
    ∃ (v0 : (c : Dev Cert.Kernel5Ideal.nD) → Buf (Elt Ideal) ((c.tc : Thread Cert.Kernel5Ideal.nD Cert.Kernel5Ideal.τ).loc Cert.Kernel5Ideal.main_v30)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v30) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v90) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_scores : Cert.Pre_finite_scores.Facts) (hPre_table_ranges : Cert.Pre_table_ranges.Facts) (hPre_finite_branches : Cert.Pre_finite_branches.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_table_ranges := hPre_table_ranges)
    ∧ quiescent_Kernel3Ideal (hKernel3Ideal := hKernel3Ideal) (hPre_table_ranges := hPre_table_ranges)
    ∧ quiescent_Reference3Ideal (hReference3Ideal := hReference3Ideal)
    ∧ quiescent_Reference3Ideal_pre_table_ranges (hReference3Ideal := hReference3Ideal) (hPre_table_ranges := hPre_table_ranges)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_branches (hKernel5Ideal := hKernel5Ideal) (hPre_finite_branches := hPre_finite_branches)
    ∧ quiescent_Reference5Ideal (hReference5Ideal := hReference5Ideal)
    ∧ quiescent_Reference5Ideal_pre_finite_branches (hReference5Ideal := hReference5Ideal) (hPre_finite_branches := hPre_finite_branches)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_table_ranges := hPre_table_ranges)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_branches (hKernel5Ideal := hKernel5Ideal) (hReference5Ideal := hReference5Ideal) (hPre_finite_branches := hPre_finite_branches)
-- ==== Pre_finite_branches.lean ====
abbrev S16384x1024 : Shape := ⟨2, ![16384, 1024]⟩
abbrev S1024 : Shape := ⟨1, ![1024]⟩
abbrev S4x1024x2048 : Shape := ⟨3, ![4, 1024, 2048]⟩
abbrev S16384x512 : Shape := ⟨2, ![16384, 512]⟩
abbrev S1024x8968 : Shape := ⟨2, ![1024, 8968]⟩
abbrev S4096 : Shape := ⟨1, ![4096]⟩
abbrev S32x16 : Shape := ⟨2, ![32, 16]⟩
abbrev S512x512 : Shape := ⟨2, ![512, 512]⟩
abbrev S4x512x1024 : Shape := ⟨3, ![4, 512, 1024]⟩
abbrev S1024x1024 : Shape := ⟨2, ![1024, 1024]⟩
abbrev S_ : Shape := ⟨0, ![]⟩

class Facts : Prop where
  bitsLt_bf16_f32 : FTy.bits .bf16 < FTy.bits .f32
  bcast_S_S4x1024x2048 : S_.BroadcastsInDim S4x1024x2048 (![] : Fin 0 → Fin S4x1024x2048.rank)
  reducesTo_S4x1024x2048_S_d0_1_2 : S4x1024x2048.ReducesTo [0, 1, 2] S_
  h_S_ : 0 < S_.numel
  bcast_S_S16384x512 : S_.BroadcastsInDim S16384x512 (![] : Fin 0 → Fin S16384x512.rank)
  reducesTo_S16384x512_S_d0_1 : S16384x512.ReducesTo [0, 1] S_
  bcast_S_S32x16 : S_.BroadcastsInDim S32x16 (![] : Fin 0 → Fin S32x16.rank)
  reducesTo_S32x16_S_d0_1 : S32x16.ReducesTo [0, 1] S_
  bcast_S_S4x512x1024 : S_.BroadcastsInDim S4x512x1024 (![] : Fin 0 → Fin S4x512x1024.rank)
  reducesTo_S4x512x1024_S_d0_1_2 : S4x512x1024.ReducesTo [0, 1, 2] S_

variable [Facts]

def fn_part2 {F : FTy → Type} [FloatOps F] (main_v33 : IVec S_ 1) (main_v34 : FVec F S4x512x1024 .f32) (main_cst_10 : FVec F S_ .f32) : IVec S_ 1 :=
  let main_v35 : FVec F S4x512x1024 .f32 := broadcastInDim S4x512x1024 ![] bcast_S_S4x512x1024 main_cst_10
  let main_v36 : IVec S4x512x1024 1 := cmpf .olt main_v34 main_v35
  let main_c_11 : IVec S_ 1 := constantI S_ 1 1#1
  let main_v37 : IVec S_ 1 := (fun x v => Host.reduce IntOp.andi x v reducesTo_S4x512x1024_S_d0_1_2 h_S_) main_v36 main_c_11
  let main_v38 : IVec S_ 1 := andi main_v33 main_v37
  main_v38

def fn_part1 {F : FTy → Type} [FloatOps F] (main_arg6 : FVec F S16384x512 .bf16) (main_arg9 : FVec F S32x16 .f32) (main_arg11 : FVec F S4x512x1024 .f32) (main_v16 : IVec S_ 1) (main_v17 : FVec F S16384x512 .f32) : IVec S_ 1 :=
  let main_v18 : FVec F S16384x512 .f32 := Host.absf main_v17
  let main_cst_4 : FVec F S_ .f32 := constant S_ .f32 0x7F800000#32
  let main_v19 : FVec F S16384x512 .f32 := broadcastInDim S16384x512 ![] bcast_S_S16384x512 main_cst_4
  let main_v20 : IVec S16384x512 1 := cmpf .olt main_v18 main_v19
  let main_c_5 : IVec S_ 1 := constantI S_ 1 1#1
  let main_v21 : IVec S_ 1 := (fun x v => Host.reduce IntOp.andi x v reducesTo_S16384x512_S_d0_1 h_S_) main_v20 main_c_5
  let main_v22 : IVec S_ 1 := andi main_v16 main_v21
  let main_v23 : FVec F S16384x512 .f32 := (extf .f32 · bitsLt_bf16_f32) main_arg6
  let main_v24 : FVec F S16384x512 .f32 := Host.absf main_v23
  let main_cst_6 : FVec F S_ .f32 := constant S_ .f32 0x7F800000#32
  let main_v25 : FVec F S16384x512 .f32 := broadcastInDim S16384x512 ![] bcast_S_S16384x512 main_cst_6
  let main_v26 : IVec S16384x512 1 := cmpf .olt main_v24 main_v25
  let main_c_7 : IVec S_ 1 := constantI S_ 1 1#1
  let main_v27 : IVec S_ 1 := (fun x v => Host.reduce IntOp.andi x v reducesTo_S16384x512_S_d0_1 h_S_) main_v26 main_c_7
  let main_v28 : IVec S_ 1 := andi main_v22 main_v27
  let main_v29 : FVec F S32x16 .f32 := Host.absf main_arg9
  let main_cst_8 : FVec F S_ .f32 := constant S_ .f32 0x7F800000#32
  let main_v30 : FVec F S32x16 .f32 := broadcastInDim S32x16 ![] bcast_S_S32x16 main_cst_8
  let main_v31 : IVec S32x16 1 := cmpf .olt main_v29 main_v30
  let main_c_9 : IVec S_ 1 := constantI S_ 1 1#1
  let main_v32 : IVec S_ 1 := (fun x v => Host.reduce IntOp.andi x v reducesTo_S32x16_S_d0_1 h_S_) main_v31 main_c_9
  let main_v33 : IVec S_ 1 := andi main_v28 main_v32
  let main_v34 : FVec F S4x512x1024 .f32 := Host.absf main_arg11
  let main_cst_10 : FVec F S_ .f32 := constant S_ .f32 0x7F800000#32
  fn_part2 (F := F) main_v33 main_v34 main_cst_10

def fn {F : FTy → Type} [FloatOps F] (main_arg0 : FVec F S16384x1024 .f32) (main_arg1 : FVec F S1024 .f32) (main_arg2 : FVec F S4x1024x2048 .bf16) (main_arg3 : FVec F S4x1024x2048 .bf16) (main_arg4 : FVec F S16384x512 .bf16) (main_arg5 : FVec F S16384x512 .bf16) (main_arg6 : FVec F S16384x512 .bf16) (main_arg7 : FVec F S1024x8968 .f32) (main_arg8 : FVec F S4096 .f32) (main_arg9 : FVec F S32x16 .f32) (main_arg10 : FVec F S512x512 .f32) (main_arg11 : FVec F S4x512x1024 .f32) (main_arg12 : FVec F S1024x1024 .f32) : IVec S_ 1 :=
  let main_v0 : FVec F S4x1024x2048 .f32 := (extf .f32 · bitsLt_bf16_f32) main_arg2
  let main_v1 : FVec F S4x1024x2048 .f32 := Host.absf main_v0
  let main_cst : FVec F S_ .f32 := constant S_ .f32 0x7F800000#32
  let main_v2 : FVec F S4x1024x2048 .f32 := broadcastInDim S4x1024x2048 ![] bcast_S_S4x1024x2048 main_cst
  let main_v3 : IVec S4x1024x2048 1 := cmpf .olt main_v1 main_v2
  let main_c : IVec S_ 1 := constantI S_ 1 1#1
  let main_v4 : IVec S_ 1 := (fun x v => Host.reduce IntOp.andi x v reducesTo_S4x1024x2048_S_d0_1_2 h_S_) main_v3 main_c
  let main_v5 : FVec F S4x1024x2048 .f32 := (extf .f32 · bitsLt_bf16_f32) main_arg3
  let main_v6 : FVec F S4x1024x2048 .f32 := Host.absf main_v5
  let main_cst_0 : FVec F S_ .f32 := constant S_ .f32 0x7F800000#32
  let main_v7 : FVec F S4x1024x2048 .f32 := broadcastInDim S4x1024x2048 ![] bcast_S_S4x1024x2048 main_cst_0
  let main_v8 : IVec S4x1024x2048 1 := cmpf .olt main_v6 main_v7
  let main_c_1 : IVec S_ 1 := constantI S_ 1 1#1
  let main_v9 : IVec S_ 1 := (fun x v => Host.reduce IntOp.andi x v reducesTo_S4x1024x2048_S_d0_1_2 h_S_) main_v8 main_c_1
  let main_v10 : IVec S_ 1 := andi main_v4 main_v9
  let main_v11 : FVec F S16384x512 .f32 := (extf .f32 · bitsLt_bf16_f32) main_arg4
  let main_v12 : FVec F S16384x512 .f32 := Host.absf main_v11
  let main_cst_2 : FVec F S_ .f32 := constant S_ .f32 0x7F800000#32
  let main_v13 : FVec F S16384x512 .f32 := broadcastInDim S16384x512 ![] bcast_S_S16384x512 main_cst_2
  let main_v14 : IVec S16384x512 1 := cmpf .olt main_v12 main_v13
  let main_c_3 : IVec S_ 1 := constantI S_ 1 1#1
  let main_v15 : IVec S_ 1 := (fun x v => Host.reduce IntOp.andi x v reducesTo_S16384x512_S_d0_1 h_S_) main_v14 main_c_3
  let main_v16 : IVec S_ 1 := andi main_v10 main_v15
  let main_v17 : FVec F S16384x512 .f32 := (extf .f32 · bitsLt_bf16_f32) main_arg5
  fn_part1 (F := F) main_arg6 main_arg9 main_arg11 main_v16 main_v17
-- ==== Pre_finite_scores.lean ====
abbrev S8x2048x1024 : Shape := ⟨3, ![8, 2048, 1024]⟩
abbrev S1024 : Shape := ⟨1, ![1024]⟩
abbrev S1024x1024 : Shape := ⟨2, ![1024, 1024]⟩
abbrev S8x256x1024 : Shape := ⟨3, ![8, 256, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bitsLt_bf16_f32 : FTy.bits .bf16 < FTy.bits .f32
  bcast_S_S8x256x1024 : S_.BroadcastsInDim S8x256x1024 (![] : Fin 0 → Fin S8x256x1024.rank)
  reducesTo_S8x256x1024_S_d0_1_2 : S8x256x1024.ReducesTo [0, 1, 2] S_

variable [Facts]

def fn_part1 {F : FTy → Type} [FloatOps F] (main_v13 : IVec S_ 1) (main_v15 : FVec F S8x256x1024 .f32) (main_v16 : FVec F S8x256x1024 .f32) : IVec S_ 1 :=
  let main_v17 : IVec S8x256x1024 1 := cmpf .olt main_v15 main_v16
  let main_c_5 : IVec S_ 1 := constantI S_ 1 1#1
  let main_v18 : IVec S_ 1 := (fun x v => Host.reduce IntOp.andi x v reducesTo_S8x256x1024_S_d0_1_2 h_S_) main_v17 main_c_5
  let main_v19 : IVec S_ 1 := andi main_v13 main_v18
  main_v19

def fn {F : FTy → Type} [FloatOps F] (main_arg0 : FVec F S8x2048x1024 .f32) (main_arg1 : FVec F S1024 .f32) (main_arg2 : FVec F S1024x1024 .f32) (main_arg3 : FVec F S8x256x1024 .bf16) (main_arg4 : FVec F S8x256x1024 .bf16) (main_arg5 : FVec F S1024x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S8x256x1024 .f32 := (extf .f32 · bitsLt_bf16_f32) main_arg3
  let main_v15 : FVec F S8x256x1024 .f32 := Host.absf main_v14
  let main_cst_4 : FVec F S_ .f32 := constant S_ .f32 0x7F800000#32
  let main_v16 : FVec F S8x256x1024 .f32 := broadcastInDim S8x256x1024 ![] bcast_S_S8x256x1024 main_cst_4
  fn_part1 (F := F) main_v13 main_v15 main_v16
-- ==== Pre_table_ranges.lean ====
abbrev S36864x1024 : Shape := ⟨2, ![36864, 1024]⟩
abbrev S72 : Shape := ⟨1, ![72]⟩
abbrev S1 : Shape := ⟨1, ![1]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S72 : S_.BroadcastsInDim S72 (![] : Fin 0 → Fin S72.rank)
  reducesTo_S72_S_d0 : S72.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S36864x1024 .f32) (main_arg1 : IVec S72 32) (main_arg2 : IVec S1 32) (main_arg3 : FVec F S8x1024x3584 .f32) (main_arg4 : FVec F S8x1024x3584 .f32) (main_arg5 : FVec F S8x3584x1024 .f32) : IVec S_ 1 :=
  let main_c : IVec S_ 32 := constantI S_ 32 0#32
  let main_v0 : IVec S72 32 := broadcastInDim S72 ![] bcast_S_S72 main_c
  let main_v1 : IVec S72 1 := cmpi .sge main_arg1 main_v0
  let main_c_0 : IVec S_ 32 := constantI S_ 32 8#32
  let main_v2 : IVec S72 32 := broadcastInDim S72 ![] bcast_S_S72 main_c_0
  let main_v3 : IVec S72 1 := cmpi .slt main_arg1 main_v2
  let main_v4 : IVec S72 1 := andi main_v1 main_v3
  let main_c_1 : IVec S_ 1 := constantI S_ 1 1#1
  let main_v5 : IVec S_ 1 := (fun x v => Host.reduce IntOp.andi x v reducesTo_S72_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg2 main_v6
  let main_c_3 : IVec S_ 32 := constantI S_ 32 72#32
  let main_v8 : IVec S1 32 := broadcastInDim S1 ![] bcast_S_S1 main_c_3
  let main_v9 : IVec S1 1 := cmpi .sle main_arg2 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Kernel.lean ====
abbrev S8x2048x1024 : Shape := ⟨3, ![8, 2048, 1024]⟩
abbrev S1024 : Shape := ⟨1, ![1024]⟩
abbrev S1024x1024 : Shape := ⟨2, ![1024, 1024]⟩
abbrev S8x256x1024 : Shape := ⟨3, ![8, 256, 1024]⟩
abbrev S1x1024 : Shape := ⟨2, ![1, 1024]⟩
abbrev S_ : Shape := ⟨0, ![]⟩
abbrev S1x512x1024 : Shape := ⟨3, ![1, 512, 1024]⟩
abbrev S1x256x1024 : Shape := ⟨3, ![1, 256, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 13
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x1024, .f32⟩
  | .hbm, ⟨3, _⟩ => ⟨S8x256x1024, .bf16⟩
  | .hbm, ⟨4, _⟩ => ⟨S8x256x1024, .bf16⟩
  | .hbm, ⟨5, _⟩ => ⟨S1024x1024, .f32⟩
  | .hbm, ⟨6, _⟩ => ⟨S1x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .bf16⟩
  | .hbm, ⟨11, _⟩ => ⟨S1024x1024, .bf16⟩
  | .hbm, ⟨12, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1024x1024, .bf16⟩
  | .local _ .vmem, ⟨9, _⟩ => ⟨S1x512x1024, .f32⟩
  | .local _ .vmem, ⟨10, _⟩ => ⟨S1x512x1024, .f32⟩
  | .local _ .vmem, ⟨11, _⟩ => ⟨S512x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8x2048x1024 : Shape := ⟨3, ![8, 2048, 1024]⟩
abbrev S1024 : Shape := ⟨1, ![1024]⟩
abbrev S1024x1024 : Shape := ⟨2, ![1024, 1024]⟩
abbrev S8x256x1024 : Shape := ⟨3, ![8, 256, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4x256 : Shape := ⟨4, ![8, 2048, 4, 256]⟩
abbrev S8x256x4x256 : Shape := ⟨4, ![8, 256, 4, 256]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x256x2048 : Shape := ⟨4, ![8, 4, 256, 2048]⟩

abbrev nBuf : Space → Nat
  | .hbm => 51
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x1024, .f32⟩
  | .hbm, ⟨3, _⟩ => ⟨S8x256x1024, .bf16⟩
  | .hbm, ⟨4, _⟩ => ⟨S8x256x1024, .bf16⟩
  | .hbm, ⟨5, _⟩ => ⟨S1024x1024, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S8x2048x1024, .f32⟩
  | .hbm, ⟨23, _⟩ => ⟨S8x2048x4x256, .f32⟩
  | .hbm, ⟨24, _⟩ => ⟨S8x256x1024, .f32⟩
  | .hbm, ⟨25, _⟩ => ⟨S8x256x4x256, .f32⟩
  | .hbm, ⟨26, _⟩ => ⟨S8x256x1024, .f32⟩
  | .hbm, ⟨27, _⟩ => ⟨S8x256x4x256, .f32⟩
  | .hbm, ⟨28, _⟩ => ⟨S8x4x2048x256, .f32⟩
  | .hbm, ⟨29, _⟩ => ⟨S_, .f32⟩
  | .hbm, ⟨30, _⟩ => ⟨S8x4x2048x256, .f32⟩
  | .hbm, ⟨31, _⟩ => ⟨S8x4x2048x256, .f32⟩
  | .hbm, ⟨32, _⟩ => ⟨S_, .f32⟩
  | .hbm, ⟨33, _⟩ => ⟨S8x4x2048, .f32⟩
  | .hbm, ⟨34, _⟩ => ⟨S_, .f32⟩
  | .hbm, ⟨35, _⟩ => ⟨S8x4x2048, .f32⟩
  | .hbm, ⟨36, _⟩ => ⟨S8x4x2048, .f32⟩
  | .hbm, ⟨37, _⟩ => ⟨S8x4x2048x1, .f32⟩
  | .hbm, ⟨38, _⟩ => ⟨S8x4x2048x256, .f32⟩
  | .hbm, ⟨39, _⟩ => ⟨S8x4x2048x256, .f32⟩
  | .hbm, ⟨40, _⟩ => ⟨S8x4x2048x256, .f32⟩
  | .hbm, ⟨41, _⟩ => ⟨S_, .f32⟩
  | .hbm, ⟨42, _⟩ => ⟨S8x4x2048, .f32⟩
  | .hbm, ⟨43, _⟩ => ⟨S8x4x2048x1, .f32⟩
  | .hbm, ⟨44, _⟩ => ⟨S8x4x2048x256, .f32⟩
  | .hbm, ⟨45, _⟩ => ⟨S8x4x2048x256, .f32⟩
  | .hbm, ⟨46, _⟩ => ⟨S8x4x256x2048, .f32⟩
  | .hbm, ⟨47, _⟩ => ⟨S8x2048x4x256, .f32⟩
  | .hbm, ⟨48, _⟩ => ⟨S8x2048x1024, .f32⟩
  | .hbm, ⟨49, _⟩ => ⟨S8x2048x1024, .f32⟩
  | .hbm, ⟨50, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 10
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 35
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S_, .f32⟩
  | .hbm, ⟨25, _⟩ => ⟨S16384x2816, .f32⟩
  | .hbm, ⟨26, _⟩ => ⟨S16384x2816, .f32⟩
  | .hbm, ⟨27, _⟩ => ⟨S_, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x1024, .f32⟩
  | .hbm, ⟨34, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== Kernel3.lean ====
abbrev S36864x1024 : Shape := ⟨2, ![36864, 1024]⟩
abbrev S72 : Shape := ⟨1, ![72]⟩
abbrev S1 : Shape := ⟨1, ![1]⟩
abbrev S8x1024x3584 : Shape := ⟨3, ![8, 1024, 3584]⟩
abbrev S8x3584x1024 : Shape := ⟨3, ![8, 3584, 1024]⟩
abbrev S512x1024 : Shape := ⟨2, ![512, 1024]⟩
abbrev S1x1024x1792 : Shape := ⟨3, ![1, 1024, 1792]⟩
abbrev S1x1792x1024 : Shape := ⟨3, ![1, 1792, 1024]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 8
  | .vmem => 10
  | .smem => 2
  | _ => 0

abbrev bufTy : (tb : Table) → Fin (tcTables nBuf tb) → BufTy
  | .hbm, ⟨0, _⟩ => ⟨S36864x1024, .f32⟩
  | .hbm, ⟨1, _⟩ => ⟨S8x1024x3584, .f32⟩
  | .hbm, ⟨2, _⟩ => ⟨S8x1024x3584, .f32⟩
  | .hbm, ⟨3, _⟩ => ⟨S8x3584x1024, .f32⟩
  | .hbm, ⟨4, _⟩ => ⟨S8x1024x3584, .bf16⟩
  | .hbm, ⟨5, _⟩ => ⟨S8x1024x3584, .bf16⟩
  | .hbm, ⟨6, _⟩ => ⟨S8x3584x1024, .bf16⟩
  | .hbm, ⟨7, _⟩ => ⟨S36864x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1792, .bf16⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1x1792x1024, .bf16⟩
  | .local _ .vmem, ⟨7, _⟩ => ⟨S1x1792x1024, .bf16⟩
  | .local _ .vmem, ⟨8, _⟩ => ⟨S512x1024, .f32⟩
  | .local _ .vmem, ⟨9, _⟩ => ⟨S512x1024, .f32⟩
  | .local _ .smem, ⟨0, _⟩ => ⟨S72, .i32⟩
  | .local _ .smem, ⟨1, _⟩ => ⟨S1, .i32⟩
  | _, _ => ⟨S36864x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![72, 2], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let arg1 : BitVec 32 := BitVec.ofNat 32 (i 1).val
  let c0_i32 : BitVec 32 := 0#32
  let v2 : BitVec 1 := Scalar.cmpi .eq arg1 c0_i32
  let v3 : BitVec 1 := Scalar.andi v1 v2
  let v4 : BitVec 32 := Scalar.extui v3
  let c0_i32_0 : BitVec 32 := 0#32
  let v5 : BitVec 1 := Scalar.cmpi .ne v4 c0_i32_0
  v5

def k0_cond2 (i : grid0.Coords) (v0 : BitVec 32) : BitVec 1 :=
  let arg0 : BitVec 32 := BitVec.ofNat 32 (i 0).val
  let v1 : BitVec 1 := Scalar.cmpi .slt arg0 v0
  let arg1 : BitVec 32 := BitVec.ofNat 32 (i 1).val
  let c0_i32_1 : BitVec 32 := 0#32
  let v6 : BitVec 1 := Scalar.cmpi .sgt arg1 c0_i32_1
  let v7 : BitVec 1 := Scalar.andi v1 v6
  let v8 : BitVec 32 := Scalar.extui v7
  let c0_i32_2 : BitVec 32 := 0#32
  let v9 : BitVec 1 := Scalar.cmpi .ne v8 c0_i32_2
  v9

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v10 : BitVec 1 := Scalar.xori v1 v_true
  let arg1 : BitVec 32 := BitVec.ofNat 32 (i 1).val
  let c0_i32_3 : BitVec 32 := 0#32
  let v11 : BitVec 1 := Scalar.cmpi .eq arg1 c0_i32_3
  let v12 : BitVec 1 := Scalar.andi v10 v11
  let v13 : BitVec 32 := Scalar.extui v12
  let c0_i32_4 : BitVec 32 := 0#32
  let v14 : BitVec 1 := Scalar.cmpi .ne v13 c0_i32_4
  v14

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference3Ideal.lean ====
abbrev S36864x1024 : Shape := ⟨2, ![36864, 1024]⟩
abbrev S72 : Shape := ⟨1, ![72]⟩
abbrev S1 : Shape := ⟨1, ![1]⟩
abbrev S8x1024x3584 : Shape := ⟨3, ![8, 1024, 3584]⟩
abbrev S8x3584x1024 : Shape := ⟨3, ![8, 3584, 1024]⟩
abbrev S72x512 : Shape := ⟨2, ![72, 512]⟩
abbrev S36864 : Shape := ⟨1, ![36864]⟩
abbrev S_ : Shape := ⟨0, ![]⟩
abbrev S36864x1 : Shape := ⟨2, ![36864, 1]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S36864x3584 : Shape := ⟨2, ![36864, 3584]⟩

abbrev nBuf : Space → Nat
  | .hbm => 256
  | .vmem => 0
  | .smem => 0
  | _ => 0

abbrev hbmTy0_0 (i : Nat) : BufTy := match i % 128 with
  | 0 => ⟨S36864x1024, .f32⟩
  | 1 => ⟨S72, .i32⟩
  | 2 => ⟨S1, .i32⟩
  | 3 => ⟨S8x1024x3584, .f32⟩
  | 4 => ⟨S8x1024x3584, .f32⟩
  | 5 => ⟨S8x3584x1024, .f32⟩
  | 6 => ⟨S72x512, .i32⟩
  | 7 => ⟨S36864, .i32⟩
  | 8 => ⟨S36864, .i32⟩
  | 9 => ⟨S_, .i32⟩
  | 10 => ⟨S1, .i32⟩
  | 11 => ⟨S1, .i32⟩
  | 12 => ⟨S36864, .i32⟩
  | 13 => ⟨S36864, .i1⟩
  | 14 => ⟨S_, .f32⟩
  | 15 => ⟨S36864x1024, .f32⟩
  | 16 => ⟨S_, .i32⟩
  | 17 => ⟨S36864, .i32⟩
  | 18 => ⟨S36864, .i1⟩
  | 19 => ⟨S36864, .i1⟩
  | 20 => ⟨S36864x1, .i1⟩
  | 21 => ⟨S1x1024x3584, .f32⟩
  | 22 => ⟨S1024x3584, .f32⟩
  | 23 => ⟨S1x1024x3584, .f32⟩
  | 24 => ⟨S1024x3584, .f32⟩
  | 25 => ⟨S1x3584x1024, .f32⟩
  | 26 => ⟨S3584x1024, .f32⟩
  | 27 => ⟨S36864x3584, .f32⟩
  | 28 => ⟨S36864x3584, .f32⟩
  | 29 => ⟨S36864x3584, .f32⟩
  | 30 => ⟨S_, .f32⟩
  | 31 => ⟨S36864x3584, .f32⟩
  | 32 => ⟨S36864x3584, .f32⟩
  | 33 => ⟨S_, .f32⟩
  | 34 => ⟨S36864x3584, .f32⟩
  | 35 => ⟨S36864x3584, .f32⟩
  | 36 => ⟨S36864x3584, .f32⟩
  | 37 => ⟨S36864x3584, .f32⟩
  | 38 => ⟨S36864x3584, .f32⟩
  | 39 => ⟨S36864x1024, .f32⟩
  | 40 => ⟨S_, .f32⟩
  | 41 => ⟨S_, .f32⟩
  | 42 => ⟨S36864x1024, .i1⟩
  | 43 => ⟨S36864x1024, .f32⟩
  | 44 => ⟨S36864x1024, .f32⟩
  | 45 => ⟨S36864x1024, .f32⟩
  | 46 => ⟨S_, .i32⟩
  | 47 => ⟨S36864, .i32⟩
  | 48 => ⟨S36864, .i1⟩
  | 49 => ⟨S36864, .i1⟩
  | 50 => ⟨S36864x1, .i1⟩
  | 51 => ⟨S1x1024x3584, .f32⟩
  | 52 => ⟨S1024x3584, .f32⟩
  | 53 => ⟨S1x1024x3584, .f32⟩
  | 54 => ⟨S1024x3584, .f32⟩
  | 55 => ⟨S1x3584x1024, .f32⟩
  | 56 => ⟨S3584x1024, .f32⟩
  | 57 => ⟨S36864x3584, .f32⟩
  | 58 => ⟨S36864x3584, .f32⟩
  | 59 => ⟨S36864x3584, .f32⟩
  | 60 => ⟨S_, .f32⟩
  | 61 => ⟨S36864x3584, .f32⟩
  | 62 => ⟨S36864x3584, .f32⟩
  | 63 => ⟨S_, .f32⟩
  | 64 => ⟨S36864x3584, .f32⟩
  | 65 => ⟨S36864x3584, .f32⟩
  | 66 => ⟨S36864x3584, .f32⟩
  | 67 => ⟨S36864x3584, .f32⟩
  | 68 => ⟨S36864x3584, .f32⟩
  | 69 => ⟨S36864x1024, .f32⟩
  | 70 => ⟨S_, .f32⟩
  | 71 => ⟨S_, .f32⟩
  | 72 => ⟨S36864x1024, .i1⟩
  | 73 => ⟨S36864x1024, .f32⟩
  | 74 => ⟨S36864x1024, .f32⟩
  | 75 => ⟨S36864x1024, .f32⟩
  | 76 => ⟨S_, .i32⟩
  | 77 => ⟨S36864, .i32⟩
  | 78 => ⟨S36864, .i1⟩
  | 79 => ⟨S36864, .i1⟩
  | 80 => ⟨S36864x1, .i1⟩
  | 81 => ⟨S1x1024x3584, .f32⟩
  | 82 => ⟨S1024x3584, .f32⟩
  | 83 => ⟨S1x1024x3584, .f32⟩
  | 84 => ⟨S1024x3584, .f32⟩
  | 85 => ⟨S1x3584x1024, .f32⟩
  | 86 => ⟨S3584x1024, .f32⟩
  | 87 => ⟨S36864x3584, .f32⟩
  | 88 => ⟨S36864x3584, .f32⟩
  | 89 => ⟨S36864x3584, .f32⟩
  | 90 => ⟨S_, .f32⟩
  | 91 => ⟨S36864x3584, .f32⟩
  | 92 => ⟨S36864x3584, .f32⟩
  | 93 => ⟨S_, .f32⟩
  | 94 => ⟨S36864x3584, .f32⟩
  | 95 => ⟨S36864x3584, .f32⟩
  | 96 => ⟨S36864x3584, .f32⟩
  | 97 => ⟨S36864x3584, .f32⟩
  | 98 => ⟨S36864x3584, .f32⟩
  | 99 => ⟨S36864x1024, .f32⟩
  | 100 => ⟨S_, .f32⟩
  | 101 => ⟨S_, .f32⟩
  | 102 => ⟨S36864x1024, .i1⟩
  | 103 => ⟨S36864x1024, .f32⟩
  | 104 => ⟨S36864x1024, .f32⟩
  | 105 => ⟨S36864x1024, .f32⟩
  | 106 => ⟨S_, .i32⟩
  | 107 => ⟨S36864, .i32⟩
  | 108 => ⟨S36864, .i1⟩
  | 109 => ⟨S36864, .i1⟩
  | 110 => ⟨S36864x1, .i1⟩
  | 111 => ⟨S1x1024x3584, .f32⟩
  | 112 => ⟨S1024x3584, .f32⟩
  | 113 => ⟨S1x1024x3584, .f32⟩
  | 114 => ⟨S1024x3584, .f32⟩
  | 115 => ⟨S1x3584x1024, .f32⟩
  | 116 => ⟨S3584x1024, .f32⟩
  | 117 => ⟨S36864x3584, .f32⟩
  | 118 => ⟨S36864x3584, .f32⟩
  | 119 => ⟨S36864x3584, .f32⟩
  | 120 => ⟨S_, .f32⟩
  | 121 => ⟨S36864x3584, .f32⟩
  | 122 => ⟨S36864x3584, .f32⟩
  | 123 => ⟨S_, .f32⟩
  | 124 => ⟨S36864x3584, .f32⟩
  | 125 => ⟨S36864x3584, .f32⟩
  | 126 => ⟨S36864x3584, .f32⟩
  | 127 => ⟨S36864x3584, .f32⟩
  | _ => ⟨S36864x1024, .f32⟩

abbrev hbmTy0_1 (i : Nat) : BufTy := match i % 128 with
  | 0 => ⟨S36864x3584, .f32⟩
  | 1 => ⟨S36864x1024, .f32⟩
  | 2 => ⟨S_, .f32⟩
  | 3 => ⟨S_, .f32⟩
  | 4 => ⟨S36864x1024, .i1⟩
  | 5 => ⟨S36864x1024, .f32⟩
  | 6 => ⟨S36864x1024, .f32⟩
  | 7 => ⟨S36864x1024, .f32⟩
  | 8 => ⟨S_, .i32⟩
  | 9 => ⟨S36864, .i32⟩
  | 10 => ⟨S36864, .i1⟩
  | 11 => ⟨S36864, .i1⟩
  | 12 => ⟨S36864x1, .i1⟩
  | 13 => ⟨S1x1024x3584, .f32⟩
  | 14 => ⟨S1024x3584, .f32⟩
  | 15 => ⟨S1x1024x3584, .f32⟩
  | 16 => ⟨S1024x3584, .f32⟩
  | 17 => ⟨S1x3584x1024, .f32⟩
  | 18 => ⟨S3584x1024, .f32⟩
  | 19 => ⟨S36864x3584, .f32⟩
  | 20 => ⟨S36864x3584, .f32⟩
  | 21 => ⟨S36864x3584, .f32⟩
  | 22 => ⟨S_, .f32⟩
  | 23 => ⟨S36864x3584, .f32⟩
  | 24 => ⟨S36864x3584, .f32⟩
  | 25 => ⟨S_, .f32⟩
  | 26 => ⟨S36864x3584, .f32⟩
  | 27 => ⟨S36864x3584, .f32⟩
  | 28 => ⟨S36864x3584, .f32⟩
  | 29 => ⟨S36864x3584, .f32⟩
  | 30 => ⟨S36864x3584, .f32⟩
  | 31 => ⟨S36864x1024, .f32⟩
  | 32 => ⟨S_, .f32⟩
  | 33 => ⟨S_, .f32⟩
  | 34 => ⟨S36864x1024, .i1⟩
  | 35 => ⟨S36864x1024, .f32⟩
  | 36 => ⟨S36864x1024, .f32⟩
  | 37 => ⟨S36864x1024, .f32⟩
  | 38 => ⟨S_, .i32⟩
  | 39 => ⟨S36864, .i32⟩
  | 40 => ⟨S36864, .i1⟩
  | 41 => ⟨S36864, .i1⟩
  | 42 => ⟨S36864x1, .i1⟩
  | 43 => ⟨S1x1024x3584, .f32⟩
  | 44 => ⟨S1024x3584, .f32⟩
  | 45 => ⟨S1x1024x3584, .f32⟩
  | 46 => ⟨S1024x3584, .f32⟩
  | 47 => ⟨S1x3584x1024, .f32⟩
  | 48 => ⟨S3584x1024, .f32⟩
  | 49 => ⟨S36864x3584, .f32⟩
  | 50 => ⟨S36864x3584, .f32⟩
  | 51 => ⟨S36864x3584, .f32⟩
  | 52 => ⟨S_, .f32⟩
  | 53 => ⟨S36864x3584, .f32⟩
  | 54 => ⟨S36864x3584, .f32⟩
  | 55 => ⟨S_, .f32⟩
  | 56 => ⟨S36864x3584, .f32⟩
  | 57 => ⟨S36864x3584, .f32⟩
  | 58 => ⟨S36864x3584, .f32⟩
  | 59 => ⟨S36864x3584, .f32⟩
  | 60 => ⟨S36864x3584, .f32⟩
  | 61 => ⟨S36864x1024, .f32⟩
  | 62 => ⟨S_, .f32⟩
  | 63 => ⟨S_, .f32⟩
  | 64 => ⟨S36864x1024, .i1⟩
  | 65 => ⟨S36864x1024, .f32⟩
  | 66 => ⟨S36864x1024, .f32⟩
  | 67 => ⟨S36864x1024, .f32⟩
  | 68 => ⟨S_, .i32⟩
  | 69 => ⟨S36864, .i32⟩
  | 70 => ⟨S36864, .i1⟩
  | 71 => ⟨S36864, .i1⟩
  | 72 => ⟨S36864x1, .i1⟩
  | 73 => ⟨S1x1024x3584, .f32⟩
  | 74 => ⟨S1024x3584, .f32⟩
  | 75 => ⟨S1x1024x3584, .f32⟩
  | 76 => ⟨S1024x3584, .f32⟩
  | 77 => ⟨S1x3584x1024, .f32⟩
  | 78 => ⟨S3584x1024, .f32⟩
  | 79 => ⟨S36864x3584, .f32⟩
  | 80 => ⟨S36864x3584, .f32⟩
  | 81 => ⟨S36864x3584, .f32⟩
  | 82 => ⟨S_, .f32⟩
  | 83 => ⟨S36864x3584, .f32⟩
  | 84 => ⟨S36864x3584, .f32⟩
  | 85 => ⟨S_, .f32⟩
  | 86 => ⟨S36864x3584, .f32⟩
  | 87 => ⟨S36864x3584, .f32⟩
  | 88 => ⟨S36864x3584, .f32⟩
  | 89 => ⟨S36864x3584, .f32⟩
  | 90 => ⟨S36864x3584, .f32⟩
  | 91 => ⟨S36864x1024, .f32⟩
  | 92 => ⟨S_, .f32⟩
  | 93 => ⟨S_, .f32⟩
  | 94 => ⟨S36864x1024, .i1⟩
  | 95 => ⟨S36864x1024, .f32⟩
  | 96 => ⟨S36864x1024, .f32⟩
  | 97 => ⟨S36864x1024, .f32⟩
  | 98 => ⟨S_, .i32⟩
  | 99 => ⟨S36864, .i32⟩
  | 100 => ⟨S36864, .i1⟩
  | 101 => ⟨S36864, .i1⟩
  | 102 => ⟨S36864x1, .i1⟩
  | 103 => ⟨S1x1024x3584, .f32⟩
  | 104 => ⟨S1024x3584, .f32⟩
  | 105 => ⟨S1x1024x3584, .f32⟩
  | 106 => ⟨S1024x3584, .f32⟩
  | 107 => ⟨S1x3584x1024, .f32⟩
  | 108 => ⟨S3584x1024, .f32⟩
  | 109 => ⟨S36864x3584, .f32⟩
  | 110 => ⟨S36864x3584, .f32⟩
  | 111 => ⟨S36864x3584, .f32⟩
  | 112 => ⟨S_, .f32⟩
  | 113 => ⟨S36864x3584, .f32⟩
  | 114 => ⟨S36864x3584, .f32⟩
  | 115 => ⟨S_, .f32⟩
  | 116 => ⟨S36864x3584, .f32⟩
  | 117 => ⟨S36864x3584, .f32⟩
  | 118 => ⟨S36864x3584, .f32⟩
  | 119 => ⟨S36864x3584, .f32⟩
  | 120 => ⟨S36864x3584, .f32⟩
  | 121 => ⟨S36864x1024, .f32⟩
  | 122 => ⟨S_, .f32⟩
  | 123 => ⟨S_, .f32⟩
  | 124 => ⟨S36864x1024, .i1⟩
  | 125 => ⟨S36864x1024, .f32⟩
  | 126 => ⟨S36864x1024, .f32⟩
  | 127 => ⟨S36864x1024, .f32⟩
  | _ => ⟨S36864x1024, .f32⟩

abbrev hbmTy (i : Nat) : BufTy := match i / 128 with
  | 0 => hbmTy0_0 i
  | 1 => hbmTy0_1 i
  | _ => ⟨S36864x1024, .f32⟩

abbrev bufTy : (tb : Table) → Fin (tcTables nBuf tb) → BufTy
  | .hbm, ⟨i, _⟩ => hbmTy i
  | _, _ => ⟨S36864x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_1 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v23 : Ref sig .tc := ⟨.hbm, 44, rfl⟩
abbrev main_v24 : Ref sig .tc := ⟨.hbm, 45, rfl⟩
abbrev main_c_2 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_call2_v0 : Ref sig .tc := ⟨.hbm, 58, rfl⟩
abbrev main_call2_v1 : Ref sig .tc := ⟨.hbm, 59, rfl⟩
abbrev main_call2_cst : Ref sig .tc := ⟨.hbm, 60, rfl⟩
abbrev main_call2_v2 : Ref sig .tc := ⟨.hbm, 61, rfl⟩
abbrev main_call2_v3 : Ref sig .tc := ⟨.hbm, 62, rfl⟩
abbrev main_call2_cst_0 : Ref sig .tc := ⟨.hbm, 63, rfl⟩
abbrev main_call2_v4 : Ref sig .tc := ⟨.hbm, 64, rfl⟩
abbrev main_call2_v5 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_3 : Ref sig .tc := ⟨.hbm, 70, rfl⟩
abbrev main_call3_v0 : Ref sig .tc := ⟨.hbm, 71, rfl⟩
abbrev main_call3_v1 : Ref sig .tc := ⟨.hbm, 72, rfl⟩
abbrev main_call3_v2 : Ref sig .tc := ⟨.hbm, 73, rfl⟩
abbrev main_v40 : Ref sig .tc := ⟨.hbm, 74, rfl⟩
abbrev main_v41 : Ref sig .tc := ⟨.hbm, 75, rfl⟩
abbrev main_c_4 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_call4_v0 : Ref sig .tc := ⟨.hbm, 88, rfl⟩
abbrev main_call4_v1 : Ref sig .tc := ⟨.hbm, 89, rfl⟩
abbrev main_call4_cst : Ref sig .tc := ⟨.hbm, 90, rfl⟩
abbrev main_call4_v2 : Ref sig .tc := ⟨.hbm, 91, rfl⟩
abbrev main_call4_v3 : Ref sig .tc := ⟨.hbm, 92, rfl⟩
abbrev main_call4_cst_0 : Ref sig .tc := ⟨.hbm, 93, rfl⟩
abbrev main_call4_v4 : Ref sig .tc := ⟨.hbm, 94, rfl⟩
abbrev main_call4_v5 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_cst_5 : Ref sig .tc := ⟨.hbm, 100, rfl⟩
abbrev main_call5_v0 : Ref sig .tc := ⟨.hbm, 101, rfl⟩
abbrev main_call5_v1 : Ref sig .tc := ⟨.hbm, 102, rfl⟩
abbrev main_call5_v2 : Ref sig .tc := ⟨.hbm, 103, rfl⟩
abbrev main_v57 : Ref sig .tc := ⟨.hbm, 104, rfl⟩
abbrev main_v58 : Ref sig .tc := ⟨.hbm, 105, rfl⟩
abbrev main_c_6 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_call6_v0 : Ref sig .tc := ⟨.hbm, 118, rfl⟩
abbrev main_call6_v1 : Ref sig .tc := ⟨.hbm, 119, rfl⟩
abbrev main_call6_cst : Ref sig .tc := ⟨.hbm, 120, rfl⟩
abbrev main_call6_v2 : Ref sig .tc := ⟨.hbm, 121, rfl⟩
abbrev main_call6_v3 : Ref sig .tc := ⟨.hbm, 122, rfl⟩
abbrev main_call6_cst_0 : Ref sig .tc := ⟨.hbm, 123, rfl⟩
abbrev main_call6_v4 : Ref sig .tc := ⟨.hbm, 124, rfl⟩
abbrev main_call6_v5 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_cst_7 : Ref sig .tc := ⟨.hbm, 130, rfl⟩
abbrev main_call7_v0 : Ref sig .tc := ⟨.hbm, 131, rfl⟩
abbrev main_call7_v1 : Ref sig .tc := ⟨.hbm, 132, rfl⟩
abbrev main_call7_v2 : Ref sig .tc := ⟨.hbm, 133, rfl⟩
abbrev main_v74 : Ref sig .tc := ⟨.hbm, 134, rfl⟩
abbrev main_v75 : Ref sig .tc := ⟨.hbm, 135, rfl⟩
abbrev main_c_8 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_call8_v0 : Ref sig .tc := ⟨.hbm, 148, rfl⟩
abbrev main_call8_v1 : Ref sig .tc := ⟨.hbm, 149, rfl⟩
abbrev main_call8_cst : Ref sig .tc := ⟨.hbm, 150, rfl⟩
abbrev main_call8_v2 : Ref sig .tc := ⟨.hbm, 151, rfl⟩
abbrev main_call8_v3 : Ref sig .tc := ⟨.hbm, 152, rfl⟩
abbrev main_call8_cst_0 : Ref sig .tc := ⟨.hbm, 153, rfl⟩
abbrev main_call8_v4 : Ref sig .tc := ⟨.hbm, 154, rfl⟩
abbrev main_call8_v5 : Ref sig .tc := ⟨.hbm, 155, rfl⟩
abbrev main_v87 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_cst_9 : Ref sig .tc := ⟨.hbm, 160, rfl⟩
abbrev main_call9_v0 : Ref sig .tc := ⟨.hbm, 161, rfl⟩
abbrev main_call9_v1 : Ref sig .tc := ⟨.hbm, 162, rfl⟩
abbrev main_call9_v2 : Ref sig .tc := ⟨.hbm, 163, rfl⟩
abbrev main_v91 : Ref sig .tc := ⟨.hbm, 164, rfl⟩
abbrev main_v92 : Ref sig .tc := ⟨.hbm, 165, rfl⟩
abbrev main_c_10 : Ref sig .tc := ⟨.hbm, 166, rfl⟩
abbrev main_v93 : Ref sig .tc := ⟨.hbm, 167, rfl⟩
abbrev main_v94 : Ref sig .tc := ⟨.hbm, 168, rfl⟩
abbrev main_v95 : Ref sig .tc := ⟨.hbm, 169, rfl⟩
abbrev main_v96 : Ref sig .tc := ⟨.hbm, 170, rfl⟩
abbrev main_v97 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_v101 : Ref sig .tc := ⟨.hbm, 175, rfl⟩
abbrev main_v102 : Ref sig .tc := ⟨.hbm, 176, rfl⟩
abbrev main_v103 : Ref sig .tc := ⟨.hbm, 177, rfl⟩
abbrev main_call10_v0 : Ref sig .tc := ⟨.hbm, 178, rfl⟩
abbrev main_call10_v1 : Ref sig .tc := ⟨.hbm, 179, rfl⟩
abbrev main_call10_cst : Ref sig .tc := ⟨.hbm, 180, rfl⟩
abbrev main_call10_v2 : Ref sig .tc := ⟨.hbm, 181, rfl⟩
abbrev main_call10_v3 : Ref sig .tc := ⟨.hbm, 182, rfl⟩
abbrev main_call10_cst_0 : Ref sig .tc := ⟨.hbm, 183, rfl⟩
abbrev main_call10_v4 : Ref sig .tc := ⟨.hbm, 184, rfl⟩
abbrev main_call10_v5 : Ref sig .tc := ⟨.hbm, 185, rfl⟩
abbrev main_v104 : Ref sig .tc := ⟨.hbm, 186, rfl⟩
abbrev main_v105 : Ref sig .tc := ⟨.hbm, 187, rfl⟩
abbrev main_v106 : Ref sig .tc := ⟨.hbm, 188, rfl⟩
abbrev main_v107 : Ref sig .tc := ⟨.hbm, 189, rfl⟩
abbrev main_cst_11 : Ref sig .tc := ⟨.hbm, 190, rfl⟩
abbrev main_call11_v0 : Ref sig .tc := ⟨.hbm, 191, rfl⟩
abbrev main_call11_v1 : Ref sig .tc := ⟨.hbm, 192, rfl⟩
abbrev main_call11_v2 : Ref sig .tc := ⟨.hbm, 193, rfl⟩
abbrev main_v108 : Ref sig .tc := ⟨.hbm, 194, rfl⟩
abbrev main_v109 : Ref sig .tc := ⟨.hbm, 195, rfl⟩
abbrev main_c_12 : Ref sig .tc := ⟨.hbm, 196, rfl⟩
abbrev main_v110 : Ref sig .tc := ⟨.hbm, 197, rfl⟩
abbrev main_v111 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_v115 : Ref sig .tc := ⟨.hbm, 202, rfl⟩
abbrev main_v116 : Ref sig .tc := ⟨.hbm, 203, rfl⟩
abbrev main_v117 : Ref sig .tc := ⟨.hbm, 204, rfl⟩
abbrev main_v118 : Ref sig .tc := ⟨.hbm, 205, rfl⟩
abbrev main_v119 : Ref sig .tc := ⟨.hbm, 206, rfl⟩
abbrev main_v120 : Ref sig .tc := ⟨.hbm, 207, rfl⟩
abbrev main_call12_v0 : Ref sig .tc := ⟨.hbm, 208, rfl⟩
abbrev main_call12_v1 : Ref sig .tc := ⟨.hbm, 209, rfl⟩
abbrev main_call12_cst : Ref sig .tc := ⟨.hbm, 210, rfl⟩
abbrev main_call12_v2 : Ref sig .tc := ⟨.hbm, 211, rfl⟩
abbrev main_call12_v3 : Ref sig .tc := ⟨.hbm, 212, rfl⟩
abbrev main_call12_cst_0 : Ref sig .tc := ⟨.hbm, 213, rfl⟩
abbrev main_call12_v4 : Ref sig .tc := ⟨.hbm, 214, rfl⟩
abbrev main_call12_v5 : Ref sig .tc := ⟨.hbm, 215, rfl⟩
abbrev main_v121 : Ref sig .tc := ⟨.hbm, 216, rfl⟩
abbrev main_v122 : Ref sig .tc := ⟨.hbm, 217, rfl⟩
abbrev main_v123 : Ref sig .tc := ⟨.hbm, 218, rfl⟩
abbrev main_v124 : Ref sig .tc := ⟨.hbm, 219, rfl⟩
abbrev main_cst_13 : Ref sig .tc := ⟨.hbm, 220, rfl⟩
abbrev main_call13_v0 : Ref sig .tc := ⟨.hbm, 221, rfl⟩
abbrev main_call13_v1 : Ref sig .tc := ⟨.hbm, 222, rfl⟩
abbrev main_call13_v2 : Ref sig .tc := ⟨.hbm, 223, rfl⟩
abbrev main_v125 : Ref sig .tc := ⟨.hbm, 224, rfl⟩
abbrev main_v126 : Ref sig .tc := ⟨.hbm, 225, rfl⟩
abbrev main_c_14 : Ref sig .tc := ⟨.hbm, 226, rfl⟩
abbrev main_v127 : Ref sig .tc := ⟨.hbm, 227, rfl⟩
abbrev main_v128 : Ref sig .tc := ⟨.hbm, 228, rfl⟩
abbrev main_v129 : Ref sig .tc := ⟨.hbm, 229, rfl⟩
abbrev main_v130 : Ref sig .tc := ⟨.hbm, 230, rfl⟩
abbrev main_v131 : Ref sig .tc := ⟨.hbm, 231, rfl⟩
abbrev main_v132 : Ref sig .tc := ⟨.hbm, 232, rfl⟩
abbrev main_v133 : Ref sig .tc := ⟨.hbm, 233, rfl⟩
abbrev main_v134 : Ref sig .tc := ⟨.hbm, 234, rfl⟩
abbrev main_v135 : Ref sig .tc := ⟨.hbm, 235, rfl⟩
abbrev main_v136 : Ref sig .tc := ⟨.hbm, 236, rfl⟩
abbrev main_v137 : Ref sig .tc := ⟨.hbm, 237, rfl⟩
abbrev main_call14_v0 : Ref sig .tc := ⟨.hbm, 238, rfl⟩
abbrev main_call14_v1 : Ref sig .tc := ⟨.hbm, 239, rfl⟩
abbrev main_call14_cst : Ref sig .tc := ⟨.hbm, 240, rfl⟩
abbrev main_call14_v2 : Ref sig .tc := ⟨.hbm, 241, rfl⟩
abbrev main_call14_v3 : Ref sig .tc := ⟨.hbm, 242, rfl⟩
abbrev main_call14_cst_0 : Ref sig .tc := ⟨.hbm, 243, rfl⟩
abbrev main_call14_v4 : Ref sig .tc := ⟨.hbm, 244, rfl⟩
abbrev main_call14_v5 : Ref sig .tc := ⟨.hbm, 245, rfl⟩
abbrev main_v138 : Ref sig .tc := ⟨.hbm, 246, rfl⟩
abbrev main_v139 : Ref sig .tc := ⟨.hbm, 247, rfl⟩
abbrev main_v140 : Ref sig .tc := ⟨.hbm, 248, rfl⟩
abbrev main_v141 : Ref sig .tc := ⟨.hbm, 249, rfl⟩
abbrev main_cst_15 : Ref sig .tc := ⟨.hbm, 250, rfl⟩
abbrev main_call15_v0 : Ref sig .tc := ⟨.hbm, 251, rfl⟩
abbrev main_call15_v1 : Ref sig .tc := ⟨.hbm, 252, rfl⟩
abbrev main_call15_v2 : Ref sig .tc := ⟨.hbm, 253, rfl⟩
abbrev main_v142 : Ref sig .tc := ⟨.hbm, 254, rfl⟩
abbrev main_v143 : Ref sig .tc := ⟨.hbm, 255, rfl⟩

abbrev nD : Nat := 1
abbrev τ : Topo := Topo.v7x

variable {F : FTy → Type} [FloatOps F]
-- ==== Kernel4.lean ====
abbrev S16384x1024 : Shape := ⟨2, ![16384, 1024]⟩
abbrev S1024 : Shape := ⟨1, ![1024]⟩
abbrev S1024x8968 : Shape := ⟨2, ![1024, 8968]⟩
abbrev S1024x512 : Shape := ⟨2, ![1024, 512]⟩
abbrev S1024x768 : Shape := ⟨2, ![1024, 768]⟩
abbrev S1024x8 : Shape := ⟨2, ![1024, 8]⟩
abbrev S_ : Shape := ⟨0, ![]⟩
abbrev S1024x128 : Shape := ⟨2, ![1024, 128]⟩
abbrev S1024x4096 : Shape := ⟨2, ![1024, 4096]⟩
abbrev S1024x4992 : Shape := ⟨2, ![1024, 4992]⟩
abbrev S1x1024 : Shape := ⟨2, ![1, 1024]⟩
abbrev S4x1024x2048 : Shape := ⟨3, ![4, 1024, 2048]⟩
abbrev S16384x512 : Shape := ⟨2, ![16384, 512]⟩
abbrev S16384x768 : Shape := ⟨2, ![16384, 768]⟩
abbrev S16384x128 : Shape := ⟨2, ![16384, 128]⟩
abbrev S512x1024 : Shape := ⟨2, ![512, 1024]⟩
abbrev S4x32x2048 : Shape := ⟨3, ![4, 32, 2048]⟩
abbrev S512x512 : Shape := ⟨2, ![512, 512]⟩
abbrev S512x768 : Shape := ⟨2, ![512, 768]⟩
abbrev S512x128 : Shape := ⟨2, ![512, 128]⟩
abbrev S4x512x128 : Shape := ⟨3, ![4, 512, 128]⟩
abbrev S512 : Shape := ⟨1, ![512]⟩
abbrev S512x1 : Shape := ⟨2, ![512, 1]⟩
abbrev S1x512x128 : Shape := ⟨3, ![1, 512, 128]⟩
abbrev S1x32x128 : Shape := ⟨3, ![1, 32, 128]⟩
abbrev S32x128 : Shape := ⟨2, ![32, 128]⟩
abbrev S1024x256 : Shape := ⟨2, ![1024, 256]⟩
abbrev S512x256 : Shape := ⟨2, ![512, 256]⟩

abbrev nBuf : Space → Nat
  | .hbm => 34
  | .vmem => 25
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8968, .f32⟩
  | .hbm, ⟨3, _⟩ => ⟨S1024x512, .f32⟩
  | .hbm, ⟨4, _⟩ => ⟨S1024x512, .f32⟩
  | .hbm, ⟨5, _⟩ => ⟨S1024x768, .f32⟩
  | .hbm, ⟨6, _⟩ => ⟨S1024x8, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S1024x512, .f32⟩
  | .hbm, ⟨16, _⟩ => ⟨S1024x4096, .f32⟩
  | .hbm, ⟨17, _⟩ => ⟨S_, .f32⟩
  | .hbm, ⟨18, _⟩ => ⟨S1024x4096, .f32⟩
  | .hbm, ⟨19, _⟩ => ⟨S1024x4096, .f32⟩
  | .hbm, ⟨20, _⟩ => ⟨S1024x4096, .bf16⟩
  | .hbm, ⟨21, _⟩ => ⟨S1024x4992, .f32⟩
  | .hbm, ⟨22, _⟩ => ⟨S1024x4992, .bf16⟩
  | .hbm, ⟨23, _⟩ => ⟨S1x1024, .f32⟩
  | .hbm, ⟨24, _⟩ => ⟨S4x1024x2048, .bf16⟩
  | .hbm, ⟨25, _⟩ => ⟨S16384x512, .bf16⟩
  | .hbm, ⟨26, _⟩ => ⟨S16384x768, .bf16⟩
  | .hbm, ⟨27, _⟩ => ⟨S16384x128, .bf16⟩
  | .hbm, ⟨28, _⟩ => ⟨S16384x512, .bf16⟩
  | .hbm, ⟨29, _⟩ => ⟨S16384x512, .bf16⟩
  | .hbm, ⟨30, _⟩ => ⟨S16384x512, .bf16⟩
  | .hbm, ⟨31, _⟩ => ⟨S16384x512, .bf16⟩
  | .hbm, ⟨32, _⟩ => ⟨S16384x512, .bf16⟩
  | .hbm, ⟨33, _⟩ => ⟨S16384x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4992, .bf16⟩
  | .local _ .vmem, ⟨4, _⟩ => ⟨S4x32x2048, .bf16⟩
  | .local _ .vmem, ⟨5, _⟩ => ⟨S4x32x2048, .bf16⟩
  | .local _ .vmem, ⟨6, _⟩ => ⟨S512x512, .bf16⟩
  | .local _ .vmem, ⟨7, _⟩ => ⟨S512x512, .bf16⟩
  | .local _ .vmem, ⟨8, _⟩ => ⟨S512x768, .bf16⟩
  | .local _ .vmem, ⟨9, _⟩ => ⟨S512x768, .bf16⟩
  | .local _ .vmem, ⟨10, _⟩ => ⟨S512x128, .bf16⟩
  | .local _ .vmem, ⟨11, _⟩ => ⟨S512x128, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S4x512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18_0 : Ref sig .tc := ⟨.hbm, 24, rfl⟩
abbrev main_v18_1 : Ref sig .tc := ⟨.hbm, 25, rfl⟩
abbrev main_v18_2 : Ref sig .tc := ⟨.hbm, 26, rfl⟩
abbrev main_v18_3 : Ref sig .tc := ⟨.hbm, 27, rfl⟩
abbrev main_v18_4 : Ref sig .tc := ⟨.hbm, 28, rfl⟩
abbrev main_v18_5 : Ref sig .tc := ⟨.hbm, 29, rfl⟩
abbrev main_v18_6 : Ref sig .tc := ⟨.hbm, 30, rfl⟩
abbrev main_v18_7 : Ref sig .tc := ⟨.hbm, 31, rfl⟩
abbrev main_v18_8 : Ref sig .tc := ⟨.hbm, 32, rfl⟩
abbrev main_v18_9 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4992 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x32x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S16384x1024 : Shape := ⟨2, ![16384, 1024]⟩
abbrev S1024 : Shape := ⟨1, ![1024]⟩
abbrev S1024x8968 : Shape := ⟨2, ![1024, 8968]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x8968 : Shape := ⟨2, ![16384, 8968]⟩
abbrev S16384x512 : Shape := ⟨2, ![16384, 512]⟩
abbrev S16384x768 : Shape := ⟨2, ![16384, 768]⟩
abbrev S16384x8 : Shape := ⟨2, ![16384, 8]⟩
abbrev S16384x4096 : Shape := ⟨2, ![16384, 4096]⟩
abbrev S1024x16x4x128 : Shape := ⟨4, ![1024, 16, 4, 128]⟩
abbrev S4x1024x16x128 : Shape := ⟨4, ![4, 1024, 16, 128]⟩
abbrev S4x1024x2048 : Shape := ⟨3, ![4, 1024, 2048]⟩
abbrev S16384x128 : Shape := ⟨2, ![16384, 128]⟩

abbrev nBuf : Space → Nat
  | .hbm => 47
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8968, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x8968, .f32⟩
  | .hbm, ⟨20, _⟩ => ⟨S16384x512, .f32⟩
  | .hbm, ⟨21, _⟩ => ⟨S16384x512, .f32⟩
  | .hbm, ⟨22, _⟩ => ⟨S16384x768, .f32⟩
  | .hbm, ⟨23, _⟩ => ⟨S16384x8, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S16384x512, .f32⟩
  | .hbm, ⟨29, _⟩ => ⟨S16384x512, .f32⟩
  | .hbm, ⟨30, _⟩ => ⟨S16384x4096, .f32⟩
  | .hbm, ⟨31, _⟩ => ⟨S1024x16x4x128, .f32⟩
  | .hbm, ⟨32, _⟩ => ⟨S4x1024x16x128, .f32⟩
  | .hbm, ⟨33, _⟩ => ⟨S4x1024x2048, .f32⟩
  | .hbm, ⟨34, _⟩ => ⟨S_, .i32⟩
  | .hbm, ⟨35, _⟩ => ⟨S_, .f32⟩
  | .hbm, ⟨36, _⟩ => ⟨S16384x128, .f32⟩
  | .hbm, ⟨37, _⟩ => ⟨S4x1024x2048, .bf16⟩
  | .hbm, ⟨38, _⟩ => ⟨S16384x512, .bf16⟩
  | .hbm, ⟨39, _⟩ => ⟨S16384x768, .bf16⟩
  | .hbm, ⟨40, _⟩ => ⟨S16384x128, .bf16⟩
  | .hbm, ⟨41, _⟩ => ⟨S16384x512, .bf16⟩
  | .hbm, ⟨42, _⟩ => ⟨S16384x512, .bf16⟩
  | .hbm, ⟨43, _⟩ => ⟨S16384x512, .bf16⟩
  | .hbm, ⟨44, _⟩ => ⟨S16384x512, .bf16⟩
  | .hbm, ⟨45, _⟩ => ⟨S16384x512, .bf16⟩
  | .hbm, ⟨46, _⟩ => ⟨S16384x512, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_c : Ref sig .tc := ⟨.hbm, 34, rfl⟩
abbrev main_call0_v0 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩

abbrev nD : Nat := 1
abbrev τ : Topo := Topo.v7x

variable {F : FTy → Type} [FloatOps F]
-- ==== Kernel5.lean ====
abbrev S16384x1024 : Shape := ⟨2, ![16384, 1024]⟩
abbrev S1024 : Shape := ⟨1, ![1024]⟩
abbrev S4x1024x2048 : Shape := ⟨3, ![4, 1024, 2048]⟩
abbrev S16384x512 : Shape := ⟨2, ![16384, 512]⟩
abbrev S1024x8968 : Shape := ⟨2, ![1024, 8968]⟩
abbrev S4096 : Shape := ⟨1, ![4096]⟩
abbrev S32x16 : Shape := ⟨2, ![32, 16]⟩
abbrev S512x512 : Shape := ⟨2, ![512, 512]⟩
abbrev S4x512x1024 : Shape := ⟨3, ![4, 512, 1024]⟩
abbrev S1024x1024 : Shape := ⟨2, ![1024, 1024]⟩
abbrev S1024x512 : Shape := ⟨2, ![1024, 512]⟩
abbrev S1024x768 : Shape := ⟨2, ![1024, 768]⟩
abbrev S1024x8 : Shape := ⟨2, ![1024, 8]⟩
abbrev S_ : Shape := ⟨0, ![]⟩
abbrev S1024x128 : Shape := ⟨2, ![1024, 128]⟩
abbrev S1024x4096 : Shape := ⟨2, ![1024, 4096]⟩
abbrev S1024x4992 : Shape := ⟨2, ![1024, 4992]⟩
abbrev S4x1x128 : Shape := ⟨3, ![4, 1, 128]⟩
abbrev S1x4x1x1x1x128 : Shape := ⟨6, ![1, 4, 1, 1, 1, 128]⟩
abbrev S1x4x1x1x16x128 : Shape := ⟨6, ![1, 4, 1, 1, 16, 128]⟩
abbrev S4x1x2048 : Shape := ⟨3, ![4, 1, 2048]⟩
abbrev S1x1024 : Shape := ⟨2, ![1, 1024]⟩
abbrev S1x4096 : Shape := ⟨2, ![1, 4096]⟩
abbrev S512x1024 : Shape := ⟨2, ![512, 1024]⟩
abbrev S4x32x2048 : Shape := ⟨3, ![4, 32, 2048]⟩
abbrev S4x512x128 : Shape := ⟨3, ![4, 512, 128]⟩
abbrev S1x32x2048 : Shape := ⟨3, ![1, 32, 2048]⟩
abbrev S32x2048 : Shape := ⟨2, ![32, 2048]⟩
abbrev S1x1x2048 : Shape := ⟨3, ![1, 1, 2048]⟩
abbrev S1x2048 : Shape := ⟨2, ![1, 2048]⟩
abbrev S32x128 : Shape := ⟨2, ![32, 128]⟩
abbrev S1x32x128 : Shape := ⟨3, ![1, 32, 128]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S1x512x1024 : Shape := ⟨3, ![1, 512, 1024]⟩

abbrev nBuf : Space → Nat
  | .hbm => 49
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S4x1024x2048, .bf16⟩
  | .hbm, ⟨3, _⟩ => ⟨S4x1024x2048, .bf16⟩
  | .hbm, ⟨4, _⟩ => ⟨S16384x512, .bf16⟩
  | .hbm, ⟨5, _⟩ => ⟨S16384x512, .bf16⟩
  | .hbm, ⟨6, _⟩ => ⟨S16384x512, .bf16⟩
  | .hbm, ⟨7, _⟩ => ⟨S1024x8968, .f32⟩
  | .hbm, ⟨8, _⟩ => ⟨S4096, .f32⟩
  | .hbm, ⟨9, _⟩ => ⟨S32x16, .f32⟩
  | .hbm, ⟨10, _⟩ => ⟨S512x512, .f32⟩
  | .hbm, ⟨11, _⟩ => ⟨S4x512x1024, .f32⟩
  | .hbm, ⟨12, _⟩ => ⟨S1024x1024, .f32⟩
  | .hbm, ⟨13, _⟩ => ⟨S1024x512, .f32⟩
  | .hbm, ⟨14, _⟩ => ⟨S1024x512, .f32⟩
  | .hbm, ⟨15, _⟩ => ⟨S1024x768, .f32⟩
  | .hbm, ⟨16, _⟩ => ⟨S1024x8, .f32⟩
  | .hbm, ⟨17, _⟩ => ⟨S_, .i32⟩
  | .hbm, ⟨18, _⟩ => ⟨S_, .f32⟩
  | .hbm, ⟨19, _⟩ => ⟨S1024x128, .f32⟩
  | .hbm, ⟨20, _⟩ => ⟨S1024x512, .f32⟩
  | .hbm, ⟨21, _⟩ => ⟨S1024x512, .f32⟩
  | .hbm, ⟨22, _⟩ => ⟨S1024x512, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S1024x4096, .f32⟩
  | .hbm, ⟨27, _⟩ => ⟨S_, .f32⟩
  | .hbm, ⟨28, _⟩ => ⟨S1024x4096, .f32⟩
  | .hbm, ⟨29, _⟩ => ⟨S1024x4096, .f32⟩
  | .hbm, ⟨30, _⟩ => ⟨S1024x4096, .bf16⟩
  | .hbm, ⟨31, _⟩ => ⟨S1024x4992, .f32⟩
  | .hbm, ⟨32, _⟩ => ⟨S1024x4992, .bf16⟩
  | .hbm, ⟨33, _⟩ => ⟨S4x1x128, .f32⟩
  | .hbm, ⟨34, _⟩ => ⟨S1x4x1x1x1x128, .f32⟩
  | .hbm, ⟨35, _⟩ => ⟨S1x4x1x1x16x128, .f32⟩
  | .hbm, ⟨36, _⟩ => ⟨S4x1x2048, .f32⟩
  | .hbm, ⟨37, _⟩ => ⟨S1x1024, .f32⟩
  | .hbm, ⟨38, _⟩ => ⟨S1x4096, .f32⟩
  | .hbm, ⟨39, _⟩ => ⟨S_, .f32⟩
  | .hbm, ⟨40, _⟩ => ⟨S1x4096, .f32⟩
  | .hbm, ⟨41, _⟩ => ⟨S1x4096, .f32⟩
  | .hbm, ⟨42, _⟩ => ⟨S512x512, .bf16⟩
  | .hbm, ⟨43, _⟩ => ⟨S4x512x1024, .bf16⟩
  | .hbm, ⟨44, _⟩ => ⟨S_, .f32⟩
  | .hbm, ⟨45, _⟩ => ⟨S1024x1024, .f32⟩
  | .hbm, ⟨46, _⟩ => ⟨S1024x1024, .f32⟩
  | .hbm, ⟨47, _⟩ => ⟨S1024x1024, .bf16⟩
  | .hbm, ⟨48, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x32x2048, .bf16⟩
  | .local _ .vmem, ⟨4, _⟩ => ⟨S4x32x2048, .bf16⟩
  | .local _ .vmem, ⟨5, _⟩ => ⟨S4x32x2048, .bf16⟩
  | .local _ .vmem, ⟨6, _⟩ => ⟨S4x32x2048, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S1024x4096, .bf16⟩
  | .local _ .vmem, ⟨14, _⟩ => ⟨S1x4096, .f32⟩
  | .local _ .vmem, ⟨15, _⟩ => ⟨S4x1x2048, .f32⟩
  | .local _ .vmem, ⟨16, _⟩ => ⟨S512x512, .bf16⟩
  | .local _ .vmem, ⟨17, _⟩ => ⟨S4x512x1024, .bf16⟩
  | .local _ .vmem, ⟨18, _⟩ => ⟨S1024x1024, .bf16⟩
  | .local _ .vmem, ⟨19, _⟩ => ⟨S512x1024, .f32⟩
  | .local _ .vmem, ⟨20, _⟩ => ⟨S512x1024, .f32⟩
  | .local _ .vmem, ⟨21, _⟩ => ⟨S4x512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_call0_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_1 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x32x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x32x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference5Ideal.lean ====
abbrev S16384x1024 : Shape := ⟨2, ![16384, 1024]⟩
abbrev S1024 : Shape := ⟨1, ![1024]⟩
abbrev S4x1024x2048 : Shape := ⟨3, ![4, 1024, 2048]⟩
abbrev S16384x512 : Shape := ⟨2, ![16384, 512]⟩
abbrev S1024x8968 : Shape := ⟨2, ![1024, 8968]⟩
abbrev S4096 : Shape := ⟨1, ![4096]⟩
abbrev S32x16 : Shape := ⟨2, ![32, 16]⟩
abbrev S512x512 : Shape := ⟨2, ![512, 512]⟩
abbrev S4x512x1024 : Shape := ⟨3, ![4, 512, 1024]⟩
abbrev S1024x1024 : Shape := ⟨2, ![1024, 1024]⟩
abbrev S4x1024x16x128 : Shape := ⟨4, ![4, 1024, 16, 128]⟩
abbrev S1024x16x4x128 : Shape := ⟨4, ![1024, 16, 4, 128]⟩
abbrev S512 : Shape := ⟨1, ![512]⟩
abbrev S1x512 : Shape := ⟨2, ![1, 512]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x8968 : Shape := ⟨2, ![16384, 8968]⟩
abbrev S16384x4096 : Shape := ⟨2, ![16384, 4096]⟩
abbrev S1x4096 : Shape := ⟨2, ![1, 4096]⟩
abbrev S16384x4x1024 : Shape := ⟨3, ![16384, 4, 1024]⟩
abbrev S16384x1x1024 : Shape := ⟨3, ![16384, 1, 1024]⟩
abbrev S1x512x1024 : Shape := ⟨3, ![1, 512, 1024]⟩
abbrev S512x1024 : Shape := ⟨2, ![512, 1024]⟩

abbrev nBuf : Space → Nat
  | .hbm => 115
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S4x1024x2048, .bf16⟩
  | .hbm, ⟨3, _⟩ => ⟨S4x1024x2048, .bf16⟩
  | .hbm, ⟨4, _⟩ => ⟨S16384x512, .bf16⟩
  | .hbm, ⟨5, _⟩ => ⟨S16384x512, .bf16⟩
  | .hbm, ⟨6, _⟩ => ⟨S16384x512, .bf16⟩
  | .hbm, ⟨7, _⟩ => ⟨S1024x8968, .f32⟩
  | .hbm, ⟨8, _⟩ => ⟨S4096, .f32⟩
  | .hbm, ⟨9, _⟩ => ⟨S32x16, .f32⟩
  | .hbm, ⟨10, _⟩ => ⟨S512x512, .f32⟩
  | .hbm, ⟨11, _⟩ => ⟨S4x512x1024, .f32⟩
  | .hbm, ⟨12, _⟩ => ⟨S1024x1024, .f32⟩
  | .hbm, ⟨13, _⟩ => ⟨S4x1024x2048, .f32⟩
  | .hbm, ⟨14, _⟩ => ⟨S4x1024x16x128, .f32⟩
  | .hbm, ⟨15, _⟩ => ⟨S1024x16x4x128, .f32⟩
  | .hbm, ⟨16, _⟩ => ⟨S16384x512, .f32⟩
  | .hbm, ⟨17, _⟩ => ⟨S4x1024x2048, .f32⟩
  | .hbm, ⟨18, _⟩ => ⟨S4x1024x16x128, .f32⟩
  | .hbm, ⟨19, _⟩ => ⟨S1024x16x4x128, .f32⟩
  | .hbm, ⟨20, _⟩ => ⟨S16384x512, .f32⟩
  | .hbm, ⟨21, _⟩ => ⟨S512, .f32⟩
  | .hbm, ⟨22, _⟩ => ⟨S1x512, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S_, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S_, .f32⟩
  | .hbm, ⟨33, _⟩ => ⟨S16384x512, .f32⟩
  | .hbm, ⟨34, _⟩ => ⟨S16384x512, .f32⟩
  | .hbm, ⟨35, _⟩ => ⟨S16384x512, .f32⟩
  | .hbm, ⟨36, _⟩ => ⟨S_, .f32⟩
  | .hbm, ⟨37, _⟩ => ⟨S16384x512, .f32⟩
  | .hbm, ⟨38, _⟩ => ⟨S16384x512, .f32⟩
  | .hbm, ⟨39, _⟩ => ⟨S_, .f32⟩
  | .hbm, ⟨40, _⟩ => ⟨S16384x512, .f32⟩
  | .hbm, ⟨41, _⟩ => ⟨S16384x512, .f32⟩
  | .hbm, ⟨42, _⟩ => ⟨S16384x512, .f32⟩
  | .hbm, ⟨43, _⟩ => ⟨S16384x512, .f32⟩
  | .hbm, ⟨44, _⟩ => ⟨S16384x512, .f32⟩
  | .hbm, ⟨45, _⟩ => ⟨S16384x512, .f32⟩
  | .hbm, ⟨46, _⟩ => ⟨S_, .f32⟩
  | .hbm, ⟨47, _⟩ => ⟨S16384x512, .f32⟩
  | .hbm, ⟨48, _⟩ => ⟨S16384x512, .f32⟩
  | .hbm, ⟨49, _⟩ => ⟨S_, .f32⟩
  | .hbm, ⟨50, _⟩ => ⟨S16384x512, .f32⟩
  | .hbm, ⟨51, _⟩ => ⟨S16384x512, .f32⟩
  | .hbm, ⟨52, _⟩ => ⟨S16384x512, .f32⟩
  | .hbm, ⟨53, _⟩ => ⟨S16384x512, .f32⟩
  | .hbm, ⟨54, _⟩ => ⟨S16384x512, .f32⟩
  | .hbm, ⟨55, _⟩ => ⟨S16384x512, .f32⟩
  | .hbm, ⟨56, _⟩ => ⟨S16384x1024, .f32⟩
  | .hbm, ⟨57, _⟩ => ⟨S_, .f32⟩
  | .hbm, ⟨58, _⟩ => ⟨S16384, .f32⟩
  | .hbm, ⟨59, _⟩ => ⟨S16384x1, .f32⟩
  | .hbm, ⟨60, _⟩ => ⟨S_, .f32⟩
  | .hbm, ⟨61, _⟩ => ⟨S16384x1, .f32⟩
  | .hbm, ⟨62, _⟩ => ⟨S16384x1, .f32⟩
  | .hbm, ⟨63, _⟩ => ⟨S_, .f32⟩
  | .hbm, ⟨64, _⟩ => ⟨S16384x1, .f32⟩
  | .hbm, ⟨65, _⟩ => ⟨S16384x1, .f32⟩
  | .hbm, ⟨66, _⟩ => ⟨S16384x1, .f32⟩
  | .hbm, ⟨67, _⟩ => ⟨S16384x1024, .f32⟩
  | .hbm, ⟨68, _⟩ => ⟨S16384x1024, .f32⟩
  | .hbm, ⟨69, _⟩ => ⟨S1x1024, .f32⟩
  | .hbm, ⟨70, _⟩ => ⟨S16384x1024, .f32⟩
  | .hbm, ⟨71, _⟩ => ⟨S16384x1024, .f32⟩
  | .hbm, ⟨72, _⟩ => ⟨S16384x8968, .f32⟩
  | .hbm, ⟨73, _⟩ => ⟨S16384x4096, .f32⟩
  | .hbm, ⟨74, _⟩ => ⟨S1x4096, .f32⟩
  | .hbm, ⟨75, _⟩ => ⟨S16384x4096, .f32⟩
  | .hbm, ⟨76, _⟩ => ⟨S16384x4096, .f32⟩
  | .hbm, ⟨77, _⟩ => ⟨S16384x4096, .f32⟩
  | .hbm, ⟨78, _⟩ => ⟨S16384x4096, .f32⟩
  | .hbm, ⟨79, _⟩ => ⟨S_, .f32⟩
  | .hbm, ⟨80, _⟩ => ⟨S16384x4096, .f32⟩
  | .hbm, ⟨81, _⟩ => ⟨S16384x4096, .f32⟩
  | .hbm, ⟨82, _⟩ => ⟨S_, .f32⟩
  | .hbm, ⟨83, _⟩ => ⟨S16384x4096, .f32⟩
  | .hbm, ⟨84, _⟩ => ⟨S16384x4096, .f32⟩
  | .hbm, ⟨85, _⟩ => ⟨S16384x4x1024, .f32⟩
  | .hbm, ⟨86, _⟩ => ⟨S16384x1x1024, .f32⟩
  | .hbm, ⟨87, _⟩ => ⟨S16384x1024, .f32⟩
  | .hbm, ⟨88, _⟩ => ⟨S1x512x1024, .f32⟩
  | .hbm, ⟨89, _⟩ => ⟨S512x1024, .f32⟩
  | .hbm, ⟨90, _⟩ => ⟨S16384x1024, .f32⟩
  | .hbm, ⟨91, _⟩ => ⟨S16384x1024, .f32⟩
  | .hbm, ⟨92, _⟩ => ⟨S16384x1x1024, .f32⟩
  | .hbm, ⟨93, _⟩ => ⟨S16384x1024, .f32⟩
  | .hbm, ⟨94, _⟩ => ⟨S1x512x1024, .f32⟩
  | .hbm, ⟨95, _⟩ => ⟨S512x1024, .f32⟩
  | .hbm, ⟨96, _⟩ => ⟨S16384x1024, .f32⟩
  | .hbm, ⟨97, _⟩ => ⟨S16384x1024, .f32⟩
  | .hbm, ⟨98, _⟩ => ⟨S16384x1024, .f32⟩
  | .hbm, ⟨99, _⟩ => ⟨S16384x1x1024, .f32⟩
  | .hbm, ⟨100, _⟩ => ⟨S16384x1024, .f32⟩
  | .hbm, ⟨101, _⟩ => ⟨S1x512x1024, .f32⟩
  | .hbm, ⟨102, _⟩ => ⟨S512x1024, .f32⟩
  | .hbm, ⟨103, _⟩ => ⟨S16384x1024, .f32⟩
  | .hbm, ⟨104, _⟩ => ⟨S16384x1024, .f32⟩
  | .hbm, ⟨105, _⟩ => ⟨S16384x1024, .f32⟩
  | .hbm, ⟨106, _⟩ => ⟨S16384x1x1024, .f32⟩
  | .hbm, ⟨107, _⟩ => ⟨S16384x1024, .f32⟩
  | .hbm, ⟨108, _⟩ => ⟨S1x512x1024, .f32⟩
  | .hbm, ⟨109, _⟩ => ⟨S512x1024, .f32⟩
  | .hbm, ⟨110, _⟩ => ⟨S16384x1024, .f32⟩
  | .hbm, ⟨111, _⟩ => ⟨S16384x1024, .f32⟩
  | .hbm, ⟨112, _⟩ => ⟨S16384x1024, .f32⟩
  | .hbm, ⟨113, _⟩ => ⟨S16384x1024, .f32⟩
  | .hbm, ⟨114, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_1 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_5 : Ref sig .tc := ⟨.hbm, 57, rfl⟩
abbrev main_v38 : Ref sig .tc := ⟨.hbm, 58, rfl⟩
abbrev main_v39 : Ref sig .tc := ⟨.hbm, 59, rfl⟩
abbrev main_cst_6 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_8 : Ref sig .tc := ⟨.hbm, 79, rfl⟩
abbrev main_v57 : Ref sig .tc := ⟨.hbm, 80, rfl⟩
abbrev main_v58 : Ref sig .tc := ⟨.hbm, 81, rfl⟩
abbrev main_cst_9 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩

abbrev nD : Nat := 1
abbrev τ : Topo := Topo.v7x

variable {F : FTy → Type} [FloatOps F]
-- ==== Proof.Math.lean ====
/-
  The mathematics shared by the value proofs, on extended reals and with no program in sight: the RMS normalisation of a
  row, the logistic function written with a hyperbolic tangent, the gated product of a feed-forward layer, and a long
  sum taken block by block.
-/
module

public import Idealize.ShloMosaic.Lib.Pointwise

@[expose] public section

noncomputable section

namespace Cert.Proof.Math

open Idealize.ShloMosaic

/-- Entry `k` of the row `x` divided by the root of its mean square (plus the small constant), times the weight. -/
def rmsRow (x w : Fin 1024 → EReal) (k : Fin 1024) : EReal :=
  x k * Ideal.rsqrt (Ideal.div (∑ j, x j * x j) (Ideal.ofBits .f32 1149239296#32) + Ideal.ofBits .f32 897988541#32) * w k

/-- The logistic function as the reference spells it. -/
def sig (x : EReal) : EReal := Ideal.div 1 (1 + Ideal.exp (-x))

/-- The pattern of the constant one half. -/
theorem half_eq : Ideal.ofBits .f32 1056964608#32 = ((1 / 2 : ℝ) : EReal) := by
  simp [Ideal.ofBits, Ideal.ieee, -EReal.coe_mul]; norm_num

/-- One half plus half the hyperbolic tangent of half the argument is the logistic function, at the infinities too. -/
theorem half_tanh (x : EReal) :
    Ideal.ofBits .f32 1056964608#32 + Ideal.ofBits .f32 1056964608#32 * Ideal.tanh (Ideal.ofBits .f32 1056964608#32 * x)
      = sig x := by
  rw [half_eq]
  induction x with
  | bot =>
    rw [EReal.coe_mul_bot_of_pos (by norm_num), sig, EReal.neg_bot, Ideal.exp_top, Ideal.tanh_bot,
      show (1 : EReal) + ⊤ = ⊤ from rfl]
    rw [Ideal.div, if_neg (by simp), EReal.inv_top, mul_zero]
    rw [show (-1 : EReal) = ((-1 : ℝ) : EReal) by norm_num, ← EReal.coe_mul, ← EReal.coe_add]
    norm_num
  | top =>
    rw [EReal.coe_mul_top_of_pos (by norm_num), sig, EReal.neg_top, Ideal.exp_bot, Ideal.tanh_top, add_zero, mul_one,
      ← EReal.coe_add]
    rw [show (1 : EReal) = ((1 : ℝ) : EReal) by norm_num, Ideal.div_coe (by norm_num), ← EReal.coe_mul]
    norm_num
  | coe x =>
    rw [← EReal.coe_mul, Ideal.tanh_coe, sig, ← EReal.coe_neg, Ideal.exp_coe,
      show (1 : EReal) = ((1 : ℝ) : EReal) by norm_num, ← EReal.coe_add, Ideal.div_coe (by positivity), ← EReal.coe_mul,
      ← EReal.coe_add, ← EReal.coe_mul]
    congr 1
    rw [Real.tanh_eq_sinh_div_cosh, Real.sinh_eq, Real.cosh_eq]
    have h1 : Real.exp (-x) = Real.exp (-(x / 2)) * Real.exp (-(x / 2)) := by rw [← Real.exp_add]; congr 1; ring
    have h2 : Real.exp (x / 2) * Real.exp (-(x / 2)) = 1 := by rw [← Real.exp_add]; simp
    have h3 := Real.exp_pos (x / 2)
    have h4 := Real.exp_pos (-(x / 2))
    rw [h1, show 1 / 2 * x = x / 2 by ring]
    field_simp
    linear_combination (2 * Real.exp (-(x / 2))) * h2

/-- The gate `a` through `a · sig a`, times the value `b`. -/
def swi (a b : EReal) : EReal := a * sig a * b

theorem sum_11 (T : Fin 11 → EReal) :
    ∑ j, T j = T 0 + T 1 + T 2 + T 3 + T 4 + T 5 + T 6 + T 7 + T 8 + T 9 + T 10 := by
  simp only [Fin.sum_univ_castSucc, Fin.sum_univ_zero, zero_add]
  rfl

/-- A sum over 2816 positions, taken as eleven sums over 256 consecutive ones added from the left. -/
theorem sum_2816 (g : Fin 2816 → EReal) : ∑ f, g f
    = (∑ u : Fin 256, g ⟨u.val, by omega⟩) + (∑ u : Fin 256, g ⟨256 + u.val, by omega⟩)
      + (∑ u : Fin 256, g ⟨512 + u.val, by omega⟩) + (∑ u : Fin 256, g ⟨768 + u.val, by omega⟩)
      + (∑ u : Fin 256, g ⟨1024 + u.val, by omega⟩) + (∑ u : Fin 256, g ⟨1280 + u.val, by omega⟩)
      + (∑ u : Fin 256, g ⟨1536 + u.val, by omega⟩) + (∑ u : Fin 256, g ⟨1792 + u.val, by omega⟩)
      + (∑ u : Fin 256, g ⟨2048 + u.val, by omega⟩) + (∑ u : Fin 256, g ⟨2304 + u.val, by omega⟩)
      + (∑ u : Fin 256, g ⟨2560 + u.val, by omega⟩) := by
  rw [Fin.sum_univ_tiles 11 256 rfl g, sum_11]
  have h : (∑ u : Fin 256, g ⟨(0 : Fin 11).val * 256 + u.val, by simp; omega⟩) = ∑ u : Fin 256, g ⟨u.val, by omega⟩ :=
    Finset.sum_congr rfl fun u _ => congrArg g (Fin.ext (by simp))
  rw [h]
  rfl

/-- One row of the gated feed-forward layer, its residual included. -/
def ffnRow (h nw : Fin 1024 → EReal) (w1 w3 : Fin 1024 → Fin 2816 → EReal) (w2 : Fin 2816 → Fin 1024 → EReal)
    (c : Fin 1024) : EReal :=
  h c + ∑ f, swi (∑ k, rmsRow h nw k * w1 k f) (∑ k, rmsRow h nw k * w3 k f) * w2 f c

end Cert.Proof.Math

end
-- ==== Proof.Softmax.lean ====
/-
  The mathematics of one attention head on extended reals: which values are real numbers, a nonnegative constant moved
  across a sum, and the two places where a softmax may be divided by its sum of exponentials.
-/
module

public import proofs.«01_k».proof.Proof.Math

@[expose] public section

noncomputable section

namespace Cert.Proof.Math

open Idealize.ShloMosaic

/-! ### Values that are real numbers -/

/-- `x` is a real number: neither infinity. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

theorem isReal_iff {x : EReal} : IsReal x ↔ x ≠ ⊥ ∧ x ≠ ⊤ := by
  constructor
  · rintro ⟨r, rfl⟩; exact ⟨EReal.coe_ne_bot r, EReal.coe_ne_top r⟩
  · rintro ⟨h1, h2⟩; exact ⟨x.toReal, (EReal.coe_toReal h2 h1).symm⟩

/-- The pattern of 1024, of the small constant under the root, of one sixteenth, and of minus infinity. -/
theorem kilo_eq : Ideal.ofBits .f32 1149239296#32 = ((1024 : ℝ) : EReal) := by
  simp [Ideal.ofBits, Ideal.ieee, -EReal.coe_mul]; norm_num
theorem eps_pos : ∃ e : ℝ, 0 < e ∧ Ideal.ofBits .f32 897988541#32 = (e : EReal) := by
  refine ⟨8796093 / 2 ^ 43, by norm_num, ?_⟩
  simp [Ideal.ofBits, Ideal.ieee, -EReal.coe_mul]; norm_num
theorem sixteenth_eq : Ideal.ofBits .f32 1031798784#32 = ((1 / 16 : ℝ) : EReal) := by
  simp [Ideal.ofBits, Ideal.ieee, -EReal.coe_mul]; norm_num
theorem negInf_eq : Ideal.ofBits .f32 4286578688#32 = ⊥ := by
  simp [Ideal.ofBits, Ideal.ieee]

/-- A row of real numbers has a normalisation of real numbers: the mean square plus the small constant is positive. -/
theorem isReal_rmsRow {x w : Fin 1024 → EReal} (hx : ∀ k, IsReal (x k)) (hw : ∀ k, IsReal (w k)) (k : Fin 1024) :
    IsReal (rmsRow x w k) := by
  refine IsReal.mul (IsReal.mul (hx k) ?_) (hw k)
  choose a ha using hx
  obtain ⟨e, he, hee⟩ := eps_pos
  have h1 : (∑ j, x j * x j) = ((∑ j, a j * a j : ℝ) : EReal) := by
    rw [coe_sum]; exact Finset.sum_congr rfl fun j _ => by rw [ha, EReal.coe_mul]
  have h2 : 0 ≤ ∑ j, a j * a j := Finset.sum_nonneg fun j _ => mul_self_nonneg _
  have h3 : 0 < (∑ j, a j * a j) * (1 / 1024) + e := by positivity
  rw [h1, kilo_eq, Ideal.div_coe (by norm_num), hee, ← EReal.coe_mul, ← EReal.coe_add, Ideal.rsqrt_coe,
    if_neg (not_lt.mpr h3.le), if_neg h3.ne']
  exact ⟨_, rfl⟩

/-! ### A nonnegative constant across a sum -/

theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

/-! ### One head -/

/-- One sixteenth, the scale of the scores. -/
def s16 : EReal := ((1 / 16 : ℝ) : EReal)

/-- Column `u` of head `n` among the 1024 columns of four heads. -/
def col (n : Fin 4) (u : Fin 256) : Fin 1024 := ⟨n.val * 256 + u.val, by omega⟩

/-- The scores of one query row against 256 keys at head `n`: `x` the normalised row, `w` the query weights, `k` the keys. -/
def score (x : Fin 1024 → EReal) (w : Fin 1024 → Fin 1024 → EReal) (k : Fin 256 → Fin 1024 → EReal) (n : Fin 4)
    (j : Fin 256) : EReal := ∑ u, (∑ i, x i * w i (col n u)) * k j (col n u)

/-- The largest of 256 scores. -/
def top (s : Fin 256 → EReal) : EReal := Finset.univ.fold max (Ideal.ofBits .f32 4286578688#32) s

/-- A score's exponential, the largest score taken away. -/
def ex (s : Fin 256 → EReal) (j : Fin 256) : EReal := Ideal.exp (s j - top s)

/-- The kernel's head: the exponentials times the values, then times the reciprocal of the exponentials' sum. -/
def headK (s v : Fin 256 → EReal) : EReal := (∑ j, ex s j * v j) * Ideal.div 1 (∑ j, ex s j)

/-- The reference's head: each exponential divided by the sum, then times its value. -/
def headR (s v : Fin 256 → EReal) : EReal := ∑ j, v j * Ideal.div (ex s j) (∑ i, ex s i)

theorem score_scale (x : Fin 1024 → EReal) (w : Fin 1024 → Fin 1024 → EReal) (k : Fin 256 → Fin 1024 → EReal) (n : Fin 4)
    (j : Fin 256) {c : ℝ} (hc : 0 ≤ c) :
    score x (fun a b => w a b * (c : EReal)) k n j = score x w k n j * (c : EReal) := by
  unfold score
  rw [sum_mul_coe _ _ hc]
  refine Finset.sum_congr rfl fun u _ => ?_
  rw [mul_right_comm, sum_mul_coe _ _ hc]
  congr 1
  exact Finset.sum_congr rfl fun i _ => (mul_assoc _ _ _).symm

theorem isReal_score {x : Fin 1024 → EReal} {w : Fin 1024 → Fin 1024 → EReal} {k : Fin 256 → Fin 1024 → EReal}
    (hx : ∀ i, IsReal (x i)) (hw : ∀ i c, IsReal (w i c)) (hk : ∀ j c, IsReal (k j c)) (n : Fin 4) (j : Fin 256) :
    IsReal (score x w k n j) :=
  IsReal.sum _ fun u => (IsReal.sum _ fun i => (hx i).mul (hw i _)).mul (hk j _)

theorem isReal_top {s : Fin 256 → EReal} (hs : ∀ j, IsReal (s j)) : IsReal (top s) := by
  rw [isReal_iff]
  unfold top
  constructor
  · refine ne_of_gt ?_
    rw [Finset.lt_fold_max]
    exact Or.inr ⟨0, Finset.mem_univ _, bot_lt_iff_ne_bot.mpr (isReal_iff.mp (hs 0)).1⟩
  · refine ne_of_lt ?_
    rw [Finset.fold_max_lt]
    exact ⟨by rw [negInf_eq]; exact bot_lt_top, fun j _ => lt_top_iff_ne_top.mpr (isReal_iff.mp (hs j)).2⟩

/-- The two heads agree when the scores are real numbers: the sum of exponentials is then a positive real number, whose
    reciprocal goes into the sum over the keys, whatever the values are. -/
theorem headK_eq {s : Fin 256 → EReal} (v : Fin 256 → EReal) (hs : ∀ j, IsReal (s j)) : headK s v = headR s v := by
  obtain ⟨t, ht⟩ := isReal_top hs
  choose a ha using hs
  have he : ∀ j, ex s j = ((Real.exp (a j - t) : ℝ) : EReal) := fun j => by
    rw [ex, ht, ha, ← EReal.coe_sub, Ideal.exp_coe]
  have hd : (∑ j, ex s j) = ((∑ j, Real.exp (a j - t) : ℝ) : EReal) := by
    rw [coe_sum]; exact Finset.sum_congr rfl fun j _ => he j
  have hp : 0 < ∑ j, Real.exp (a j - t) := Finset.sum_pos (fun j _ => Real.exp_pos _) ⟨0, Finset.mem_univ _⟩
  unfold headK headR
  rw [hd, Ideal.div_coe hp.ne', one_mul, sum_mul_coe _ _ (by positivity)]
  refine Finset.sum_congr rfl fun j _ => ?_
  rw [Ideal.div_coe hp.ne', mul_comm (ex s j) (v j), mul_assoc]

end Cert.Proof.Math

end
-- ==== Proof.Attn.lean ====
/-
  The value of the cross-attention call: a grid point takes 512 query rows of one sequence against that sequence's 256
  keys and values, four heads one after another, each head's output kept in 256 columns of a scratch buffer that the
  output product then reads whole. The query scale 1/16 sits in the query weights.
-/
module

public import proofs.«01_k».proof.Proof.Gen.KernelIdeal.Value
public import proofs.«01_k».proof.Proof.Softmax
public import Idealize.ShloMosaic.Lib.VecWindow

@[expose] public section

set_option maxRecDepth 16384

noncomputable section

namespace Cert.Proof.Attn

open Idealize.ShloMosaic Idealize.ShloMosaic.TcCoe Idealize.SL.Sem Cert.Proof.Math
open Cert.KernelIdeal Cert.KernelIdeal.Gen Cert.KernelIdeal.Value

/-- The normalised rows of a block. -/
theorem norm_at (x : Vec Ideal S1x512x1024 .f32) (w : Vec Ideal S1x1024 .f32) (r : Fin 512) (k : Fin 1024) :
    k0_pay4 x w (ix2 r k) = rmsRow (fun j => x (ix3 0 r j)) (fun j => w (ix2 0 j)) k := by
  pointwise [k0_pay4, k0_pay3]
  rfl

section Point

variable (c : Dev nD) (i : grid0.Coords)
  (arg2 : Memref sig .tc .vmem S1x512x1024 .f32) (harg2 : arg2.IsWhole)
  (arg3 : Memref sig .tc .vmem S1x1024 .f32) (harg3 : arg3.IsWhole)
  (arg4 : Memref sig .tc .vmem S1024x1024 .bf16) (harg4 : arg4.IsWhole)
  (arg5 : Memref sig .tc .vmem S1x256x1024 .bf16) (harg5 : arg5.IsWhole)
  (arg6 : Memref sig .tc .vmem S1x256x1024 .bf16) (harg6 : arg6.IsWhole)
  (arg7 : Memref sig .tc .vmem S1024x1024 .bf16) (harg7 : arg7.IsWhole)
  (arg8 : Memref sig .tc .vmem S1x512x1024 .f32) (harg8 : arg8.IsWhole)
  (arg9 : Memref sig .tc .vmem S512x1024 .bf16) (harg9 : arg9.IsWhole)
  (x0 : Vec Ideal S1x512x1024 .f32) (x1 : Vec Ideal S1x1024 .f32) (x2 : Vec Ideal S1024x1024 .bf16)
  (x3 x4 : Vec Ideal S1x256x1024 .bf16) (x5 : Vec Ideal S1024x1024 .bf16)

/-- Row `r`'s scores at head `n`, from the point's blocks. -/
def sc (r : Fin 512) (n : Fin 4) : Fin 256 → EReal :=
  score (rmsRow (fun j => x0 (ix3 0 r j)) (fun j => x1 (ix2 0 j))) (fun k d => x2 (ix2 k d)) (fun j d => x3 (ix3 0 j d)) n

/-- Row `r`'s output of head `n` at the head's column `u`. -/
def hd (r : Fin 512) (n : Fin 4) (u : Fin 256) : EReal := headK (sc x0 x1 x2 x3 r n) (fun j => x4 (ix3 0 j (col n u)))

theorem zero2 : (![0, 0] : Fin 2 → Nat) = fun _ => 0 := by funext a; fin_cases a <;> rfl
theorem zero3 : (![0, 0, 0] : Fin 3 → Nat) = fun _ => 0 := by funext a; fin_cases a <;> rfl

theorem ld_x0 (inb) : View.ld x0 (Rect.unit (s := S1x512x1024) ![0, 0, 0] S1x512x1024.size inb) = x0 :=
  View.ld_unit_zero (S := S1x512x1024) zero3 inb x0
theorem ld_x1 (inb) : View.ld x1 (Rect.unit (s := S1x1024) ![0, 0] S1x1024.size inb) = x1 :=
  View.ld_unit_zero (S := S1x1024) zero2 inb x1
theorem ld_x5 (inb) : View.ld x5 (Rect.unit (s := S1024x1024) ![0, 0] S1024x1024.size inb) = x5 :=
  View.ld_unit_zero (S := S1024x1024) zero2 inb x5

/-- The four heads' values as the body stores them. -/
theorem piece0 (r : Fin 512) (u : Fin 256) :
    k0_pay17 (kernelRun0_A.sl.r_9 c arg2 harg2 arg3 harg3 arg4 harg4 arg5 harg5 x0 x1 x2 x3)
        (kernelRun0_A.sl.r_10 c arg2 harg2 arg3 harg3 arg4 harg4 arg5 harg5 x0 x1 x2 x3)
        (kernelRun0_A.sl.r_11 c arg6 harg6 x4) kernelRun0_A.sl.cst_40 (ix2 r u) = hd x0 x1 x2 x3 x4 r 0 u := by
  simp only [kernelRun0_A.sl.r_9, kernelRun0_A.sl.r_10, kernelRun0_A.sl.r_11, kernelRun0_A.sl.r_1, kernelRun0_A.sl.r_5,
    kernelRun0_A.sl.cst_40, View.readAt_eq_ld, harg2.read_unread, harg3.read_unread, harg4.read_unread, harg5.read_unread,
    harg6.read_unread, ld_x0, ld_x1]
  pointwise [k0_pay17, k0_pay14, k0_pay15, k0_pay16, k0_pay10, k0_pay9, k0_pay5, View.ld, norm_at]
  simp only [hd, sc, headK, ex, top, score, col]
  simp
  rfl
theorem piece1 (r : Fin 512) (u : Fin 256) :
    k0_pay18 (kernelRun0_A.sl.r_6 c arg2 harg2 arg3 harg3 arg4 harg4 arg5 harg5 x0 x1 x2 x3)
        (View.readAt (Elt Ideal) arg6.view
          (Rect.unit (s := S1x256x1024) ![0, 0, 256] S1x256x256.size inb_S1x256x1024_S1x256x256_0_0_256).toLoadRect (harg6.unread x4)) (ix2 r u)
      = hd x0 x1 x2 x3 x4 r 1 u := by
  simp only [kernelRun0_A.sl.r_6, kernelRun0_A.sl.r_2, View.readAt_eq_ld, harg2.read_unread, harg3.read_unread,
    harg4.read_unread, harg5.read_unread, harg6.read_unread, ld_x0, ld_x1]
  pointwise [k0_pay18, k0_pay11, k0_pay6, View.ld, norm_at]
  rfl
theorem piece2 (r : Fin 512) (u : Fin 256) :
    k0_pay19 (kernelRun0_A.sl.r_7 c arg2 harg2 arg3 harg3 arg4 harg4 arg5 harg5 x0 x1 x2 x3)
        (View.readAt (Elt Ideal) arg6.view
          (Rect.unit (s := S1x256x1024) ![0, 0, 512] S1x256x256.size inb_S1x256x1024_S1x256x256_0_0_512).toLoadRect (harg6.unread x4)) (ix2 r u)
      = hd x0 x1 x2 x3 x4 r 2 u := by
  simp only [kernelRun0_A.sl.r_7, kernelRun0_A.sl.r_3, View.readAt_eq_ld, harg2.read_unread, harg3.read_unread,
    harg4.read_unread, harg5.read_unread, harg6.read_unread, ld_x0, ld_x1]
  pointwise [k0_pay19, k0_pay12, k0_pay7, View.ld, norm_at]
  rfl
theorem piece3 (r : Fin 512) (u : Fin 256) :
    k0_pay1 (kernelRun0_A.sl.r_8 c arg2 harg2 arg3 harg3 arg4 harg4 arg5 harg5 x0 x1 x2 x3)
        (kernelRun0_A.sl.r_12 c arg2 harg2 arg3 harg3 arg4 harg4 arg5 harg5 x0 x1 x2 x3) kernelRun0_A.sl.cst_60
        (View.readAt (Elt Ideal) arg6.view
          (Rect.unit (s := S1x256x1024) ![0, 0, 768] S1x256x256.size inb_S1x256x1024_S1x256x256_0_0_768).toLoadRect (harg6.unread x4)) (ix2 r u)
      = hd x0 x1 x2 x3 x4 r 3 u := by
  simp only [kernelRun0_A.sl.r_8, kernelRun0_A.sl.r_12, kernelRun0_A.sl.r_4, kernelRun0_A.sl.cst_60, View.readAt_eq_ld,
    harg2.read_unread, harg3.read_unread,
    harg4.read_unread, harg5.read_unread, harg6.read_unread, ld_x0, ld_x1]
  pointwise [k0_pay1, k0_pay13, k0_pay20, k0_pay8, View.ld, norm_at]
  rfl

/-- The scratch buffer when the output product reads it: column `u` of head `n` holds that head's value. -/
theorem scratch_at (r : Fin 512) (n : Fin 4) (u : Fin 256) :
    kernelRun0_A.sl.v121 c arg2 harg2 arg3 harg3 arg4 harg4 arg5 harg5 arg6 harg6 arg9 x0 x1 x2 x3 x4 (ix2 r (col n u))
      = hd x0 x1 x2 x3 x4 r n u := by
  unfold kernelRun0_A.sl.v121 kernelRun0_A.sl.HS0_4 View.readCov
  rw [View.readAt_full]
  match n with
  | 3 =>
    rw [View.read_writes_cons_unit_of_mem (x := ix2 r u) (heq := rfl)]
    · exact piece3 c arg2 harg2 arg3 harg3 arg4 harg4 arg5 harg5 arg6 harg6 x0 x1 x2 x3 x4 r u
    · intro a; match a with
      | 0 => show r.val = 0 + r.val; omega
      | 1 => show 3 * 256 + u.val = 768 + u.val; omega
  | 2 =>
    rw [View.read_writes_cons_unit_of_not_mem (heq := rfl) (a := 1) (ha := Or.inl (by show 2 * 256 + u.val < 768; omega)),
      View.read_writes_cons_unit_of_mem (x := ix2 r u) (heq := rfl)]
    · exact piece2 c arg2 harg2 arg3 harg3 arg4 harg4 arg5 harg5 arg6 harg6 x0 x1 x2 x3 x4 r u
    · intro a; match a with
      | 0 => show r.val = 0 + r.val; omega
      | 1 => show 2 * 256 + u.val = 512 + u.val; omega
  | 1 =>
    rw [View.read_writes_cons_unit_of_not_mem (heq := rfl) (a := 1) (ha := Or.inl (by show 1 * 256 + u.val < 768; omega)),
      View.read_writes_cons_unit_of_not_mem (heq := rfl) (a := 1) (ha := Or.inl (by show 1 * 256 + u.val < 512; omega)),
      View.read_writes_cons_unit_of_mem (x := ix2 r u) (heq := rfl)]
    · exact piece1 c arg2 harg2 arg3 harg3 arg4 harg4 arg5 harg5 arg6 harg6 x0 x1 x2 x3 x4 r u
    · intro a; match a with
      | 0 => show r.val = 0 + r.val; omega
      | 1 => show 1 * 256 + u.val = 256 + u.val; omega
  | 0 =>
    rw [View.read_writes_cons_unit_of_not_mem (heq := rfl) (a := 1) (ha := Or.inl (by show 0 * 256 + u.val < 768; omega)),
      View.read_writes_cons_unit_of_not_mem (heq := rfl) (a := 1) (ha := Or.inl (by show 0 * 256 + u.val < 512; omega)),
      View.read_writes_cons_unit_of_not_mem (heq := rfl) (a := 1) (ha := Or.inl (by show 0 * 256 + u.val < 256; omega)),
      View.read_writes_cons_unit_of_mem (x := ix2 r u) (heq := rfl)]
    · exact piece0 c arg2 harg2 arg3 harg3 arg4 harg4 arg5 harg5 arg6 harg6 x0 x1 x2 x3 x4 r u
    · intro a; match a with
      | 0 => show r.val = 0 + r.val; omega
      | 1 => show 0 * 256 + u.val = 0 + u.val; omega

/-- What a grid point computes from its blocks, read at an index. -/
theorem out_at (r : Fin 512) (d : Fin 1024) :
    out0_A_6 c i arg2 harg2 arg3 harg3 arg4 harg4 arg5 harg5 arg6 harg6 arg7 harg7 arg8 harg8 arg9 harg9 x0 x1 x2 x3 x4 x5
        (ix3 0 r d)
      = x0 (ix3 0 r d) + ∑ e : Fin 1024, hd x0 x1 x2 x3 x4 r ⟨e.val / 256, by omega⟩ ⟨e.val % 256, by omega⟩ * x5 (ix2 e d) := by
  unfold out0_A_6 kernelRun0_A
  dsimp only
  rw [View.read_writes_full]
  simp only [View.readAt_eq_ld, harg7.read_unread, kernelRun0_A.sl.r, harg2.read_unread, ld_x0, ld_x5]
  have h : ∀ e : Fin 1024, e = col ⟨e.val / 256, by omega⟩ ⟨e.val % 256, by omega⟩ := fun e =>
    Fin.ext (by show e.val = e.val / 256 * 256 + e.val % 256; omega)
  have hs : ∀ e : Fin 1024, kernelRun0_A.sl.v121 c arg2 harg2 arg3 harg3 arg4 harg4 arg5 harg5 arg6 harg6 arg9 x0 x1 x2 x3 x4
      (ix2 r e) = hd x0 x1 x2 x3 x4 r ⟨e.val / 256, by omega⟩ ⟨e.val % 256, by omega⟩ := fun e => by
    conv_lhs => rw [h e]
    exact scratch_at c arg2 harg2 arg3 harg3 arg4 harg4 arg5 harg5 arg6 harg6 arg9 x0 x1 x2 x3 x4 r _ _
  generalize kernelRun0_A.sl.v121 c arg2 harg2 arg3 harg3 arg4 harg4 arg5 harg5 arg6 harg6 arg9 x0 x1 x2 x3 x4 = y at hs
  pointwise [k0_pay2, k0_pay3]
  simp only [hs]

end Point

end Cert.Proof.Attn

end
-- ==== Proof.AttnRun.lean ====
/-
  The cross-attention call as a function of whole arrays: a grid point writes its 512 rows of `K`, and the 32 points write
  every row.
-/
module

public import proofs.«01_k».proof.Proof.Attn

@[expose] public section

set_option maxRecDepth 16384

noncomputable section

namespace Cert.Proof.Attn

open Idealize.ShloMosaic Idealize.ShloMosaic.TcCoe Idealize.SL.Sem Cert.Proof.Math

section Kernel
open Cert.KernelIdeal Cert.KernelIdeal.Gen Cert.KernelIdeal.Value

variable (m : (ℓ : Loc nD τ sig) → Buf (Elt Ideal) ℓ) (ρ : Dev nD → PrngReg)

/-- Which block of its array each window takes at a grid point: sequence `t / 4`, rows `512 (t % 4)` on. -/
theorem idx : ∀ t : Fin cfg0.N,
    (win0_0.index t (0 : Fin 3) = t.val / 4 ∧ win0_0.index t (1 : Fin 3) = t.val % 4 ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 3) = t.val / 4 ∧ win0_3.index t (1 : Fin 3) = 0 ∧ win0_3.index t (2 : Fin 3) = 0)
    ∧ (win0_4.index t (0 : Fin 3) = t.val / 4 ∧ win0_4.index t (1 : Fin 3) = 0 ∧ win0_4.index t (2 : Fin 3) = 0)
    ∧ (win0_5.index t (0 : Fin 2) = 0 ∧ win0_5.index t (1 : Fin 2) = 0)
    ∧ (win0_6.index t (0 : Fin 3) = t.val / 4 ∧ win0_6.index t (1 : Fin 3) = t.val % 4 ∧ win0_6.index t (2 : Fin 3) = 0) := by
  decide +kernel

theorem lt32 : ∀ t : Fin cfg0.N, t.val < 32 := by decide +kernel

/-- The sequence of point `t`, and row `r` of its block as a row of that sequence. -/
def seqOf (t : Fin cfg0.N) : Fin 8 := ⟨t.val / 4, by have := lt32 t; omega⟩
def rowOf (t : Fin cfg0.N) (r : Fin 512) : Fin 2048 := ⟨t.val % 4 * 512 + r.val, by omega⟩

theorem emb0 (t : Fin cfg0.N) (r : Fin 512) (k : Fin 1024) :
    ((cfg0.win 0).blk t).view.emb (ix3 0 r k) = ix3 (seqOf t) (rowOf t r) k := by
  obtain ⟨⟨e0, e1, e2⟩, -⟩ := idx t
  funext a; apply Fin.ext
  match a with
  | ⟨0, _⟩ => show win0_0.index t (0 : Fin 3) * 1 + 1 * 0 = t.val / 4; omega
  | ⟨1, _⟩ => show win0_0.index t (1 : Fin 3) * 512 + 1 * r.val = t.val % 4 * 512 + r.val; omega
  | ⟨2, _⟩ => show win0_0.index t (2 : Fin 3) * 1024 + 1 * k.val = k.val; omega

theorem emb1 (t : Fin cfg0.N) (j : S1x1024.Idx) : ((cfg0.win 1).blk t).view.emb j = j := by
  obtain ⟨-, ⟨e0, e1⟩, -⟩ := idx t
  funext a; apply Fin.ext
  match a with
  | ⟨0, _⟩ => show win0_1.index t (0 : Fin 2) * 1 + 1 * (j 0).val = (j 0).val; omega
  | ⟨1, _⟩ => show win0_1.index t (1 : Fin 2) * 1024 + 1 * (j 1).val = (j 1).val; omega

theorem emb2 (t : Fin cfg0.N) (j : S1024x1024.Idx) : ((cfg0.win 2).blk t).view.emb j = j := by
  obtain ⟨-, -, ⟨e0, e1⟩, -⟩ := idx t
  funext a; apply Fin.ext
  match a with
  | ⟨0, _⟩ => show win0_2.index t (0 : Fin 2) * 1024 + 1 * (j 0).val = (j 0).val; omega
  | ⟨1, _⟩ => show win0_2.index t (1 : Fin 2) * 1024 + 1 * (j 1).val = (j 1).val; omega

theorem emb3 (t : Fin cfg0.N) (j : Fin 256) (k : Fin 1024) :
    ((cfg0.win 3).blk t).view.emb (ix3 0 j k) = ix3 (seqOf t) (j) k := by
  obtain ⟨-, -, -, ⟨e0, e1, e2⟩, -⟩ := idx t
  funext a; apply Fin.ext
  match a with
  | ⟨0, _⟩ => show win0_3.index t (0 : Fin 3) * 1 + 1 * 0 = t.val / 4; omega
  | ⟨1, _⟩ => show win0_3.index t (1 : Fin 3) * 256 + 1 * j.val = j.val; omega
  | ⟨2, _⟩ => show win0_3.index t (2 : Fin 3) * 1024 + 1 * k.val = k.val; omega

theorem emb4 (t : Fin cfg0.N) (j : Fin 256) (k : Fin 1024) :
    ((cfg0.win 4).blk t).view.emb (ix3 0 j k) = ix3 (seqOf t) (j) k := by
  obtain ⟨-, -, -, -, ⟨e0, e1, e2⟩, -⟩ := idx t
  funext a; apply Fin.ext
  match a with
  | ⟨0, _⟩ => show win0_4.index t (0 : Fin 3) * 1 + 1 * 0 = t.val / 4; omega
  | ⟨1, _⟩ => show win0_4.index t (1 : Fin 3) * 256 + 1 * j.val = j.val; omega
  | ⟨2, _⟩ => show win0_4.index t (2 : Fin 3) * 1024 + 1 * k.val = k.val; omega

theorem emb5 (t : Fin cfg0.N) (j : S1024x1024.Idx) : ((cfg0.win 5).blk t).view.emb j = j := by
  obtain ⟨-, -, -, -, -, ⟨e0, e1⟩, -⟩ := idx t
  funext a; apply Fin.ext
  match a with
  | ⟨0, _⟩ => show win0_5.index t (0 : Fin 2) * 1024 + 1 * (j 0).val = (j 0).val; omega
  | ⟨1, _⟩ => show win0_5.index t (1 : Fin 2) * 1024 + 1 * (j 1).val = (j 1).val; omega

theorem emb6 (t : Fin cfg0.N) (r : Fin 512) (k : Fin 1024) :
    ((cfg0.win 6).blk t).view.emb (ix3 0 r k) = ix3 (seqOf t) (rowOf t r) k := by
  obtain ⟨-, -, -, -, -, -, ⟨e0, e1, e2⟩⟩ := idx t
  funext a; apply Fin.ext
  match a with
  | ⟨0, _⟩ => show win0_6.index t (0 : Fin 3) * 1 + 1 * 0 = t.val / 4; omega
  | ⟨1, _⟩ => show win0_6.index t (1 : Fin 3) * 512 + 1 * r.val = t.val % 4 * 512 + r.val; omega
  | ⟨2, _⟩ => show win0_6.index t (2 : Fin 3) * 1024 + 1 * k.val = k.val; omega

/-- Each window's block, read at an index of the argument it comes from. -/
theorem iblk0_at (c : Dev nD) (t : Fin cfg0.N) (r : Fin 512) (k : Fin 1024) :
    (iblk m c 0 t : Vec Ideal S1x512x1024 .f32) (ix3 0 r k)
      = m ((c : Thread nD τ).loc main_arg0) (ix3 (seqOf t) (rowOf t r) k) := by
  show V m c main_arg0 (((cfg0.win 0).blk t).view.emb (ix3 0 r k)) = _
  rw [emb0, V_main_arg0]

theorem V_norm (c : Dev nD) : V m c main_v0 = shapeCast _ (m ((c : Thread nD τ).loc main_arg1)) shapeCasts_S1024_S1x1024 := rfl
theorem V_wo (c : Dev nD) :
    V m c main_v4 = truncf (F := Ideal) (s := S1024x1024) .bf16 (m ((c : Thread nD τ).loc main_arg5)) bitsLt_bf16_f32 := rfl
theorem V_wq (c : Dev nD) :
    V m c main_v3 = truncf (F := Ideal) (s := S1024x1024) .bf16 (mulf (m ((c : Thread nD τ).loc main_arg2))
      (broadcastInDim S1024x1024 ![] bcast_S_S1024x1024 (constant S_ .f32 0x3D800000#32))) bitsLt_bf16_f32 := rfl

theorem iblk1_at (c : Dev nD) (t : Fin cfg0.N) (k : Fin 1024) :
    (iblk m c 1 t : Vec Ideal S1x1024 .f32) (ix2 0 k) = m ((c : Thread nD τ).loc main_arg1) (ix1 k) := by
  show V m c main_v0 (((cfg0.win 1).blk t).view.emb (ix2 0 k)) = _
  rw [emb1, V_norm]
  pointwise

/-- The query weights as launched. -/
abbrev wqOf (c : Dev nD) : Vec Ideal S1024x1024 .f32 := m ((c : Thread nD τ).loc main_arg2)

theorem iblk2_at (c : Dev nD) (t : Fin cfg0.N) (a b : Fin 1024) :
    (iblk m c 2 t : Vec Ideal S1024x1024 .bf16) (ix2 a b) = wqOf m c (ix2 a b) * s16 := by
  show V m c main_v3 (((cfg0.win 2).blk t).view.emb (ix2 a b)) = _
  rw [emb2, V_wq, s16, ← sixteenth_eq]
  pointwise

theorem iblk3_at (c : Dev nD) (t : Fin cfg0.N) (j : Fin 256) (k : Fin 1024) :
    (iblk m c 3 t : Vec Ideal S1x256x1024 .bf16) (ix3 0 j k) = m ((c : Thread nD τ).loc main_arg3) (ix3 (seqOf t) j k) := by
  show V m c main_arg3 (((cfg0.win 3).blk t).view.emb (ix3 0 j k)) = _
  rw [emb3, V_main_arg3]

theorem iblk4_at (c : Dev nD) (t : Fin cfg0.N) (j : Fin 256) (k : Fin 1024) :
    (iblk m c 4 t : Vec Ideal S1x256x1024 .bf16) (ix3 0 j k) = m ((c : Thread nD τ).loc main_arg4) (ix3 (seqOf t) j k) := by
  show V m c main_arg4 (((cfg0.win 4).blk t).view.emb (ix3 0 j k)) = _
  rw [emb4, V_main_arg4]

theorem iblk5_at (c : Dev nD) (t : Fin cfg0.N) (j : S1024x1024.Idx) :
    (iblk m c 5 t : Vec Ideal S1024x1024 .bf16) j = m ((c : Thread nD τ).loc main_arg5) j := by
  show V m c main_v4 (((cfg0.win 5).blk t).view.emb j) = _
  rw [emb5, V_wo]
  rfl

/-- The kernel's layer of whole arrays: the scale is in the query weights, the division after the sum over the keys. -/
def K (h : Vec Ideal S8x2048x1024 .f32) (nw : Vec Ideal S1024 .f32) (wq : Vec Ideal S1024x1024 .f32)
    (k v : Vec Ideal S8x256x1024 .bf16) (wo : Vec Ideal S1024x1024 .f32) : Vec Ideal S8x2048x1024 .f32 := fun i =>
  h i + ∑ e : Fin 1024, headK
    (score (rmsRow (fun d => h (ix3 (i 0) (i 1) d)) (fun d => nw (ix1 d))) (fun a b => wq (ix2 a b) * s16)
      (fun j d => k (ix3 (i 0) j d)) ⟨e.val / 256, by omega⟩)
    (fun j => v (ix3 (i 0) j (col ⟨e.val / 256, by omega⟩ ⟨e.val % 256, by omega⟩))) * wo (ix2 e (i 2))

/-- `K` of the launched arguments. -/
abbrev Km (c : Dev nD) : Vec Ideal S8x2048x1024 .f32 :=
  K (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- A grid point writes back its rows of `K`. -/
theorem flushed_eq (c : Dev nD) (t : Fin cfg0.N) :
    (dats m 0 c).flushed 6 t = ((cfg0.win 6).blk t).view.read (Elt Ideal) (Km m c) := by
  rw [flushed6_A]
  funext j
  obtain ⟨r, k, rfl⟩ : ∃ r k, j = ix3 0 r k := ⟨j 1, j 2, by
    funext a; match a with
    | ⟨0, _⟩ => exact Subsingleton.elim (α := Fin 1) _ _
    | ⟨1, _⟩ => rfl
    | ⟨2, _⟩ => rfl⟩
  refine (out_at c _ _ _ _ _ _ _ _ _ _ _ _ _ _ _ _ _ _ _ _ _ _ _ r k).trans ?_
  refine Eq.trans ?_ (congrArg (Km m c) (emb6 t r k)).symm
  have h2 : (fun a b => (iblk m c 2 t : Vec Ideal S1024x1024 .bf16) (ix2 a b)) = fun a b => wqOf m c (ix2 a b) * s16 :=
    funext fun a => funext fun b => iblk2_at m c t a b
  simp only [hd, sc, iblk0_at, iblk1_at, iblk3_at, iblk4_at, iblk5_at, h2]
  unfold Km K
  rfl

theorem covered (i : S8x2048x1024.Idx) :
    ∃ t : Fin cfg0.N, (cfg0.win 6).flush t = true ∧ i ∈ ((cfg0.win 6).blk t).view.set := by
  obtain ⟨b, r, k, rfl⟩ : ∃ (b : Fin 8) (r : Fin 2048) (k : Fin 1024), i = ix3 b r k := ⟨i 0, i 1, i 2, by idx_ext⟩
  have hN : cfg0.grid.N = 32 := by decide +kernel
  have hlt : b.val * 4 + r.val / 512 < cfg0.N := by change _ < cfg0.grid.N; rw [hN]; omega
  refine ⟨⟨b.val * 4 + r.val / 512, hlt⟩, flush0_6 _, ?_⟩
  have h := ((cfg0.win 6).blk ⟨b.val * 4 + r.val / 512, hlt⟩).view.emb_mem_set (ix3 0 ⟨r.val % 512, by omega⟩ k)
  rw [emb6] at h
  have e1 : seqOf ⟨b.val * 4 + r.val / 512, hlt⟩ = b := Fin.ext (by
    show (b.val * 4 + r.val / 512) / 4 = b.val; omega)
  have e2 : rowOf ⟨b.val * 4 + r.val / 512, hlt⟩ ⟨r.val % 512, by omega⟩ = r := Fin.ext (by
    show (b.val * 4 + r.val / 512) % 4 * 512 + r.val % 512 = r.val; omega)
  rwa [e1, e2] at h

theorem final (c : Dev nD) : (dats m 0 c).arrAt 6 cfg0.N = Km m c :=
  (dats m 0 c).arrAt_eq_of_cover 6 (Km m c) (fun t _ => flushed_eq m c t) covered

/-- The kernel's run, its result named. -/
theorem run : θ_run defs (onTc (τ := τ) (main (F := Ideal))) ⟨m, fun _ => 0, ρ⟩ fun r => ∀ c : Dev nD,
      r.2.mem ((c : Thread nD τ).loc main_v5) = Km m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Kernel

end Cert.Proof.Attn

end
-- ==== Proof.AttnRef.lean ====
/-
  The reference of the cross-attention call as a function of whole arrays: `R`, in which the scale stands after the
  scores and the division inside the sum over the keys.
-/
module

public import proofs.«01_k».proof.Proof.Softmax
public import proofs.«01_k».proof.Proof.Gen.ReferenceIdeal.Run
public import proofs.«01_k».proof.Proof.Gen.ReferenceIdeal.Read

@[expose] public section

set_option maxRecDepth 16384

noncomputable section

namespace Cert.Proof.Attn

open Idealize.ShloMosaic Idealize.ShloMosaic.TcCoe Idealize.SL.Sem Cert.Proof.Math

section Reference
open Cert.ReferenceIdeal Cert.ReferenceIdeal.Gen Cert.ReferenceIdeal.Read

/-- The reference's layer of whole arrays: the scale after the scores, the division before the sum over the keys. -/
def R (h : Vec Ideal S8x2048x1024 .f32) (nw : Vec Ideal S1024 .f32) (wq : Vec Ideal S1024x1024 .f32)
    (k v : Vec Ideal S8x256x1024 .bf16) (wo : Vec Ideal S1024x1024 .f32) : Vec Ideal S8x2048x1024 .f32 := fun i =>
  h i + ∑ e : Fin 1024, headR
    (fun j => score (rmsRow (fun d => h (ix3 (i 0) (i 1) d)) (fun d => nw (ix1 d))) (fun a b => wq (ix2 a b))
      (fun j d => k (ix3 (i 0) j d)) ⟨e.val / 256, by omega⟩ j * s16)
    (fun j => v (ix3 (i 0) j (col ⟨e.val / 256, by omega⟩ ⟨e.val % 256, by omega⟩))) * wo (ix2 e (i 2))

variable (x0 : Vec Ideal S8x2048x1024 .f32) (x1 : Vec Ideal S1024 .f32) (x2 : Vec Ideal S1024x1024 .f32)
  (x3 x4 : Vec Ideal S8x256x1024 .bf16) (x5 : Vec Ideal S1024x1024 .f32)

/-- The reference's scores. -/
theorem ref_score (b : Fin 8) (n : Fin 4) (l : Fin 2048) (j : Fin 256) :
    val_main_v21 (F := Ideal) x0 x1 x2 x3 (ix4 b n l j)
      = score (rmsRow (fun d => x0 (ix3 b l d)) (fun d => x1 (ix1 d))) (fun a b => x2 (ix2 a b)) (fun j d => x3 (ix3 b j d)) n j
        * s16 := by
  rw [s16, ← sixteenth_eq]
  pointwise [val_main_v21, val_main_v20, val_main_v19, val_main_v16, val_main_v15, val_main_v14, val_main_v13, val_main_v12,
    val_main_v11, val_main_v10, val_main_v9, val_main_v8, val_main_v7, val_main_v6, val_main_v5, val_main_v4, val_main_v3,
    val_main_v2, val_main_v1, val_main_v0, val_main_cst, val_main_cst_0, val_main_cst_1, val_main_cst_2]
  rfl

/-- The greatest of a row, the fold written over its 256 coordinates. -/
theorem fold_row (s : Vec Ideal S8x4x2048x256 .f32) (z : Vec Ideal S_ .f32) (b : Fin 8) (n : Fin 4) (l : Fin 2048) :
    Host.reduce (max : EReal → EReal → EReal) s z reducesTo_S8x4x2048x256_S8x4x2048_d3 h_S_ (ix3 b n l)
      = Finset.univ.fold max (z (Shape.Idx.first h_S_)) fun j => s (ix4 b n l j) := by
  have hr : S8x4x2048x256.Reduces [3] S8x4x2048 := by decide
  rw [Host.reduce_eq_fold_single (max : EReal → EReal → EReal) s z reducesTo_S8x4x2048x256_S8x4x2048_d3 hr h_S_ (ix3 b n l)]
  refine congrArg (Finset.univ.fold max (z (Shape.Idx.first h_S_))) (funext fun j => ?_)
  refine congrArg s (funext fun a => Fin.ext ?_)
  match a with | ⟨0, _⟩ => rfl | ⟨1, _⟩ => rfl | ⟨2, _⟩ => rfl | ⟨3, _⟩ => rfl

theorem maximumf_eq : (FloatOps.maximumf : Ideal .f32 → Ideal .f32 → Ideal .f32) = (max : EReal → EReal → EReal) := rfl

/-- The reference's largest score of a row. -/
theorem ref_top (b : Fin 8) (n : Fin 4) (l : Fin 2048) :
    val_main_v24 (F := Ideal) x0 x1 x2 x3 (ix3 b n l) = top fun j => val_main_v21 (F := Ideal) x0 x1 x2 x3 (ix4 b n l j) := by
  rw [val_main_v24_apply, val_main_v23_apply]
  unfold val_main_v22
  generalize val_main_v21 (F := Ideal) x0 x1 x2 x3 = s
  rw [maximumf_eq, fold_row, val_main_cst_4_apply, val_main_cst_3_apply, top]
  refine (congrArg (max · _) negInf_eq).trans (max_eq_right bot_le)

/-- The reference's weights of a row. -/
theorem ref_weight (b : Fin 8) (n : Fin 4) (l : Fin 2048) (j : Fin 256) :
    val_main_v32 (F := Ideal) x0 x1 x2 x3 (ix4 b n l j)
      = Ideal.div (ex (fun j => val_main_v21 (F := Ideal) x0 x1 x2 x3 (ix4 b n l j)) j)
          (∑ i, ex (fun j => val_main_v21 (F := Ideal) x0 x1 x2 x3 (ix4 b n l j)) i) := by
  have ht := ref_top x0 x1 x2 x3 b n l
  unfold val_main_v32 val_main_v31 val_main_v30 val_main_v29 val_main_v28 val_main_v27 val_main_v26 val_main_v25 val_main_cst_5
  generalize val_main_v24 (F := Ideal) x0 x1 x2 x3 = M at ht
  generalize val_main_v21 (F := Ideal) x0 x1 x2 x3 = s at ht
  pointwise
  simp only [ht, ex]

/-- A head's values, at the head's column. -/
theorem ref_value (b : Fin 8) (j : Fin 256) (n : Fin 4) (u : Fin 256) :
    val_main_v18 (F := Ideal) x4 (ix4 b j n u) = x4 (ix3 b j (col n u)) := by
  rw [val_main_v18_apply, val_main_v17_apply]
  show x4 _ = x4 _
  refine congrArg x4 (funext fun a => Fin.ext ?_)
  match a with
  | ⟨0, _⟩ => show (((b.val * 256 + j.val) * 4 + n.val) * 256 + u.val) / 262144 = b.val; omega
  | ⟨1, _⟩ => show (((b.val * 256 + j.val) * 4 + n.val) * 256 + u.val) / 1024 % 256 = j.val; omega
  | ⟨2, _⟩ => show (((b.val * 256 + j.val) * 4 + n.val) * 256 + u.val) % 1024 = n.val * 256 + u.val; omega

/-- A head's output, at the head's column. -/
theorem ref_head (b : Fin 8) (n : Fin 4) (u : Fin 256) (l : Fin 2048) :
    val_main_v33 (F := Ideal) x0 x1 x2 x3 x4 (ix4 b n u l)
      = headR (fun j => score (rmsRow (fun d => x0 (ix3 b l d)) (fun d => x1 (ix1 d))) (fun a b => x2 (ix2 a b))
          (fun j d => x3 (ix3 b j d)) n j * s16) (fun j => x4 (ix3 b j (col n u))) := by
  rw [val_main_v33_apply, headR]
  refine Finset.sum_congr rfl fun j _ => ?_
  have e1 : lidx_main_v33 (ix4 b n u l) j = ix4 b j n u := by
    funext a; match a with | ⟨0, _⟩ => rfl | ⟨1, _⟩ => rfl | ⟨2, _⟩ => rfl | ⟨3, _⟩ => rfl
  have e2 : ridx_main_v33 (ix4 b n u l) j = ix4 b n l j := by
    funext a; match a with | ⟨0, _⟩ => rfl | ⟨1, _⟩ => rfl | ⟨2, _⟩ => rfl | ⟨3, _⟩ => rfl
  rw [e1, e2, ref_value, ref_weight]
  simp only [ref_score]

/-- The heads' outputs side by side. -/
theorem ref_heads (b : Fin 8) (l : Fin 2048) (e : Fin 1024) :
    val_main_v35 (F := Ideal) x0 x1 x2 x3 x4 (ix3 b l e)
      = val_main_v33 (F := Ideal) x0 x1 x2 x3 x4 (ix4 b ⟨e.val / 256, by omega⟩ ⟨e.val % 256, by omega⟩ l) := by
  rw [val_main_v35_apply, val_main_v34_apply]
  refine congrArg (val_main_v33 (F := Ideal) x0 x1 x2 x3 x4) (funext fun a => Fin.ext ?_)
  match a with
  | ⟨0, _⟩ => show ((b.val * 2048 + l.val) * 1024 + e.val) / 2097152 = b.val; omega
  | ⟨1, _⟩ => show ((b.val * 2048 + l.val) * 1024 + e.val) / 256 % 4 = e.val / 256; omega
  | ⟨2, _⟩ => show ((b.val * 2048 + l.val) * 1024 + e.val) % 256 = e.val % 256; omega
  | ⟨3, _⟩ => show ((b.val * 2048 + l.val) * 1024 + e.val) / 1024 % 2048 = l.val; omega

/-- The reference's result is `R` of its arguments. -/
theorem ref_eq : val_main_v37 (F := Ideal) x0 x1 x2 x3 x4 x5 = R x0 x1 x2 x3 x4 x5 := by
  funext i
  obtain ⟨b, l, c, rfl⟩ : ∃ (b : Fin 8) (l : Fin 2048) (c : Fin 1024), i = ix3 b l c := ⟨i 0, i 1, i 2, by idx_ext⟩
  rw [val_main_v37_apply, val_main_v36_apply]
  show x0 (ix3 b l c) + _ = x0 (ix3 b l c) + _
  refine congrArg (x0 (ix3 b l c) + ·) (Finset.sum_congr rfl fun e _ => ?_)
  have e1 : lidx_main_v36 (ix3 b l c) e = ix3 b l e := by
    funext a; match a with | ⟨0, _⟩ => rfl | ⟨1, _⟩ => rfl | ⟨2, _⟩ => rfl
  have e2 : ridx_main_v36 (ix3 b l c) e = ix2 e c := by
    funext a; match a with | ⟨0, _⟩ => rfl | ⟨1, _⟩ => rfl
  rw [e1, e2, ref_heads, ref_head]
  rfl

end Reference

end Cert.Proof.Attn

end
-- ==== Proof.Ffn.lean ====
/-
  The value of the dense feed-forward call: the kernel takes 512 rows a grid point and the hidden axis in eleven chunks of
  256, each chunk's product added to the sum so far; the reference takes the whole hidden axis at once. Both are
  `ffnRow` of each row.
-/
module

public import proofs.«01_k».proof.Proof.Gen.Kernel2Ideal.Value
public import proofs.«01_k».proof.Proof.Gen.Reference2Ideal.Run
public import proofs.«01_k».proof.Proof.Gen.Reference2Ideal.Read
public import proofs.«01_k».proof.Proof.Math

@[expose] public section

set_option maxRecDepth 16384

noncomputable section

namespace Cert.Proof.Ffn

open Idealize.ShloMosaic Idealize.ShloMosaic.TcCoe Idealize.SL.Sem Cert.Proof.Math

section Kernel
open Cert.Kernel2Ideal Cert.Kernel2Ideal.Gen Cert.Kernel2Ideal.Value

theorem zero2 : (![0, 0] : Fin 2 → Nat) = fun _ => 0 := by funext a; fin_cases a <;> rfl

/-- The normalised rows of a block. -/
theorem norm_at (x : Vec Ideal S512x1024 .f32) (w : Vec Ideal S1x1024 .f32) (r : Fin 512) (k : Fin 1024) :
    k0_pay2 x w (ix2 r k) = rmsRow (fun j => x (ix2 r j)) (fun j => w (ix2 0 j)) k := by
  pointwise [k0_pay2]
  rfl

/-- What a grid point computes from its blocks, read at an index. -/
theorem out_at (x0 : Vec Ideal S512x1024 .f32) (x1 : Vec Ideal S1x1024 .f32) (x2 x3 : Vec Ideal S1024x2816 .bf16)
    (x4 : Vec Ideal S2816x1024 .bf16) (r : Fin 512) (c : Fin 1024) :
    out0_5 x0 x1 x2 x3 x4 (ix2 r c)
      = ffnRow (fun k => x0 (ix2 r k)) (fun k => x1 (ix2 0 k)) (fun k f => x2 (ix2 k f)) (fun k f => x3 (ix2 k f))
          (fun f d => x4 (ix2 f d)) c := by
  unfold_out out0_5
  rw [View.canon_unit_zero zero2, View.ld_unit_zero zero2, View.ld_unit_zero zero2]
  pointwise [k0_pay1, k0_pay3, k0_pay4, k0_pay5, k0_pay6, k0_pay7, k0_pay8, k0_pay9, k0_pay10, k0_pay11, k0_pay12, k0_pay13,
    k0_pay14, k0_pay15, k0_pay16, k0_pay17, k0_pay18, k0_pay19, View.ld, norm_at]
  simp only [half_tanh]
  rw [ffnRow, sum_2816]
  rfl

variable (m : (ℓ : Loc nD τ sig) → Buf (Elt Ideal) ℓ) (ρ : Dev nD → PrngReg)

/-- Which block of its array each window takes at a grid point: the rows move, everything else is taken whole. -/
theorem idx : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0) := by decide +kernel

theorem lt32 : ∀ t : Fin cfg0.N, t.val < 32 := by decide +kernel

/-- Row `r` of block `t`, as a row of the array. -/
def rowOf (t : Fin cfg0.N) (r : Fin 512) : Fin 16384 := ⟨t.val * 512 + r.val, by have := lt32 t; omega⟩

theorem emb0 (t : Fin cfg0.N) (r : Fin 512) (k : Fin 1024) :
    ((cfg0.win 0).blk t).view.emb (ix2 r k) = ix2 (rowOf t r) k := by
  obtain ⟨⟨e0, e1⟩, -⟩ := idx t
  funext a; apply Fin.ext
  match a with
  | ⟨0, _⟩ => show win0_0.index t (0 : Fin 2) * 512 + 1 * r.val = t.val * 512 + r.val; omega
  | ⟨1, _⟩ => show win0_0.index t (1 : Fin 2) * 1024 + 1 * k.val = k.val; omega

theorem emb1 (t : Fin cfg0.N) (j : S1x1024.Idx) : ((cfg0.win 1).blk t).view.emb j = j := by
  obtain ⟨-, ⟨e0, e1⟩, -⟩ := idx t
  funext a; apply Fin.ext
  match a with
  | ⟨0, _⟩ => show win0_1.index t (0 : Fin 2) * 1 + 1 * (j 0).val = (j 0).val; omega
  | ⟨1, _⟩ => show win0_1.index t (1 : Fin 2) * 1024 + 1 * (j 1).val = (j 1).val; omega

theorem emb2 (t : Fin cfg0.N) (j : S1024x2816.Idx) : ((cfg0.win 2).blk t).view.emb j = j := by
  obtain ⟨-, -, ⟨e0, e1⟩, -⟩ := idx t
  funext a; apply Fin.ext
  match a with
  | ⟨0, _⟩ => show win0_2.index t (0 : Fin 2) * 1024 + 1 * (j 0).val = (j 0).val; omega
  | ⟨1, _⟩ => show win0_2.index t (1 : Fin 2) * 2816 + 1 * (j 1).val = (j 1).val; omega

theorem emb3 (t : Fin cfg0.N) (j : S1024x2816.Idx) : ((cfg0.win 3).blk t).view.emb j = j := by
  obtain ⟨-, -, -, ⟨e0, e1⟩, -⟩ := idx t
  funext a; apply Fin.ext
  match a with
  | ⟨0, _⟩ => show win0_3.index t (0 : Fin 2) * 1024 + 1 * (j 0).val = (j 0).val; omega
  | ⟨1, _⟩ => show win0_3.index t (1 : Fin 2) * 2816 + 1 * (j 1).val = (j 1).val; omega

theorem emb4 (t : Fin cfg0.N) (j : S2816x1024.Idx) : ((cfg0.win 4).blk t).view.emb j = j := by
  obtain ⟨-, -, -, -, ⟨e0, e1⟩, -⟩ := idx t
  funext a; apply Fin.ext
  match a with
  | ⟨0, _⟩ => show win0_4.index t (0 : Fin 2) * 2816 + 1 * (j 0).val = (j 0).val; omega
  | ⟨1, _⟩ => show win0_4.index t (1 : Fin 2) * 1024 + 1 * (j 1).val = (j 1).val; omega

theorem emb5 (t : Fin cfg0.N) (r : Fin 512) (k : Fin 1024) :
    ((cfg0.win 5).blk t).view.emb (ix2 r k) = ix2 (rowOf t r) k := by
  obtain ⟨-, -, -, -, -, ⟨e0, e1⟩⟩ := idx t
  funext a; apply Fin.ext
  match a with
  | ⟨0, _⟩ => show win0_5.index t (0 : Fin 2) * 512 + 1 * r.val = t.val * 512 + r.val; omega
  | ⟨1, _⟩ => show win0_5.index t (1 : Fin 2) * 1024 + 1 * k.val = k.val; omega

/-- The arrays the host prepares: the weight row as a matrix of one row, the three matrices rounded. -/
theorem V_main_v0 (c : Dev nD) : V m c main_v0 = shapeCast _ (m ((c : Thread nD τ).loc main_arg1)) shapeCasts_S1024_S1x1024 := rfl
theorem V_main_v1 (c : Dev nD) :
    V m c main_v1 = truncf (F := Ideal) (s := S1024x2816) .bf16 (m ((c : Thread nD τ).loc main_arg2)) bitsLt_bf16_f32 := rfl
theorem V_main_v2 (c : Dev nD) :
    V m c main_v2 = truncf (F := Ideal) (s := S1024x2816) .bf16 (m ((c : Thread nD τ).loc main_arg3)) bitsLt_bf16_f32 := rfl
theorem V_main_v3 (c : Dev nD) :
    V m c main_v3 = truncf (F := Ideal) (s := S2816x1024) .bf16 (m ((c : Thread nD τ).loc main_arg4)) bitsLt_bf16_f32 := rfl

/-- Each window's block, read at an index of the argument it comes from. -/
theorem iblk0_at (c : Dev nD) (t : Fin cfg0.N) (r : Fin 512) (k : Fin 1024) :
    (iblk m c 0 t : Vec Ideal S512x1024 .f32) (ix2 r k) = m ((c : Thread nD τ).loc main_arg0) (ix2 (rowOf t r) k) := by
  show V m c main_arg0 (((cfg0.win 0).blk t).view.emb (ix2 r k)) = _
  rw [emb0, V_main_arg0]

theorem iblk1_at (c : Dev nD) (t : Fin cfg0.N) (k : Fin 1024) :
    (iblk m c 1 t : Vec Ideal S1x1024 .f32) (ix2 0 k) = m ((c : Thread nD τ).loc main_arg1) (ix1 k) := by
  show V m c main_v0 (((cfg0.win 1).blk t).view.emb (ix2 0 k)) = _
  rw [emb1, V_main_v0]
  pointwise

theorem iblk2_at (c : Dev nD) (t : Fin cfg0.N) (j : S1024x2816.Idx) :
    (iblk m c 2 t : Vec Ideal S1024x2816 .bf16) j = m ((c : Thread nD τ).loc main_arg2) j := by
  show V m c main_v1 (((cfg0.win 2).blk t).view.emb j) = _
  rw [emb2, V_main_v1]
  rfl

theorem iblk3_at (c : Dev nD) (t : Fin cfg0.N) (j : S1024x2816.Idx) :
    (iblk m c 3 t : Vec Ideal S1024x2816 .bf16) j = m ((c : Thread nD τ).loc main_arg3) j := by
  show V m c main_v2 (((cfg0.win 3).blk t).view.emb j) = _
  rw [emb3, V_main_v2]
  rfl

theorem iblk4_at (c : Dev nD) (t : Fin cfg0.N) (j : S2816x1024.Idx) :
    (iblk m c 4 t : Vec Ideal S2816x1024 .bf16) j = m ((c : Thread nD τ).loc main_arg4) j := by
  show V m c main_v3 (((cfg0.win 4).blk t).view.emb j) = _
  rw [emb4, V_main_v3]
  rfl

/-- The layer of whole arrays. -/
def G (h : Vec Ideal S16384x1024 .f32) (nw : Vec Ideal S1024 .f32) (w1 w3 : Vec Ideal S1024x2816 .f32)
    (w2 : Vec Ideal S2816x1024 .f32) : Vec Ideal S16384x1024 .f32 := fun i =>
  ffnRow (fun k => h (ix2 (i 0) k)) (fun k => nw (ix1 k)) (fun k f => w1 (ix2 k f)) (fun k f => w3 (ix2 k f))
    (fun f d => w2 (ix2 f d)) (i 1)

/-- `G` of the launched arguments. -/
abbrev Gm (c : Dev nD) : Vec Ideal S16384x1024 .f32 :=
  G (m ((c : Thread nD τ).loc main_arg0)) (m ((c : Thread nD τ).loc main_arg1)) (m ((c : Thread nD τ).loc main_arg2))
    (m ((c : Thread nD τ).loc main_arg3)) (m ((c : Thread nD τ).loc main_arg4))

/-- A grid point writes back its rows of `G`. -/
theorem flushed_eq (c : Dev nD) (t : Fin cfg0.N) :
    (dats m 0 c).flushed 5 t = ((cfg0.win 5).blk t).view.read (Elt Ideal) (Gm m c) := by
  rw [flushed5]
  funext j
  show out0_5 _ _ _ _ _ j = Gm m c (((cfg0.win 5).blk t).view.emb j)
  obtain ⟨r, k, rfl⟩ : ∃ r k, j = ix2 r k := ⟨j 0, j 1, by idx_ext⟩
  rw [emb5, out_at]
  simp only [iblk0_at, iblk1_at, iblk2_at, iblk3_at, iblk4_at]
  rfl

theorem covered (i : S16384x1024.Idx) :
    ∃ t : Fin cfg0.N, (cfg0.win 5).flush t = true ∧ i ∈ ((cfg0.win 5).blk t).view.set := by
  obtain ⟨r, k, rfl⟩ : ∃ (r : Fin 16384) (k : Fin 1024), i = ix2 r k := ⟨i 0, i 1, by idx_ext⟩
  have hN : cfg0.grid.N = 32 := by decide +kernel
  refine ⟨⟨r.val / 512, by change _ < cfg0.grid.N; rw [hN]; omega⟩, flush0_5 _, ?_⟩
  have h := ((cfg0.win 5).blk ⟨r.val / 512, by change _ < cfg0.grid.N; rw [hN]; omega⟩).view.emb_mem_set (ix2 ⟨r.val % 512, by omega⟩ k)
  rw [emb5] at h
  have e : rowOf ⟨r.val / 512, by change _ < cfg0.grid.N; rw [hN]; omega⟩ ⟨r.val % 512, by omega⟩ = r := Fin.ext (by
    show r.val / 512 * 512 + r.val % 512 = r.val; omega)
  rwa [e] at h

theorem final (c : Dev nD) : (dats m 0 c).arrAt 5 cfg0.N = Gm m c :=
  (dats m 0 c).arrAt_eq_of_cover 5 (Gm m c) (fun t _ => flushed_eq m c t) covered

/-- The kernel's run, its result named. -/
theorem run : θ_run defs (onTc (τ := τ) (main (F := Ideal))) ⟨m, fun _ => 0, ρ⟩ fun r => ∀ c : Dev nD,
      r.2.mem ((c : Thread nD τ).loc main_v4) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Kernel

section Reference
open Cert.Reference2Ideal Cert.Reference2Ideal.Gen Cert.Reference2Ideal.Read

/-- The reference's result is the same function of its arguments. -/
theorem ref_eq (x0 : Vec Ideal S16384x1024 .f32) (x1 : Vec Ideal S1024 .f32) (x2 x3 : Vec Ideal S1024x2816 .f32)
    (x4 : Vec Ideal S2816x1024 .f32) : val_main_v18 (F := Ideal) x0 x1 x2 x3 x4 = G x0 x1 x2 x3 x4 := by
  funext i
  obtain ⟨r, k, rfl⟩ : ∃ (r : Fin 16384) (k : Fin 1024), i = ix2 r k := ⟨i 0, i 1, by idx_ext⟩
  pointwise [val_main_v18, val_main_v17, val_main_v16, val_main_v15, val_main_v14, val_main_v13, val_main_v12, val_main_v11,
    val_main_v10, val_main_v9, val_main_v8, val_main_v7, val_main_v6, val_main_v5, val_main_v4, val_main_v3, val_main_v2,
    val_main_v1, val_main_v0, val_main_cst, val_main_cst_0, val_main_cst_1, val_main_call0_v0, val_main_call0_v1,
    val_main_call0_v2, val_main_call0_v3, val_main_call0_v4, val_main_call0_v5, val_main_call0_cst, val_main_call0_cst_0]
  rfl

end Reference

end Cert.Proof.Ffn

end
-- ==== Proof.Algebra.lean ====
/-
  The two algebraic claims: cross-attention under the precondition that the arrays behind its scores are finite, and the
  dense feed-forward layer without one.
-/
module

public import proofs.«01_k».proof.Defs
public import proofs.«01_k».proof.Proof.AttnRun
public import proofs.«01_k».proof.Proof.AttnRef
public import proofs.«01_k».proof.Proof.Ffn
public import proofs.«01_k».proof.Proof.Gen.Pre_finite_scores
public import Idealize.ShloMosaic.Lib.ReduceAll

@[expose] public section

set_option maxRecDepth 16384

noncomputable section

namespace Cert.Proof.Attn

open Idealize.ShloMosaic Idealize.ShloMosaic.TcCoe Idealize.SL.Sem Cert.Proof.Math

/-- The two functions agree when the arrays behind the scores are real numbers. -/
theorem K_eq_R (h : Vec Ideal Cert.KernelIdeal.S8x2048x1024 .f32) (nw : Vec Ideal Cert.KernelIdeal.S1024 .f32)
    (wq : Vec Ideal Cert.KernelIdeal.S1024x1024 .f32) (k v : Vec Ideal Cert.KernelIdeal.S8x256x1024 .bf16)
    (wo : Vec Ideal Cert.KernelIdeal.S1024x1024 .f32) (hh : ∀ i, IsReal (h i)) (hn : ∀ i, IsReal (nw i))
    (hq : ∀ i, IsReal (wq i)) (hk : ∀ i, IsReal (k i)) : K h nw wq k v wo = R h nw wq k v wo := by
  funext i
  unfold K R
  refine congrArg (h i + ·) (Finset.sum_congr rfl fun e _ => ?_)
  refine congrArg (· * wo (ix2 e (i 2))) ?_
  have hs := funext fun j => score_scale (rmsRow (fun d => h (ix3 (i 0) (i 1) d)) (fun d => nw (ix1 d)))
    (fun a b => wq (ix2 a b)) (fun j d => k (ix3 (i 0) j d)) ⟨e.val / 256, by omega⟩ j (c := 1 / 16) (by norm_num)
  refine (congrArg (headK · _) hs).trans ?_
  exact headK_eq _ fun j => (isReal_score (isReal_rmsRow (fun _ => hh _) (fun _ => hn _)) (fun _ _ => hq _)
    (fun _ _ => hk _) _ _).mul ⟨1 / 16, rfl⟩

/-- A magnitude below infinity is a real number's. -/
theorem isReal_of_lt {x : EReal} (h : Ideal.cmp .olt (max x (-x)) (Ideal.ofBits .f32 0x7F800000#32) = 1#1) : IsReal x := by
  have ht : Ideal.ofBits .f32 0x7F800000#32 = ⊤ := by simp [Ideal.ofBits, Ideal.ieee]
  rw [ht] at h
  have h' : max x (-x) < ⊤ := by
    by_contra hc
    simp [Ideal.cmp, hc] at h
  rw [isReal_iff]
  rw [max_lt_iff] at h'
  refine ⟨?_, h'.1.ne⟩
  rintro rfl
  simp at h'

instance : Subsingleton Cert.Pre_finite_scores.S_.Idx := ⟨fun a b => funext fun i => i.elim0⟩

open Cert.Pre_finite_scores in
/-- What the precondition says of the four arrays. -/
theorem finite_of_pre (x0 : Vec Ideal S8x2048x1024 .f32) (x1 : Vec Ideal S1024 .f32) (x2 : Vec Ideal S1024x1024 .f32)
    (x3 x4 : Vec Ideal S8x256x1024 .bf16) (x5 : Vec Ideal S1024x1024 .f32)
    (h : Cert.Pre_finite_scores.fn (F := Ideal) x0 x1 x2 x3 x4 x5 = fun _ => 1#1) :
    (∀ i, IsReal (x0 i)) ∧ (∀ i, IsReal (x1 i)) ∧ (∀ i, IsReal (x2 i)) ∧ ∀ i, IsReal (x3 i) := by
  have e := congrFun h (fun a => a.elim0)
  unfold Cert.Pre_finite_scores.fn Cert.Pre_finite_scores.fn_part1 at e
  obtain ⟨e1, e2⟩ := IntOp.andi_eq_one.1 e
  obtain ⟨e3, e4⟩ := IntOp.andi_eq_one.1 e1
  obtain ⟨e5, e6⟩ := IntOp.andi_eq_one.1 e3
  exact ⟨fun i => isReal_of_lt (Host.reduce_andi_all _ _ _ _ _ e5 i), fun i => isReal_of_lt (Host.reduce_andi_all _ _ _ _ _ e6 i),
    fun i => isReal_of_lt (Host.reduce_andi_all _ _ _ _ _ e4 i), fun i => isReal_of_lt (Host.reduce_andi_all _ _ _ _ _ e2 i)⟩

theorem algebraic : Cert.algebraic_KernelIdeal_ReferenceIdeal_pre_finite_scores := fun m ρ m' ρ' hp hag =>
  ⟨fun c => Km m c, run m ρ, (θ_run _ _ _).mono (fun _ h c => ⟨(h c).1.trans (by
    obtain ⟨f0, f1, f2, f3⟩ := finite_of_pre _ _ _ _ _ _ (hp c)
    rw [Cert.ReferenceIdeal.Read.val_main_v37_eq, ref_eq, (hag c).1, (hag c).2.1, (hag c).2.2.1, (hag c).2.2.2.1,
      (hag c).2.2.2.2.1, (hag c).2.2.2.2.2]
    exact (K_eq_R _ _ _ _ _ _ f0 f1 f2 f3).symm), (h c).2⟩) (Cert.ReferenceIdeal.Value.run m' ρ')⟩

end Cert.Proof.Attn

namespace Cert.Proof.Ffn

open Idealize.ShloMosaic Idealize.ShloMosaic.TcCoe Idealize.SL.Sem

theorem algebraic : Cert.algebraic_Kernel2Ideal_Reference2Ideal := fun m ρ m' ρ' _ hag =>
  ⟨fun c => Gm m c, run m ρ, (θ_run _ _ _).mono (fun _ h c => ⟨(h c).1.trans (by
    rw [Cert.Reference2Ideal.Read.val_main_v18_eq, ref_eq, (hag c).1, (hag c).2.1, (hag c).2.2.1, (hag c).2.2.2.1,
      (hag c).2.2.2.2]), (h c).2⟩) (Cert.Reference2Ideal.Value.run m' ρ')⟩

end Cert.Proof.Ffn

end
-- ==== Proof.ExpertsRunA.lean ====
module

public import proofs.«01_k».proof.Defs
public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Ring
public import Idealize.ShloMosaic.Lib.Tactic
public import Idealize.ShloMosaic.Lib.WordCmp

/-! # One run of the expert kernel's body: a tile in use, the first half of the hidden layer -/

@[expose] public section

set_option maxRecDepth 16384

noncomputable section

namespace Cert.Proof.Experts

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The number of tiles in use, as the table `T` holds it. -/
abbrev word (T : Vec F S1 .i32) : BitVec 32 := T (fun a => ⟨(![0] : Fin 1 → Nat) a, by revert a; decide⟩)

set_option maxHeartbeats 4000000 in
/-- A tile in use, the first half of the hidden layer: the block stored is found by the run. -/
def runA (c : Dev nD) (i : grid0.Coords) (T : Vec F S1 .i32)
    (arg2 : Memref sig .tc .smem S72 .i32) (harg2 : arg2.IsWhole) (arg3 : Memref sig .tc .smem S1 .i32) (harg3 : arg3.IsWhole)
    (arg4 : Memref sig .tc .vmem S512x1024 .f32) (harg4 : arg4.IsWhole)
    (arg5 : Memref sig .tc .vmem S1x1024x1792 .bf16) (harg5 : arg5.IsWhole)
    (arg6 : Memref sig .tc .vmem S1x1024x1792 .bf16) (harg6 : arg6.IsWhole)
    (arg7 : Memref sig .tc .vmem S1x1792x1024 .bf16) (harg7 : arg7.IsWhole)
    (arg8 : Memref sig .tc .vmem S512x1024 .f32) (harg8 : arg8.IsWhole)
    (x0 : Vec F S512x1024 .f32) (x1 x2 : Vec F S1x1024x1792 .bf16) (x3 : Vec F S1x1792x1024 .bf16)
    (h1 : k0_cond1 i (word (F := F) T) = 1#1) (h2 : ¬ k0_cond2 i (word (F := F) T) = 1#1)
    (h3 : ¬ k0_cond3 i (word (F := F) T) = 1#1) :
    { L : List (View.Piece (Elt F) S512x1024 .f32) //
      ∀ (E : Set ℕ) (K : PUnit → sProp 𝕄),
        iprop(owns (c : Thread nD τ) arg4 fullShare x0 ∗ owns (c : Thread nD τ) arg5 fullShare x1
            ∗ owns (c : Thread nD τ) arg6 fullShare x2 ∗ owns (c : Thread nD τ) arg7 fullShare x3
            ∗ owns (c : Thread nD τ) arg3 fullShare.right T
            ∗ (∃ d, owns (c : Thread nD τ) arg8 fullShare d)
            ∗ (iprop(owns (c : Thread nD τ) arg4 fullShare x0 ∗ owns (c : Thread nD τ) arg5 fullShare x1
            ∗ owns (c : Thread nD τ) arg6 fullShare x2 ∗ owns (c : Thread nD τ) arg7 fullShare x3
            ∗ owns (c : Thread nD τ) arg3 fullShare.right T
            ∗ (∃ f, arg8.view.loc (c : Thread nD τ) ↦[arg8.view.set]{fullShare} arg8.view.writes (Elt F) f L)) -∗ K ⟨⟩))
          ⊢ wp frame (wpE (defs₀ (F := F)) Variants.none c none) E
              (cc0_moe_experts i arg2 harg2 arg3 harg3
                arg4 harg4 arg5 harg5 arg6 harg6 arg7 harg7 arg8 harg8) K } := by
  refine ⟨?_, fun E K => ?run⟩
  case run =>
    rw [cc0_moe_experts_eq_skeleton]; unfold cc0_moe_experts_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%fT, %hfT, HT⟩, ⟨%d4, %f4, -, H4⟩, Hk⟩
    obtain rfl := harg3.eq_unread hfT; obtain rfl := harg4.eq_unread hf0; obtain rfl := harg5.eq_unread hf1; obtain rfl := harg6.eq_unread hf2; obtain rfl := harg7.eq_unread hf3
    have e : arg3.view.readAt (Elt F) (Rect.unit (s := S1) ![0] S1.size inb_S1_S1_0).toLoadRect (harg3.unread T) (Shape.Idx.first (numel1_S1.symm ▸ Nat.one_pos)) = word (F := F) T := by
      rw [View.readAt_eq_ld, harg3.read_unread]
      refine congrArg T (funext fun a => Fin.ext ?_)
      have h : ∀ (x y : Nat), x < 1 → y < 1 → x = y := by omega
      match a with
      | ⟨0, _⟩ => exact h _ _ (Fin.isLt _) Nat.one_pos
    rw [← e] at h1 h2 h3
    sl_exec (disch := first | exact h1 | exact h2 | exact h3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [HT]
    · iexists _; isplitr; · ipureintro; exact harg3.read_unread _
      iexact HT
    iexists _; iexact H4

end Cert.Proof.Experts

end
-- ==== Proof.ExpertsRunB.lean ====
module

public import proofs.«01_k».proof.Proof.ExpertsRunA
public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Ring
public import Idealize.ShloMosaic.Lib.Tactic
public import Idealize.ShloMosaic.Lib.WordCmp

/-! # One run of the expert kernel's body: a tile in use, the second half of the hidden layer -/

@[expose] public section

set_option maxRecDepth 16384

noncomputable section

namespace Cert.Proof.Experts

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- A tile in use, the second half, added to the block `x4` the first half left of the hidden layer: the block stored is found by the run. -/
def runB (c : Dev nD) (i : grid0.Coords) (T : Vec F S1 .i32)
    (arg2 : Memref sig .tc .smem S72 .i32) (harg2 : arg2.IsWhole) (arg3 : Memref sig .tc .smem S1 .i32) (harg3 : arg3.IsWhole)
    (arg4 : Memref sig .tc .vmem S512x1024 .f32) (harg4 : arg4.IsWhole)
    (arg5 : Memref sig .tc .vmem S1x1024x1792 .bf16) (harg5 : arg5.IsWhole)
    (arg6 : Memref sig .tc .vmem S1x1024x1792 .bf16) (harg6 : arg6.IsWhole)
    (arg7 : Memref sig .tc .vmem S1x1792x1024 .bf16) (harg7 : arg7.IsWhole)
    (arg8 : Memref sig .tc .vmem S512x1024 .f32) (harg8 : arg8.IsWhole)
    (x0 : Vec F S512x1024 .f32) (x1 x2 : Vec F S1x1024x1792 .bf16) (x3 : Vec F S1x1792x1024 .bf16) (x4 : Vec F S512x1024 .f32)
    (h1 : ¬ k0_cond1 i (word (F := F) T) = 1#1) (h2 : k0_cond2 i (word (F := F) T) = 1#1)
    (h3 : ¬ k0_cond3 i (word (F := F) T) = 1#1) :
    { L : List (View.Piece (Elt F) S512x1024 .f32) //
      ∀ (E : Set ℕ) (K : PUnit → sProp 𝕄),
        iprop(owns (c : Thread nD τ) arg4 fullShare x0 ∗ owns (c : Thread nD τ) arg5 fullShare x1
            ∗ owns (c : Thread nD τ) arg6 fullShare x2 ∗ owns (c : Thread nD τ) arg7 fullShare x3
            ∗ owns (c : Thread nD τ) arg3 fullShare.right T
            ∗ owns (c : Thread nD τ) arg8 fullShare x4
            ∗ (iprop(owns (c : Thread nD τ) arg4 fullShare x0 ∗ owns (c : Thread nD τ) arg5 fullShare x1
            ∗ owns (c : Thread nD τ) arg6 fullShare x2 ∗ owns (c : Thread nD τ) arg7 fullShare x3
            ∗ owns (c : Thread nD τ) arg3 fullShare.right T
            ∗ (∃ f, arg8.view.loc (c : Thread nD τ) ↦[arg8.view.set]{fullShare} arg8.view.writes (Elt F) f L)) -∗ K ⟨⟩))
          ⊢ wp frame (wpE (defs₀ (F := F)) Variants.none c none) E
              (cc0_moe_experts i arg2 harg2 arg3 harg3
                arg4 harg4 arg5 harg5 arg6 harg6 arg7 harg7 arg8 harg8) K } := by
  refine ⟨?_, fun E K => ?run⟩
  case run =>
    rw [cc0_moe_experts_eq_skeleton]; unfold cc0_moe_experts_skel
    simp only [k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%fT, %hfT, HT⟩, ⟨%f4, %hf4, H4⟩, Hk⟩
    obtain rfl := harg3.eq_unread hfT; obtain rfl := harg4.eq_unread hf0; obtain rfl := harg5.eq_unread hf1; obtain rfl := harg6.eq_unread hf2; obtain rfl := harg7.eq_unread hf3; obtain rfl := harg8.eq_unread hf4
    have e : arg3.view.readAt (Elt F) (Rect.unit (s := S1) ![0] S1.size inb_S1_S1_0).toLoadRect (harg3.unread T) (Shape.Idx.first (numel1_S1.symm ▸ Nat.one_pos)) = word (F := F) T := by
      rw [View.readAt_eq_ld, harg3.read_unread]
      refine congrArg T (funext fun a => Fin.ext ?_)
      have h : ∀ (x y : Nat), x < 1 → y < 1 → x = y := by omega
      match a with
      | ⟨0, _⟩ => exact h _ _ (Fin.isLt _) Nat.one_pos
    rw [← e] at h1 h2 h3
    sl_exec (disch := first | exact h1 | exact h2 | exact h3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [HT]
    · iexists _; isplitr; · ipureintro; exact harg3.read_unread _
      iexact HT
    iexists _; iexact H4

end Cert.Proof.Experts

end
-- ==== Proof.ExpertsRunC.lean ====
module

public import proofs.«01_k».proof.Proof.ExpertsRunA
public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Ring
public import Idealize.ShloMosaic.Lib.Tactic
public import Idealize.ShloMosaic.Lib.WordCmp

/-! # Two runs of the expert kernel's body: a tile not in use -/

@[expose] public section

set_option maxRecDepth 16384

noncomputable section

namespace Cert.Proof.Experts

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- A tile not in use, at its first point: the block stored is found by the run. -/
def runC (c : Dev nD) (i : grid0.Coords) (T : Vec F S1 .i32)
    (arg2 : Memref sig .tc .smem S72 .i32) (harg2 : arg2.IsWhole) (arg3 : Memref sig .tc .smem S1 .i32) (harg3 : arg3.IsWhole)
    (arg4 : Memref sig .tc .vmem S512x1024 .f32) (harg4 : arg4.IsWhole)
    (arg5 : Memref sig .tc .vmem S1x1024x1792 .bf16) (harg5 : arg5.IsWhole)
    (arg6 : Memref sig .tc .vmem S1x1024x1792 .bf16) (harg6 : arg6.IsWhole)
    (arg7 : Memref sig .tc .vmem S1x1792x1024 .bf16) (harg7 : arg7.IsWhole)
    (arg8 : Memref sig .tc .vmem S512x1024 .f32) (harg8 : arg8.IsWhole)
    (x0 : Vec F S512x1024 .f32) (x1 x2 : Vec F S1x1024x1792 .bf16) (x3 : Vec F S1x1792x1024 .bf16)
    (h1 : ¬ k0_cond1 i (word (F := F) T) = 1#1) (h2 : ¬ k0_cond2 i (word (F := F) T) = 1#1)
    (h3 : k0_cond3 i (word (F := F) T) = 1#1) :
    { L : List (View.Piece (Elt F) S512x1024 .f32) //
      ∀ (E : Set ℕ) (K : PUnit → sProp 𝕄),
        iprop(owns (c : Thread nD τ) arg4 fullShare x0 ∗ owns (c : Thread nD τ) arg5 fullShare x1
            ∗ owns (c : Thread nD τ) arg6 fullShare x2 ∗ owns (c : Thread nD τ) arg7 fullShare x3
            ∗ owns (c : Thread nD τ) arg3 fullShare.right T
            ∗ (∃ d, owns (c : Thread nD τ) arg8 fullShare d)
            ∗ (iprop(owns (c : Thread nD τ) arg4 fullShare x0 ∗ owns (c : Thread nD τ) arg5 fullShare x1
            ∗ owns (c : Thread nD τ) arg6 fullShare x2 ∗ owns (c : Thread nD τ) arg7 fullShare x3
            ∗ owns (c : Thread nD τ) arg3 fullShare.right T
            ∗ (∃ f, arg8.view.loc (c : Thread nD τ) ↦[arg8.view.set]{fullShare} arg8.view.writes (Elt F) f L)) -∗ K ⟨⟩))
          ⊢ wp frame (wpE (defs₀ (F := F)) Variants.none c none) E
              (cc0_moe_experts i arg2 harg2 arg3 harg3
                arg4 harg4 arg5 harg5 arg6 harg6 arg7 harg7 arg8 harg8) K } := by
  refine ⟨?_, fun E K => ?run⟩
  case run =>
    rw [cc0_moe_experts_eq_skeleton]; unfold cc0_moe_experts_skel
    unfold owns
    iintro ⟨⟨%f0, %hf0, H0⟩, ⟨%f1, %hf1, H1⟩, ⟨%f2, %hf2, H2⟩, ⟨%f3, %hf3, H3⟩, ⟨%fT, %hfT, HT⟩, ⟨%d4, %f4, -, H4⟩, Hk⟩
    obtain rfl := harg3.eq_unread hfT; obtain rfl := harg4.eq_unread hf0; obtain rfl := harg5.eq_unread hf1; obtain rfl := harg6.eq_unread hf2; obtain rfl := harg7.eq_unread hf3
    have e : arg3.view.readAt (Elt F) (Rect.unit (s := S1) ![0] S1.size inb_S1_S1_0).toLoadRect (harg3.unread T) (Shape.Idx.first (numel1_S1.symm ▸ Nat.one_pos)) = word (F := F) T := by
      rw [View.readAt_eq_ld, harg3.read_unread]
      refine congrArg T (funext fun a => Fin.ext ?_)
      have h : ∀ (x y : Nat), x < 1 → y < 1 → x = y := by omega
      match a with
      | ⟨0, _⟩ => exact h _ _ (Fin.isLt _) Nat.one_pos
    rw [← e] at h1 h2 h3
    sl_exec (disch := first | exact h1 | exact h2 | exact h3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [HT]
    · iexists _; isplitr; · ipureintro; exact harg3.read_unread _
      iexact HT
    iexists _; iexact H4

set_option maxHeartbeats 4000000 in
/-- A tile not in use, at its second point: nothing is stored. -/
theorem runD (c : Dev nD) (i : grid0.Coords) (T : Vec F S1 .i32)
    (arg2 : Memref sig .tc .smem S72 .i32) (harg2 : arg2.IsWhole) (arg3 : Memref sig .tc .smem S1 .i32) (harg3 : arg3.IsWhole)
    (arg4 : Memref sig .tc .vmem S512x1024 .f32) (harg4 : arg4.IsWhole)
    (arg5 : Memref sig .tc .vmem S1x1024x1792 .bf16) (harg5 : arg5.IsWhole)
    (arg6 : Memref sig .tc .vmem S1x1024x1792 .bf16) (harg6 : arg6.IsWhole)
    (arg7 : Memref sig .tc .vmem S1x1792x1024 .bf16) (harg7 : arg7.IsWhole)
    (arg8 : Memref sig .tc .vmem S512x1024 .f32) (harg8 : arg8.IsWhole)
    (x0 : Vec F S512x1024 .f32) (x1 x2 : Vec F S1x1024x1792 .bf16) (x3 : Vec F S1x1792x1024 .bf16) (x4 : Vec F S512x1024 .f32)
    (h1 : ¬ k0_cond1 i (word (F := F) T) = 1#1) (h2 : ¬ k0_cond2 i (word (F := F) T) = 1#1)
    (h3 : ¬ k0_cond3 i (word (F := F) T) = 1#1) :
      ∀ (E : Set ℕ) (K : PUnit → sProp 𝕄),
        iprop(owns (c : Thread nD τ) arg4 fullShare x0 ∗ owns (c : Thread nD τ) arg5 fullShare x1
            ∗ owns (c : Thread nD τ) arg6 fullShare x2 ∗ owns (c : Thread nD τ) arg7 fullShare x3
            ∗ owns (c : Thread nD τ) arg3 fullShare.right T
            ∗ owns (c : Thread nD τ) arg8 fullShare x4
            ∗ (iprop(owns (c : Thread nD τ) arg4 fullShare x0 ∗ owns (c : Thread nD τ) arg5 fullShare x1
            ∗ owns (c : Thread nD τ) arg6 fullShare x2 ∗ owns (c : Thread nD τ) arg7 fullShare x3
            ∗ owns (c : Thread nD τ) arg3 fullShare.right T
            ∗ owns (c : Thread nD τ) arg8 fullShare x4) -∗ K ⟨⟩))
          ⊢ wp frame (wpE (defs₀ (F := F)) Variants.none c none) E
              (cc0_moe_experts i arg2 harg2 arg3 harg3
                arg4 harg4 arg5 harg5 arg6 harg6 arg7 harg7 arg8 harg8) K := by
    intro E K
    rw [cc0_moe_experts_eq_skeleton]; unfold cc0_moe_experts_skel
    unfold owns
    iintro ⟨⟨%f0, %hf0, H0⟩, ⟨%f1, %hf1, H1⟩, ⟨%f2, %hf2, H2⟩, ⟨%f3, %hf3, H3⟩, ⟨%fT, %hfT, HT⟩, ⟨%f4, %hf4, H4⟩, Hk⟩
    obtain rfl := harg3.eq_unread hfT; obtain rfl := harg4.eq_unread hf0; obtain rfl := harg5.eq_unread hf1; obtain rfl := harg6.eq_unread hf2; obtain rfl := harg7.eq_unread hf3; obtain rfl := harg8.eq_unread hf4
    have e : arg3.view.readAt (Elt F) (Rect.unit (s := S1) ![0] S1.size inb_S1_S1_0).toLoadRect (harg3.unread T) (Shape.Idx.first (numel1_S1.symm ▸ Nat.one_pos)) = word (F := F) T := by
      rw [View.readAt_eq_ld, harg3.read_unread]
      refine congrArg T (funext fun a => Fin.ext ?_)
      have h : ∀ (x y : Nat), x < 1 → y < 1 → x = y := by omega
      match a with
      | ⟨0, _⟩ => exact h _ _ (Fin.isLt _) Nat.one_pos
    rw [← e] at h1 h2 h3
    sl_exec (disch := first | exact h1 | exact h2 | exact h3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [HT]
    · iexists _; isplitr; · ipureintro; exact harg3.read_unread _
      iexact HT
    iexists _; isplitr; · ipureintro; exact harg8.read_unread _
    iexact H4

end Cert.Proof.Experts

end
-- ==== Proof.ExpertsTables.lean ====
module

public import proofs.«01_k».proof.Proof.ExpertsRunA

/-! # What the expert kernel's tables decide

`te` names the expert of every tile of 512 rows, and one word `nu` says how many leading tiles are in use.
The body's three conditions, and the block every window is on, in terms of them. -/

@[expose] public section

set_option maxRecDepth 16384

noncomputable section

namespace Cert.Proof.Experts

open Cert.Kernel3Ideal Cert.Kernel3Ideal.Gen
open Idealize.ShloMosaic Idealize.ShloMosaic.TcCoe

variable {F : FTy → Type} [FloatOps F]

/-- Whether the tile of the point `i` is one of the first `v`. -/
def used (i : grid0.Coords) (v : BitVec 32) : Bool := (BitVec.ofNat 32 (i 0).val).slt v

/-- The two values of the second coordinate. -/
theorem half_cases (i : grid0.Coords) : (i 1).val = 0 ∨ (i 1).val = 1 := by
  have h : (i 1).val < 2 := (i 1).isLt
  omega

theorem cond1_iff (i : grid0.Coords) (v : BitVec 32) : k0_cond1 i v = 1#1 ↔ used i v = true ∧ (i 1).val = 0 := by
  have e : Scalar.cmpi .slt (BitVec.ofNat 32 (i 0).val) v = BitVec.ofBool (used i v) := rfl
  unfold k0_cond1
  simp only [e]
  rcases half_cases i with h | h <;> rw [h] <;> cases used i v <;> decide

theorem cond2_iff (i : grid0.Coords) (v : BitVec 32) : k0_cond2 i v = 1#1 ↔ used i v = true ∧ (i 1).val = 1 := by
  have e : Scalar.cmpi .slt (BitVec.ofNat 32 (i 0).val) v = BitVec.ofBool (used i v) := rfl
  unfold k0_cond2
  simp only [e]
  rcases half_cases i with h | h <;> rw [h] <;> cases used i v <;> decide

theorem cond3_iff (i : grid0.Coords) (v : BitVec 32) : k0_cond3 i v = 1#1 ↔ used i v = false ∧ (i 1).val = 0 := by
  have e : Scalar.cmpi .slt (BitVec.ofNat 32 (i 0).val) v = BitVec.ofBool (used i v) := rfl
  unfold k0_cond3
  simp only [e]
  rcases half_cases i with h | h <;> rw [h] <;> cases used i v <;> decide

/-- The one word of the second table, as an index map reads it. -/
theorem at_word (pf : pre0.Contents (Elt F)) (inb : ∀ a, (![0] : Fin 1 → Nat) a + S1.size a ≤ S1.size a) (h1 : S1.numel = 1) :
    pf.at 1 (Rect.unit (s := S1) ![0] S1.size inb) h1 = word (F := F) (pf 1) := by
  refine congrArg (pf 1) (funext fun a => Fin.ext ?_)
  have h : ∀ (x y : Nat), x < 1 → y < 1 → x = y := by omega
  match a with
  | ⟨0, _⟩ => exact h _ _ (Fin.isLt _) Nat.one_pos

/-- … and as the idle test reads it. -/
theorem atD_word (pf : pre0.Contents (Elt F)) : pf.atD 1 ![0] = word (F := F) (pf 1) :=
  dif_pos (by decide)

/-- The word of the first table for tile `k`. -/
abbrev expertOf (T : Vec F S72 .i32) (k : Fin 72) : BitVec 32 := T (fun | ⟨0, _⟩ => k)

/-- What the index maps read for the tile of the point `i`. -/
theorem at_expert (pf : pre0.Contents (Elt F)) (i : grid0.Coords) (inb : ∀ a, (k0_off1 i) a + S1.size a ≤ S72.size a) (h1 : S1.numel = 1) :
    pf.at 0 (Rect.unit (s := S72) (k0_off1 i) S1.size inb) h1 = expertOf (F := F) (pf 0) (i 0) := by
  refine congrArg (pf 0) (funext fun a => Fin.ext ?_)
  have hk : (k0_off1 i) 0 = (i 0).val := by
    have : (i 0).val < 72 := (i 0).isLt
    show (BitVec.ofNat 32 (i 0).val).toNat = _
    rw [BitVec.toNat_ofNat]; omega
  match a with
  | ⟨0, _⟩ =>
    refine (Rect.emb_apply _ _ _).trans ?_
    show (k0_off1 i) 0 + 1 * _ = (i 0).val
    rw [hk]
    have h : ∀ (x y : Nat), x < 1 → y + 1 * x = y := by omega
    exact h _ _ (Fin.isLt _)

/-- Whether the tile is in use, in numbers. -/
theorem used_iff (i : grid0.Coords) (v : BitVec 32) (hv : v.toNat ≤ 72) : used i v = true ↔ (i 0).val < v.toNat := by
  have h : (i 0).val < 72 := (i 0).isLt
  unfold used
  rw [BitVec.slt_eq_decide, decide_eq_true_eq, BitVec.toInt_eq_toNat_cond, BitVec.toInt_eq_toNat_cond, BitVec.toNat_ofNat]
  omega

/-- The half a tile's weights are on: its own in use, the second half otherwise (the block stays where it was). -/
def halfOf (i : grid0.Coords) (v : BitVec 32) : Nat := if used i v then (i 1).val else 1

theorem halfOf_lt (i : grid0.Coords) (v : BitVec 32) : halfOf i v < 2 := by
  unfold halfOf; split
  · exact (i 1).isLt
  · decide

theorem half_word (i : grid0.Coords) (v : BitVec 32) :
    (Scalar.select (Scalar.cmpi .slt (BitVec.ofNat 32 (i 0).val) v) (BitVec.ofNat 32 (i 1).val) 1#32).toNat = halfOf i v := by
  have e : Scalar.cmpi .slt (BitVec.ofNat 32 (i 0).val) v = BitVec.ofBool (used i v) := rfl
  unfold halfOf
  rw [e]
  rcases half_cases i with h | h <;> rw [h] <;> cases used i v <;> decide

/-- The row block a point's tile is on. -/
def rowOf (i : grid0.Coords) (v : BitVec 32) : Nat := (Scalar.minsi (BitVec.ofNat 32 (i 0).val) (Scalar.subi v 1#32)).toNat

theorem rowOf_used (i : grid0.Coords) (v : BitVec 32) (h1 : 1 ≤ v.toNat) (hv : v.toNat ≤ 72) (hu : used i v = true) : rowOf i v = (i 0).val := by
  have h := (used_iff i v hv).mp hu
  have hs : (Scalar.subi v 1#32).toNat = v.toNat - 1 := by
    show (v - 1#32).toNat = _
    rw [BitVec.toNat_sub, BitVec.toNat_ofNat]; omega
  have hi : (BitVec.ofNat 32 (i 0).val).toNat = (i 0).val := by rw [BitVec.toNat_ofNat]; omega
  unfold rowOf
  show (if (BitVec.ofNat 32 (i 0).val).slt (Scalar.subi v 1#32) then _ else _ : BitVec 32).toNat = _
  split
  · exact hi
  · rename_i hn
    rw [BitVec.slt_eq_decide, decide_eq_true_eq, BitVec.toInt_eq_toNat_cond, BitVec.toInt_eq_toNat_cond, hs, hi] at hn
    rw [hs]; omega

theorem rowOf_lt (i : grid0.Coords) (v : BitVec 32) (h1 : 1 ≤ v.toNat) (hv : v.toNat ≤ 72) : rowOf i v < 72 := by
  have h : (i 0).val < 72 := (i 0).isLt
  have hs : (Scalar.subi v 1#32).toNat = v.toNat - 1 := by
    show (v - 1#32).toNat = _
    rw [BitVec.toNat_sub, BitVec.toNat_ofNat]; omega
  have hi : (BitVec.ofNat 32 (i 0).val).toNat = (i 0).val := by rw [BitVec.toNat_ofNat]; omega
  unfold rowOf
  show (if (BitVec.ofNat 32 (i 0).val).slt (Scalar.subi v 1#32) then _ else _ : BitVec 32).toNat < _
  split
  · omega
  · omega

variable (pf : pre0.Contents (Elt F)) (i : grid0.Coords)

/-- The five windows' blocks at the point `i`. -/
theorem transform0_eq : cc0_transform_0 inb_S1_S1_0 numel1_S1 pf i = ![rowOf i (word (F := F) (pf 1)), 0] := by
  unfold cc0_transform_0
  simp only [at_word]
  rfl

theorem transform1_eq : cc0_transform_1 k0_off1_inb numel1_S1 inb_S1_S1_0 pf i
    = ![(expertOf (F := F) (pf 0) (i 0)).toNat, 0, halfOf i (word (F := F) (pf 1))] := by
  rw [← half_word, ← at_expert pf i (k0_off1_inb i) numel1_S1]
  unfold cc0_transform_1
  simp only [at_word]
  rfl

theorem transform2_eq : cc0_transform_2 k0_off1_inb numel1_S1 inb_S1_S1_0 pf i
    = ![(expertOf (F := F) (pf 0) (i 0)).toNat, 0, halfOf i (word (F := F) (pf 1))] := by
  rw [← half_word, ← at_expert pf i (k0_off1_inb i) numel1_S1]
  unfold cc0_transform_2
  simp only [at_word]
  rfl

theorem transform3_eq : cc0_transform_3 k0_off1_inb numel1_S1 inb_S1_S1_0 pf i
    = ![(expertOf (F := F) (pf 0) (i 0)).toNat, halfOf i (word (F := F) (pf 1)), 0] := by
  rw [← half_word, ← at_expert pf i (k0_off1_inb i) numel1_S1]
  unfold cc0_transform_3
  simp only [at_word]
  rfl

/-- With every tile on one of the eight experts and at least one tile in use, every block lies in its array. -/
theorem ok_of_ranges (h0 : ∀ k, (expertOf (F := F) (pf 0) k).toNat < 8) (h1 : 1 ≤ (word (F := F) (pf 1)).toNat)
    (h2 : (word (F := F) (pf 1)).toNat ≤ 72) : ok0 pf := by
  have hE : ∀ i : grid0.Coords, (expertOf (F := F) (pf 0) (i 0)).toNat < 8 := fun i => h0 _
  have hH : ∀ i : grid0.Coords, halfOf i (word (F := F) (pf 1)) < 2 := fun i => halfOf_lt _ _
  have hR : ∀ i : grid0.Coords, rowOf i (word (F := F) (pf 1)) < 72 := fun i => rowOf_lt _ _ h1 h2
  refine ⟨fun i => ⟨?_, .inl rfl⟩, fun i => ⟨?_, .inr ?_⟩, fun i => ⟨?_, .inr ?_⟩, fun i => ⟨?_, .inr ?_⟩⟩
  · rw [transform0_eq]; have := hR i
    intro a; fin_cases a
    · show (rowOf i _ + 1) * 512 ≤ 36864; omega
    · show (0 + 1) * 1024 ≤ 1024; decide
  · rw [transform1_eq]; have := hE i; have := hH i
    intro a; fin_cases a
    · show ((expertOf (F := F) (pf 0) (i 0)).toNat + 1) * 1 ≤ 8; omega
    · show (0 + 1) * 1024 ≤ 1024; decide
    · show (halfOf i _ + 1) * 1792 ≤ 3584; omega
  · refine .inl (.inr ⟨(by decide : 2 ≤ 3), rfl, .inl ⟨?_, ?_⟩⟩)
    · exact Dvd.dvd.mul_left (by decide : 2 ∣ 1024) _
    · exact (by decide : 2 ∣ 1024)
  · rw [transform2_eq]; have := hE i; have := hH i
    intro a; fin_cases a
    · show ((expertOf (F := F) (pf 0) (i 0)).toNat + 1) * 1 ≤ 8; omega
    · show (0 + 1) * 1024 ≤ 1024; decide
    · show (halfOf i _ + 1) * 1792 ≤ 3584; omega
  · refine .inl (.inr ⟨(by decide : 2 ≤ 3), rfl, .inl ⟨?_, ?_⟩⟩)
    · exact Dvd.dvd.mul_left (by decide : 2 ∣ 1024) _
    · exact (by decide : 2 ∣ 1024)
  · rw [transform3_eq]; have := hE i; have := hH i
    intro a; fin_cases a
    · show ((expertOf (F := F) (pf 0) (i 0)).toNat + 1) * 1 ≤ 8; omega
    · show (halfOf i _ + 1) * 1792 ≤ 3584; omega
    · show (0 + 1) * 1024 ≤ 1024; decide
  · refine .inl (.inr ⟨(by decide : 2 ≤ 3), rfl, .inl ⟨?_, ?_⟩⟩)
    · exact Dvd.dvd.mul_left (by decide : 2 ∣ 1792) _
    · exact (by decide : 2 ∣ 1792)

end Cert.Proof.Experts

end
-- ==== Proof.ExpertsFrame.lean ====
module

public import proofs.«01_k».proof.Proof.ExpertsRunB
public import proofs.«01_k».proof.Proof.ExpertsRunC
public import proofs.«01_k».proof.Proof.ExpertsTables
public import Idealize.ShloMosaic.Lib.Claim
public import Idealize.ShloMosaic.Lib.VecWindow
public import Idealize.ShloMosaic.Lib.Pipeline.Frame

/-! # The expert kernel runs, and leaves its arguments as they were

The grid has 72 tiles of 512 rows, each met twice, once for each half of the hidden layer. At a tile in use the first
meeting stores the block and the second adds to it. At a tile not in use the first meeting stores zeros and the second
does nothing. The block is written back after the second meeting. -/

@[expose] public section

set_option maxRecDepth 16384

noncomputable section

namespace Cert.Proof.Experts

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (b : (pcfg0 (F := F)).Adm)

/-! ## The grid -/

theorem coords_tile : ∀ t : Fin grid0.N, (grid0.coords t 0).val = t.val / 2 := by decide +kernel
theorem coords_half : ∀ t : Fin grid0.N, (grid0.coords t 1).val = t.val % 2 := by decide +kernel

/-- The result's block is written back after the second meeting of its tile, and only then. -/
theorem flush_at : ∀ t : Fin grid0.N, Window.flushOf grid0 true cc0_transform_4 t = decide (t.val % 2 = 1) := by
  decide +kernel

/-- The point before `t` (itself, at the first). -/
def before_ (t : Fin grid0.N) : Fin grid0.N := ⟨t.val - 1, Nat.lt_of_le_of_lt (Nat.sub_le _ _) t.isLt⟩

/-! ## The contents when the pipeline begins -/

/-- The buffers after the host's three casts. -/
def V (c : Dev nD) (r : Ref sig .tc) : Buf (Elt F) ((c : Thread nD τ).loc r) :=
  StableHlo.after hostOps0 (fun r => m (c, r)) (Proc.devRef .tc r)

theorem V_of_ne (c : Dev nD) (r : Ref sig .tc) (h0 : r ≠ main_v0) (h1 : r ≠ main_v1) (h2 : r ≠ main_v2) :
    V m c r = m ((c : Thread nD τ).loc r) := by
  refine StableHlo.after_of_forall_not_mem (b := Proc.devRef .tc r) _ _ (List.forall_iff_forall_mem.mp ?_)
  simp only [hostOps0, List.Forall, StableHlo.unary_writes, Finset.mem_singleton]
  exact ⟨StableHlo.devRef_ne_of_ne h0, StableHlo.devRef_ne_of_ne h1, StableHlo.devRef_ne_of_ne h2⟩

/-- The block of window `w` at the point `t`. -/
def iblk (c : Dev nD) (w : Fin 5) (t : Fin grid0.N) : Vec F ((cfg0 b).win w).block ((cfg0 b).win w).elt :=
  (((cfg0 b).win w).blk t).view.read (Elt F) (V m c (Pipeline.arrRef spec0 w))

/-! ## The staging buffers the body is given -/

abbrev ms0 (t : Fin grid0.N) : Memref sig .tc .vmem S512x1024 .f32 := spec0_0.stage ((cfg0 b).slots t 0)
abbrev hs0 (t : Fin grid0.N) : (ms0 b t).IsWhole := hstage0_0 (((cfg0 b).slots t 0).cast nbuf0_0)
abbrev ms1 (t : Fin grid0.N) : Memref sig .tc .vmem S1x1024x1792 .bf16 := spec0_1.stage ((cfg0 b).slots t 1)
abbrev hs1 (t : Fin grid0.N) : (ms1 b t).IsWhole := hstage0_1 (((cfg0 b).slots t 1).cast nbuf0_1)
abbrev ms2 (t : Fin grid0.N) : Memref sig .tc .vmem S1x1024x1792 .bf16 := spec0_2.stage ((cfg0 b).slots t 2)
abbrev hs2 (t : Fin grid0.N) : (ms2 b t).IsWhole := hstage0_2 (((cfg0 b).slots t 2).cast nbuf0_2)
abbrev ms3 (t : Fin grid0.N) : Memref sig .tc .vmem S1x1792x1024 .bf16 := spec0_3.stage ((cfg0 b).slots t 3)
abbrev hs3 (t : Fin grid0.N) : (ms3 b t).IsWhole := hstage0_3 (((cfg0 b).slots t 3).cast nbuf0_3)
abbrev ms4 (t : Fin grid0.N) : Memref sig .tc .vmem S512x1024 .f32 := spec0_4.stage ((cfg0 b).slots t 4)
abbrev hs4 (t : Fin grid0.N) : (ms4 b t).IsWhole := hstage0_4 (((cfg0 b).slots t 4).cast nbuf0_4)
abbrev mt0 : Memref sig .tc .smem S72 .i32 := Memref.whole main_arg1
abbrev mt1 : Memref sig .tc .smem S1 .i32 := Memref.whole main_arg2

/-- A view through which the block stored is read (which one does not matter). -/
abbrev VO : View sig .tc .vmem S512x1024 .f32 := (Memref.whole cc0_stg4_0 : Memref sig .tc .vmem S512x1024 .f32).view

/-- The word that counts the tiles in use. -/
abbrev nu : BitVec 32 := word (F := F) (b.1 1)

/-! ## What the result's block holds after a point -/

/-- The run at the first meeting of a tile in use. -/
def theA (c : Dev nD) (t : Fin grid0.N) (hu : used (grid0.coords t) (nu b) = true) (h0 : (grid0.coords t 1).val = 0) :=
  runA (F := F) c (grid0.coords t) (b.1 1) mt0 (Memref.isWhole_whole _) mt1 (Memref.isWhole_whole _) (ms0 b t) (hs0 b t) (ms1 b t) (hs1 b t)
    (ms2 b t) (hs2 b t) (ms3 b t) (hs3 b t) (ms4 b t) (hs4 b t) (iblk m b c 0 t) (iblk m b c 1 t) (iblk m b c 2 t) (iblk m b c 3 t)
    ((cond1_iff _ _).mpr ⟨hu, h0⟩) (fun h => by have := ((cond2_iff _ _).mp h).2; omega)
    (fun h => by have := ((cond3_iff _ _).mp h).1; rw [hu] at this; cases this)

/-- The run at the second meeting of a tile in use, over what the first has left. -/
def theB (c : Dev nD) (t : Fin grid0.N) (x4 : Vec F S512x1024 .f32) (hu : used (grid0.coords t) (nu b) = true) (h1 : (grid0.coords t 1).val = 1) :=
  runB (F := F) c (grid0.coords t) (b.1 1) mt0 (Memref.isWhole_whole _) mt1 (Memref.isWhole_whole _) (ms0 b t) (hs0 b t) (ms1 b t) (hs1 b t)
    (ms2 b t) (hs2 b t) (ms3 b t) (hs3 b t) (ms4 b t) (hs4 b t) (iblk m b c 0 t) (iblk m b c 1 t) (iblk m b c 2 t) (iblk m b c 3 t) x4
    (fun h => by have := ((cond1_iff _ _).mp h).2; omega) ((cond2_iff _ _).mpr ⟨hu, h1⟩)
    (fun h => by have := ((cond3_iff _ _).mp h).1; rw [hu] at this; cases this)

/-- The run at the first meeting of a tile not in use. -/
def theC (c : Dev nD) (t : Fin grid0.N) (hu : used (grid0.coords t) (nu b) = false) (h0 : (grid0.coords t 1).val = 0) :=
  runC (F := F) c (grid0.coords t) (b.1 1) mt0 (Memref.isWhole_whole _) mt1 (Memref.isWhole_whole _) (ms0 b t) (hs0 b t) (ms1 b t) (hs1 b t)
    (ms2 b t) (hs2 b t) (ms3 b t) (hs3 b t) (ms4 b t) (hs4 b t) (iblk m b c 0 t) (iblk m b c 1 t) (iblk m b c 2 t) (iblk m b c 3 t)
    (fun h => by have := ((cond1_iff _ _).mp h).1; rw [hu] at this; cases this)
    (fun h => by have := ((cond2_iff _ _).mp h).1; rw [hu] at this; cases this)
    ((cond3_iff _ _).mpr ⟨hu, h0⟩)

theorem coverA (c : Dev nD) (t : Fin grid0.N) (hu : used (grid0.coords t) (nu b) = true) (h0 : (grid0.coords t 1).val = 0) (y : S512x1024.Idx) :
    ∃ pc ∈ (theA m b c t hu h0).1, y ∈ pc.1.set :=
  View.cover_of_tiledL (theA m b c t hu h0).1 S512x1024.size (by sl_kernel_rfl) y

theorem coverB (c : Dev nD) (t : Fin grid0.N) (x4 : Vec F S512x1024 .f32) (hu : used (grid0.coords t) (nu b) = true) (h1 : (grid0.coords t 1).val = 1)
    (y : S512x1024.Idx) : ∃ pc ∈ (theB m b c t x4 hu h1).1, y ∈ pc.1.set :=
  View.cover_of_tiledL (theB m b c t x4 hu h1).1 S512x1024.size (by sl_kernel_rfl) y

theorem coverC (c : Dev nD) (t : Fin grid0.N) (hu : used (grid0.coords t) (nu b) = false) (h0 : (grid0.coords t 1).val = 0) (y : S512x1024.Idx) :
    ∃ pc ∈ (theC m b c t hu h0).1, y ∈ pc.1.set :=
  View.cover_of_tiledL (theC m b c t hu h0).1 S512x1024.size (by sl_kernel_rfl) y

/-- What the run at the first meeting of a tile not in use leaves is the zeros it stores. -/
theorem zeros_C (c : Dev nD) (t : Fin grid0.N) (hu : used (grid0.coords t) (nu b) = false) (h0 : (grid0.coords t 1).val = 0) :
    VO.read (Elt F) (VO.writes (Elt F) VO.junk (theC m b c t hu h0).1) = k0_pay3 := by
  unfold theC runC
  dsimp only
  exact View.read_writes_full VO VO.junk _ _ []

/-- After the first meeting of the tile of `t`. -/
def firstAt (c : Dev nD) (t : Fin grid0.N) : Vec F S512x1024 .f32 :=
  if h : used (grid0.coords t) (nu b) = true ∧ (grid0.coords t 1).val = 0 then
    VO.read (Elt F) (VO.writes (Elt F) VO.junk (theA m b c t h.1 h.2).1)
  else k0_pay3

/-- After the point `t`. -/
def outsAt (c : Dev nD) (t : Fin grid0.N) : Vec F S512x1024 .f32 :=
  if h : used (grid0.coords t) (nu b) = true ∧ (grid0.coords t 1).val = 1 then
    VO.read (Elt F) (VO.writes (Elt F) VO.junk (theB m b c t (firstAt m b c (before_ t)) h.1 h.2).1)
  else firstAt m b c t

/-! ## The pipeline's proof data -/

def dat (c : Dev nD) : Dat τ (Elt F) Unit ℕ (UR sig nD τ) ℕ (cfg0 b) c where
  A w := V m c (Pipeline.arrRef spec0 w)
  after w t := match w with
    | ⟨0, _⟩ => iblk m b c 0 t
    | ⟨1, _⟩ => iblk m b c 1 t
    | ⟨2, _⟩ => iblk m b c 2 t
    | ⟨3, _⟩ => iblk m b c 3 t
    | ⟨4, _⟩ => outsAt m b c t
  Φ _ := iprop(Pipeline.ΦA spec0 c ∗ Pipeline.ΦT pre0 b.1 c)
  q _ := fullShare
  owed _ := 0

theorem A_eq (c : Dev nD) (w : Fin 5) : (dat m b c).A w = V m c (Pipeline.arrRef spec0 w) := rfl
theorem after0 (c : Dev nD) (t : Fin grid0.N) : (dat m b c).after 0 t = iblk m b c 0 t := rfl
theorem after1 (c : Dev nD) (t : Fin grid0.N) : (dat m b c).after 1 t = iblk m b c 1 t := rfl
theorem after2 (c : Dev nD) (t : Fin grid0.N) : (dat m b c).after 2 t = iblk m b c 2 t := rfl
theorem after3 (c : Dev nD) (t : Fin grid0.N) : (dat m b c).after 3 t = iblk m b c 3 t := rfl
theorem after4 (c : Dev nD) (t : Fin grid0.N) : (dat m b c).after 4 t = outsAt m b c t := rfl

theorem before0 (c : Dev nD) (t : Fin grid0.N) (d) : (dat m b c).before 0 t d = iblk m b c 0 t :=
  ((dat m b c).before_in_eq_fetched 0 rfl (fun _ => rfl) (fun _ _ _ => rfl)
    (fun t => by rw [after0]; unfold Dat.blockOf iblk; rw [A_eq]; try rfl) t d).trans (by unfold Dat.fetched Dat.blockOf iblk; rw [A_eq]; try rfl)
theorem before1 (c : Dev nD) (t : Fin grid0.N) (d) : (dat m b c).before 1 t d = iblk m b c 1 t :=
  ((dat m b c).before_in_eq_fetched 1 rfl (fun _ => rfl) (fun _ _ _ => rfl)
    (fun t => by rw [after1]; unfold Dat.blockOf iblk; rw [A_eq]; try rfl) t d).trans (by unfold Dat.fetched Dat.blockOf iblk; rw [A_eq]; try rfl)
theorem before2 (c : Dev nD) (t : Fin grid0.N) (d) : (dat m b c).before 2 t d = iblk m b c 2 t :=
  ((dat m b c).before_in_eq_fetched 2 rfl (fun _ => rfl) (fun _ _ _ => rfl)
    (fun t => by rw [after2]; unfold Dat.blockOf iblk; rw [A_eq]; try rfl) t d).trans (by unfold Dat.fetched Dat.blockOf iblk; rw [A_eq]; try rfl)
theorem before3 (c : Dev nD) (t : Fin grid0.N) (d) : (dat m b c).before 3 t d = iblk m b c 3 t :=
  ((dat m b c).before_in_eq_fetched 3 rfl (fun _ => rfl) (fun _ _ _ => rfl)
    (fun t => by rw [after3]; unfold Dat.blockOf iblk; rw [A_eq]; try rfl) t d).trans (by unfold Dat.fetched Dat.blockOf iblk; rw [A_eq]; try rfl)

/-- The result's window is written back at the odd points. -/
theorem flush4 (t : Fin grid0.N) : ((cfg0 b).win 4).flush t = decide (t.val % 2 = 1) := flush_at t

/-- The body leaves the result's buffer alone at the second meeting of a tile not in use, and only there. -/
theorem idle4 (t : Fin grid0.N) :
    (cfg0 b).idle 4 (grid0.coords t) = (!(used (grid0.coords t) (nu b)) && decide ((grid0.coords t 1).val = 1)) := by
  have e : (cfg0 b).idle 4 (grid0.coords t) = (!(k0_cond1 (grid0.coords t) (b.1.atD 1 ![0]) == 1#1)
      && !(k0_cond2 (grid0.coords t) (b.1.atD 1 ![0]) == 1#1) && !(k0_cond3 (grid0.coords t) (b.1.atD 1 ![0]) == 1#1)) := rfl
  rw [e, atD_word b.1, Bool.eq_iff_iff]
  simp only [Bool.and_eq_true, Bool.not_eq_true', beq_eq_false_iff_ne, ne_eq, cond1_iff, cond2_iff, cond3_iff, decide_eq_true_eq]
  rcases half_cases (grid0.coords t) with h | h <;> cases used (grid0.coords t) (nu b) <;> simp [h]

/-- At a second meeting the result's buffer holds what the first has left. -/
theorem before4 (c : Dev nD) (t : Fin grid0.N) (h : (grid0.coords t 1).val = 1) (d) :
    (dat m b c).before 4 t d = firstAt m b c (before_ t) := by
  have ht : t.val % 2 = 1 := (coords_half t).symm.trans h
  have hp : (before_ t).val % 2 = 0 := by show (t.val - 1) % 2 = 0; omega
  have hc : (grid0.coords (before_ t) 1).val = 0 := (coords_half _).trans hp
  have hfl : ((cfg0 b).win 4).flush (before_ t) = false := by rw [flush4]; simp [hp]
  have hid : (cfg0 b).idle 4 (grid0.coords (before_ t)) = false := by rw [idle4, hc]; simp
  refine ((dat m b c).before_of_pos 4 t (by omega) rfl d).trans ?_
  show (if ((cfg0 b).win 4).flush (before_ t) then d else (dat m b c).left 4 (before_ t) d) = _
  rw [hfl]
  simp only [Bool.false_eq_true, if_false]
  unfold Dat.left
  show (match (cfg0 b).idle 4 (grid0.coords (before_ t)) with | true => _ | false => _) = _
  rw [hid]
  show (dat m b c).kept 4 (before_ t) d = _
  unfold Dat.kept
  show (dat m b c).after 4 (before_ t) = _
  rw [after4]; unfold outsAt
  rw [dif_neg (by omega)]

/-! ## The body at a point -/

/-- The core's invariant, its tables one by one. -/
theorem tables_eq (c : Dev nD) : (Pipeline.ΦT pre0 b.1 c : sProp 𝕄)
    = iprop(owns (c : Thread nD τ) mt0 fullShare.right (b.1 0) ∗ owns (c : Thread nD τ) mt1 fullShare.right (b.1 1)) := by
  unfold Pipeline.ΦT Pipeline.prefHeld
  rw [bigSep_univ_eq_bigSepL [(0 : Fin 2), (1 : Fin 2)] (by decide) (by decide)]
  exact congrArg₂ (fun x y : sProp 𝕄 => iprop(x ∗ y))
    (owns_whole (c : Thread nD τ) main_arg1 fullShare.right (b.1 0)).symm (owns_whole (c : Thread nD τ) main_arg2 fullShare.right (b.1 1)).symm

/-- What the body leaves in the result's buffer, idle or not: at an idle point the buffer is written back. -/
theorem leaves4 (c : Dev nD) (t : Fin grid0.N) :
    ((match (cfg0 b).idle 4 (grid0.coords t) with
      | true => match ((cfg0 b).win 4).flush t with
        | false => iprop(∃ d, owns (c : Thread nD τ) (ms4 b t) fullShare ((dat m b c).before 4 t d))
        | true => owns (c : Thread nD τ) (ms4 b t) fullShare ((dat m b c).after 4 t)
      | false => owns (c : Thread nD τ) (ms4 b t) fullShare ((dat m b c).after 4 t)) : sProp 𝕄)
      = owns (c : Thread nD τ) (ms4 b t) fullShare ((dat m b c).after 4 t) := by
  cases h : (cfg0 b).idle 4 (grid0.coords t) with
  | false => rfl
  | true =>
    rw [idle4, Bool.and_eq_true, decide_eq_true_eq] at h
    have hf : ((cfg0 b).win 4).flush t = true := by
      rw [flush4, decide_eq_true_eq]; exact (coords_half t).symm.trans h.2
    rw [hf]

abbrev bodyAt (t : Fin grid0.N) :=
  cc0_moe_experts (F := F) (grid0.coords t) mt0 (Memref.isWhole_whole _) mt1 (Memref.isWhole_whole _) (ms0 b t) (hs0 b t) (ms1 b t) (hs1 b t)
    (ms2 b t) (hs2 b t) (ms3 b t) (hs3 b t) (ms4 b t) (hs4 b t)

def bodyPre (c : Dev nD) (t : Fin grid0.N) : sProp 𝕄 :=
  iprop((dat m b c).Φ t.castSucc ∗ (dat m b c).owesAt () t.castSucc
    ∗ (∃ d, owns (c : Thread nD τ) (ms0 b t) fullShare ((dat m b c).before 0 t d))
    ∗ (∃ d, owns (c : Thread nD τ) (ms1 b t) fullShare ((dat m b c).before 1 t d))
    ∗ (∃ d, owns (c : Thread nD τ) (ms2 b t) fullShare ((dat m b c).before 2 t d))
    ∗ (∃ d, owns (c : Thread nD τ) (ms3 b t) fullShare ((dat m b c).before 3 t d))
    ∗ (∃ d, owns (c : Thread nD τ) (ms4 b t) fullShare ((dat m b c).before 4 t d)))

def bodyPost (c : Dev nD) (t : Fin grid0.N) : sProp 𝕄 :=
  iprop((dat m b c).Φ t.succ ∗ (dat m b c).owesAt () t.succ
    ∗ owns (c : Thread nD τ) (ms0 b t) fullShare ((dat m b c).after 0 t)
    ∗ owns (c : Thread nD τ) (ms1 b t) fullShare ((dat m b c).after 1 t)
    ∗ owns (c : Thread nD τ) (ms2 b t) fullShare ((dat m b c).after 2 t)
    ∗ owns (c : Thread nD τ) (ms3 b t) fullShare ((dat m b c).after 3 t)
    ∗ owns (c : Thread nD τ) (ms4 b t) fullShare ((dat m b c).after 4 t))

set_option maxHeartbeats 1600000 in
/-- The first meeting of a tile in use. -/
theorem sound_A (c : Dev nD) (t : Fin grid0.N) (hu : used (grid0.coords t) (nu b) = true) (h0 : (grid0.coords t 1).val = 0) :
    bodyPre m b c t ⊢ wp frame (wpE (defs₀ (F := F)) Variants.none c none) Set.univ (bodyAt b t) (fun _ => bodyPost m b c t) := by
  unfold bodyPre bodyPost
  simp only [before0, before1, before2, before3]
  rw [show (dat m b c).Φ t.succ = (dat m b c).Φ t.castSucc from rfl,
    show (dat m b c).owesAt () t.succ = (dat m b c).owesAt () t.castSucc from rfl, after0, after1, after2, after3, after4]
  rw [show (dat m b c).Φ t.castSucc = iprop(Pipeline.ΦA spec0 c ∗ Pipeline.ΦT pre0 b.1 c) from rfl, tables_eq]
  have e : outsAt m b c t = VO.read (Elt F) (VO.writes (Elt F) VO.junk (theA m b c t hu h0).1) := by
    unfold outsAt firstAt; rw [dif_neg (by omega), dif_pos ⟨hu, h0⟩]
  rw [e]
  iintro ⟨⟨HA, HT0, HT1⟩, Ho, ⟨%d0, H0⟩, ⟨%d1, H1⟩, ⟨%d2, H2⟩, ⟨%d3, H3⟩, ⟨%d4, H4⟩⟩
  iapply ((theA m b c t hu h0).2 Set.univ _)
  isplitl [H0]; · iexact H0
  isplitl [H1]; · iexact H1
  isplitl [H2]; · iexact H2
  isplitl [H3]; · iexact H3
  isplitl [HT1]; · iexact HT1
  isplitl [H4]; · iexists _; iexact H4
  iintro ⟨H0, H1, H2, H3, HT1, ⟨%e4, H4⟩⟩
  isplitl [HA HT0 HT1]
  · isplitl [HA]; · iexact HA
    isplitl [HT0]; · iexact HT0
    iexact HT1
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (coverA m b c t hu h0)

set_option maxHeartbeats 1600000 in
/-- The second meeting of a tile in use. -/
theorem sound_B (c : Dev nD) (t : Fin grid0.N) (hu : used (grid0.coords t) (nu b) = true) (h1 : (grid0.coords t 1).val = 1) :
    bodyPre m b c t ⊢ wp frame (wpE (defs₀ (F := F)) Variants.none c none) Set.univ (bodyAt b t) (fun _ => bodyPost m b c t) := by
  unfold bodyPre bodyPost
  simp only [before0, before1, before2, before3, before4 m b c t h1]
  rw [show (dat m b c).Φ t.succ = (dat m b c).Φ t.castSucc from rfl,
    show (dat m b c).owesAt () t.succ = (dat m b c).owesAt () t.castSucc from rfl, after0, after1, after2, after3, after4]
  rw [show (dat m b c).Φ t.castSucc = iprop(Pipeline.ΦA spec0 c ∗ Pipeline.ΦT pre0 b.1 c) from rfl, tables_eq]
  have e : outsAt m b c t = VO.read (Elt F) (VO.writes (Elt F) VO.junk (theB m b c t (firstAt m b c (before_ t)) hu h1).1) := by
    unfold outsAt; rw [dif_pos ⟨hu, h1⟩]
  rw [e]
  iintro ⟨⟨HA, HT0, HT1⟩, Ho, ⟨%d0, H0⟩, ⟨%d1, H1⟩, ⟨%d2, H2⟩, ⟨%d3, H3⟩, ⟨%d4, H4⟩⟩
  iapply ((theB m b c t (firstAt m b c (before_ t)) hu h1).2 Set.univ _)
  isplitl [H0]; · iexact H0
  isplitl [H1]; · iexact H1
  isplitl [H2]; · iexact H2
  isplitl [H3]; · iexact H3
  isplitl [HT1]; · iexact HT1
  isplitl [H4]; · iexact H4
  iintro ⟨H0, H1, H2, H3, HT1, ⟨%e4, H4⟩⟩
  isplitl [HA HT0 HT1]
  · isplitl [HA]; · iexact HA
    isplitl [HT0]; · iexact HT0
    iexact HT1
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (coverB m b c t _ hu h1)

set_option maxHeartbeats 1600000 in
/-- The first meeting of a tile not in use. -/
theorem sound_C (c : Dev nD) (t : Fin grid0.N) (hu : used (grid0.coords t) (nu b) = false) (h0 : (grid0.coords t 1).val = 0) :
    bodyPre m b c t ⊢ wp frame (wpE (defs₀ (F := F)) Variants.none c none) Set.univ (bodyAt b t) (fun _ => bodyPost m b c t) := by
  unfold bodyPre bodyPost
  simp only [before0, before1, before2, before3]
  rw [show (dat m b c).Φ t.succ = (dat m b c).Φ t.castSucc from rfl,
    show (dat m b c).owesAt () t.succ = (dat m b c).owesAt () t.castSucc from rfl, after0, after1, after2, after3, after4]
  rw [show (dat m b c).Φ t.castSucc = iprop(Pipeline.ΦA spec0 c ∗ Pipeline.ΦT pre0 b.1 c) from rfl, tables_eq]
  have e : outsAt m b c t = VO.read (Elt F) (VO.writes (Elt F) VO.junk (theC m b c t hu h0).1) := by
    rw [zeros_C]; unfold outsAt firstAt; rw [dif_neg (by omega), dif_neg (by rw [hu]; simp)]
  rw [e]
  iintro ⟨⟨HA, HT0, HT1⟩, Ho, ⟨%d0, H0⟩, ⟨%d1, H1⟩, ⟨%d2, H2⟩, ⟨%d3, H3⟩, ⟨%d4, H4⟩⟩
  iapply ((theC m b c t hu h0).2 Set.univ _)
  isplitl [H0]; · iexact H0
  isplitl [H1]; · iexact H1
  isplitl [H2]; · iexact H2
  isplitl [H3]; · iexact H3
  isplitl [HT1]; · iexact HT1
  isplitl [H4]; · iexists _; iexact H4
  iintro ⟨H0, H1, H2, H3, HT1, ⟨%e4, H4⟩⟩
  isplitl [HA HT0 HT1]
  · isplitl [HA]; · iexact HA
    isplitl [HT0]; · iexact HT0
    iexact HT1
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (coverC m b c t hu h0)

set_option maxHeartbeats 1600000 in
/-- The second meeting of a tile not in use. -/
theorem sound_D (c : Dev nD) (t : Fin grid0.N) (hu : used (grid0.coords t) (nu b) = false) (h1 : (grid0.coords t 1).val = 1) :
    bodyPre m b c t ⊢ wp frame (wpE (defs₀ (F := F)) Variants.none c none) Set.univ (bodyAt b t) (fun _ => bodyPost m b c t) := by
  unfold bodyPre bodyPost
  simp only [before0, before1, before2, before3, before4 m b c t h1]
  rw [show (dat m b c).Φ t.succ = (dat m b c).Φ t.castSucc from rfl,
    show (dat m b c).owesAt () t.succ = (dat m b c).owesAt () t.castSucc from rfl, after0, after1, after2, after3, after4]
  rw [show (dat m b c).Φ t.castSucc = iprop(Pipeline.ΦA spec0 c ∗ Pipeline.ΦT pre0 b.1 c) from rfl, tables_eq]
  have ht : t.val % 2 = 1 := (coords_half t).symm.trans h1
  have hp : (grid0.coords (before_ t) 0).val = (grid0.coords t 0).val := by
    rw [coords_tile, coords_tile]; show (t.val - 1) / 2 = t.val / 2; omega
  have hup : used (grid0.coords (before_ t)) (nu b) = false := by unfold used; rw [hp]; exact hu
  have e : outsAt m b c t = firstAt m b c (before_ t) := by
    unfold outsAt firstAt
    rw [dif_neg (by rw [hu]; simp), dif_neg (by rw [hu]; simp), dif_neg (by rw [hup]; simp)]
  rw [e]
  iintro ⟨⟨HA, HT0, HT1⟩, Ho, ⟨%d0, H0⟩, ⟨%d1, H1⟩, ⟨%d2, H2⟩, ⟨%d3, H3⟩, ⟨%d4, H4⟩⟩
  iapply (runD (F := F) c (grid0.coords t) (b.1 1) mt0 (Memref.isWhole_whole _) mt1 (Memref.isWhole_whole _) (ms0 b t) (hs0 b t) (ms1 b t) (hs1 b t)
    (ms2 b t) (hs2 b t) (ms3 b t) (hs3 b t) (ms4 b t) (hs4 b t) (iblk m b c 0 t) (iblk m b c 1 t) (iblk m b c 2 t) (iblk m b c 3 t)
    (firstAt m b c (before_ t)) (fun h => by have := ((cond1_iff _ _).mp h).1; rw [hu] at this; cases this)
    (fun h => by have := ((cond2_iff _ _).mp h).1; rw [hu] at this; cases this)
    (fun h => by have := ((cond3_iff _ _).mp h).2; omega) Set.univ _)
  isplitl [H0]; · iexact H0
  isplitl [H1]; · iexact H1
  isplitl [H2]; · iexact H2
  isplitl [H3]; · iexact H3
  isplitl [HT1]; · iexact HT1
  isplitl [H4]; · iexact H4
  iintro ⟨H0, H1, H2, H3, HT1, H4⟩
  isplitl [HA HT0 HT1]
  · isplitl [HA]; · iexact HA
    isplitl [HT0]; · iexact HT0
    iexact HT1
  isplitl [Ho]; · iexact Ho
  isplitl [H0]; · iexact H0
  isplitl [H1]; · iexact H1
  isplitl [H2]; · iexact H2
  isplitl [H3]; · iexact H3
  iexact H4

theorem sound_body (c : Dev nD) (t : Fin grid0.N) :
    bodyPre m b c t ⊢ wp frame (wpE (defs₀ (F := F)) Variants.none c none) Set.univ (bodyAt b t) (fun _ => bodyPost m b c t) := by
  cases hu : used (grid0.coords t) (nu b) with
  | true => exact (half_cases (grid0.coords t)).elim (sound_A m b c t hu) (sound_B m b c t hu)
  | false => exact (half_cases (grid0.coords t)).elim (sound_C m b c t hu) (sound_D m b c t hu)

theorem defs₀_row (t : Fin grid0.N) :
    defs₀ (F := F) .tc (cfg0 b).body ((cfg0 b).bodyArgs t ((cfg0 b).slots t)) = bodyAt b t := by
  unfold defs₀; rw [Defs.onTc_tc]

theorem body_obligation (c : Dev nD) : BodyObligation (dat m b c) (defs₀ (F := F)) Variants.none () Set.univ := fun t => by
  rw [bigSep_W0, bigSep_W0, defs₀_row]
  refine triple_restated (sound_body m b c t) rfl .rfl fun _ => ?_
  unfold bodyPost
  refine sep_mono .rfl (sep_mono .rfl (sep_mono .rfl (sep_mono .rfl (sep_mono .rfl (sep_mono .rfl ?_)))))
  exact Entails.of_eq (leaves4 m b c t).symm

/-! ## The launch -/

theorem hostOps0_fresh : (hostOps0 : List (HloOp τ sig (Elt F))).Forall fun op => op.fresh = ∅ := by
  simp only [List.Forall]; repeat' constructor

/-- The proof data at the tables' contents. -/
def dats (p : Fin 1) (c : Dev nD) : Dat τ (Elt F) Unit ℕ (UR sig nD τ) ℕ (Pipeline.pin (pcfgs (F := F)) (fun _ => b) p) c := dat m b c

set_option backward.isDefEq.respectTransparency.types false in
/-- Every run ends with each array at what the proof data say, and every counter at zero. -/
theorem run_main (hb : ∀ (c : Dev nD) k, m ((c : Thread nD τ).loc (pre0.ref k)) = b.1 k) :
    θ_run defs (onTc (τ := τ) (main (F := F))) (s₀ m ρ)
      (fun r => Pipeline.FramePost (Pipeline.pin (pcfgs (F := F)) (fun _ => b)) (dats m b) 0 (V m) r ∧ r.2.sem = fun _ => 0) :=
  Pipeline.θ_run_frameP (Q' := _) (pcfgs (F := F)) (fun _ => b) (dats m b) (0 : Fin 1) launch0 defs₀ Variants.none m ρ main
    (hbody := fun c => (body_obligation m b c).loose) (hshare := fun c => (dats m b 0 c).share_full fun _ => rfl)
    (howed := fun _ _ => rfl) (V := V m)
    (hmain := Pipeline.hmainP_prefix (pcfgs (F := F)) 0 defs₀ Variants.none m main hostOps0 hostOps0_sub hostOps0_fresh main_chain)
    (hA := A_eq m b)
    (hpf := fun c k => (by
      refine Eq.trans ?_ (hb c k)
      match k with
      | ⟨0, _⟩ => exact V_of_ne m c main_arg1 (by decide) (by decide) (by decide)
      | ⟨1, _⟩ => exact V_of_ne m c main_arg2 (by decide) (by decide) (by decide)))
    (hΦ := fun _ _ => rfl) (hQ' := fun _ h => h)

/-- After such a run the arguments are as they were. -/
theorem kept {r : PUnit × MemSt nD τ sig (Elt F)}
    (h : Pipeline.FramePost (Pipeline.pin (pcfgs (F := F)) (fun _ => b)) (dats m b) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
    ⟨((h c).1 0).trans (((dats m b 0 c).arrAt_in 0 rfl _).trans ((A_eq m b c 0).trans (V_of_ne m c main_arg0 (by decide) (by decide) (by decide)))),
      ((h c).2 main_arg1 (Pipeline.mem_restRefs_of main_arg1 (by decide) (show ∀ w : Fin 5, (spec0 w).arr.view.ref ≠ main_arg1 by decide))).trans (V_of_ne m c main_arg1 (by decide) (by decide) (by decide)),
      ((h c).2 main_arg2 (Pipeline.mem_restRefs_of main_arg2 (by decide) (show ∀ w : Fin 5, (spec0 w).arr.view.ref ≠ main_arg2 by decide))).trans (V_of_ne m c main_arg2 (by decide) (by decide) (by decide)),
      ((h c).2 main_arg3 (Pipeline.mem_restRefs_of main_arg3 (by decide) (show ∀ w : Fin 5, (spec0 w).arr.view.ref ≠ main_arg3 by decide))).trans (V_of_ne m c main_arg3 (by decide) (by decide) (by decide)),
      ((h c).2 main_arg4 (Pipeline.mem_restRefs_of main_arg4 (by decide) (show ∀ w : Fin 5, (spec0 w).arr.view.ref ≠ main_arg4 by decide))).trans (V_of_ne m c main_arg4 (by decide) (by decide) (by decide)),
      ((h c).2 main_arg5 (Pipeline.mem_restRefs_of main_arg5 (by decide) (show ∀ w : Fin 5, (spec0 w).arr.view.ref ≠ main_arg5 by decide))).trans (V_of_ne m c main_arg5 (by decide) (by decide) (by decide))⟩

/-- THE FRAME: every run ends, the arguments are unchanged and every counter is zero. -/
theorem frame_run (hb : ∀ (c : Dev nD) k, m ((c : Thread nD τ).loc (pre0.ref k)) = b.1 k) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ hr => ⟨kept m b hr.1, hr.2⟩) (run_main m ρ b hb)

end Cert.Proof.Experts

end
-- ==== Proof.ExpertsPre.lean ====
module

public import proofs.«01_k».proof.Proof.ExpertsFrame
public import proofs.«01_k».proof.Proof.Gen.Pre_table_ranges
public import proofs.«01_k».proof.Proof.Gen.Kernel3
public import Idealize.ShloMosaic.Lib.ReduceAll

/-! # The tables' ranges, and the expert kernel's two frames

The precondition says that every tile's expert is one of the eight and that the count of tiles in use lies between
one and seventy-two. -/

@[expose] public section

set_option maxRecDepth 16384

noncomputable section

namespace Cert.Proof.Experts

open Cert.Kernel3Ideal Cert.Kernel3Ideal.Gen
open Idealize.ShloMosaic Idealize.ShloMosaic.TcCoe
open Idealize.SL Idealize.SL.Sem

variable {F : FTy → Type} [FloatOps F]

instance : Subsingleton Cert.Pre_table_ranges.S_.Idx := ⟨fun a b => funext fun i => i.elim0⟩

theorem ofBool_one (p : Bool) : BitVec.ofBool p = 1#1 ↔ p = true := by cases p <;> decide

theorem expert_range (w : BitVec 32) (h : IntOp.andi (IntOp.cmpi .sge w 0#32) (IntOp.cmpi .slt w 8#32) = 1#1) : w.toNat < 8 := by
  obtain ⟨h1, h2⟩ := IntOp.andi_eq_one.1 h
  simp only [IntOp.cmpi, ofBool_one, Bool.and_eq_true, BitVec.sle_eq_decide, BitVec.slt_eq_decide, decide_eq_true_eq,
    BitVec.toInt_eq_toNat_cond, BitVec.toNat_ofNat, Nat.reducePow, Nat.reduceMod] at h1 h2
  have := w.isLt
  split at h1 <;> split at h2 <;> omega

theorem count_range (w : BitVec 32) (h : IntOp.andi (IntOp.cmpi .sge w 1#32) (IntOp.cmpi .sle w 72#32) = 1#1) : 1 ≤ w.toNat ∧ w.toNat ≤ 72 := by
  obtain ⟨h1, h2⟩ := IntOp.andi_eq_one.1 h
  simp only [IntOp.cmpi, ofBool_one, Bool.and_eq_true, BitVec.sle_eq_decide, BitVec.slt_eq_decide, decide_eq_true_eq,
    BitVec.toInt_eq_toNat_cond, BitVec.toNat_ofNat, Nat.reducePow, Nat.reduceMod] at h1 h2
  have := w.isLt
  split at h1 <;> split at h2 <;> omega

open Cert.Pre_table_ranges in
/-- What the precondition says of the two tables. -/
theorem ranges_of_pre (x0 : Vec F Cert.Pre_table_ranges.S36864x1024 .f32) (te : IVec Cert.Pre_table_ranges.S72 32) (n : IVec Cert.Pre_table_ranges.S1 32)
    (x3 x4 : Vec F Cert.Pre_table_ranges.S8x1024x3584 .f32) (x5 : Vec F Cert.Pre_table_ranges.S8x3584x1024 .f32)
    (h : Cert.Pre_table_ranges.fn (F := F) x0 te n x3 x4 x5 = fun _ => 1#1) :
    (∀ k, (te k).toNat < 8) ∧ ∀ k, 1 ≤ (n k).toNat ∧ (n k).toNat ≤ 72 := by
  have e := congrFun h (fun a => a.elim0)
  unfold Cert.Pre_table_ranges.fn at e
  obtain ⟨e1, e2⟩ := IntOp.andi_eq_one.1 e
  exact ⟨fun i => expert_range _ (Host.reduce_andi_all _ _ _ _ _ e1 i), fun i => count_range _ (Host.reduce_andi_all _ _ _ _ _ e2 i)⟩

/-- The precondition, at the one core's buffers. -/
def InRange (m : (ℓ : Loc nD τ sig) → Buf (Elt F) ℓ) : Prop :=
  ∀ c : Dev nD, Cert.Pre_table_ranges.fn (F := F) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) = fun _ => 1#1

/-- The tables' contents, with the proof that every block they choose lies in its array. -/
def tables (m : (ℓ : Loc nD τ sig) → Buf (Elt F) ℓ) (hp : InRange m) : (pcfg0 (F := F)).Adm :=
  ⟨fun k => m (((0 : Dev nD).tc : Thread nD τ).loc (pre0.ref k)), ok_of_ranges _
    (fun k => (ranges_of_pre _ _ _ _ _ _ (hp 0)).1 _) ((ranges_of_pre _ _ _ _ _ _ (hp 0)).2 _).1 ((ranges_of_pre _ _ _ _ _ _ (hp 0)).2 _).2⟩

theorem tables_at (m : (ℓ : Loc nD τ sig) → Buf (Elt F) ℓ) (hp : InRange m) (c : Dev nD) (k) :
    m ((c : Thread nD τ).loc (pre0.ref k)) = (tables m hp).1 k := by
  obtain rfl : c = 0 := Subsingleton.elim (α := Fin 1) _ _
  rfl

theorem frame_ideal : Cert.quiescent_Kernel3Ideal := fun m ρ hp => frame_run m ρ (tables m hp) (tables_at m hp)

/-- The frame's statement, at any values. -/
def Frame (F : FTy → Type) [FloatOps F] : Prop :=
  ∀ (m : (ℓ : Loc nD τ sig) → Buf (Elt F) ℓ) (ρ : Dev nD → PrngReg), InRange m →
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)

theorem frame_any : Frame F := fun m ρ hp => frame_run m ρ (tables m hp) (tables_at m hp)

/-- The two programs have the same text. -/
theorem same_text : Cert.quiescent_Kernel3 = Frame Bits := by sl_kernel_rfl

theorem frame_kernel : Cert.quiescent_Kernel3 := same_text.mpr frame_any

end Cert.Proof.Experts

end
-- ==== Proof.ExpertsPoint.lean ====
module

public import proofs.«01_k».proof.Proof.ExpertsFrame
public import proofs.«01_k».proof.Proof.Math

/-! # What the expert kernel computes at one point

Half of the hidden layer is 1792 positions, taken in seven chunks of 256. -/

@[expose] public section

set_option maxRecDepth 16384

noncomputable section

namespace Cert.Proof.Experts

open Cert.Kernel3Ideal Cert.Kernel3Ideal.Gen
open Idealize.ShloMosaic Idealize.ShloMosaic.TcCoe Cert.Proof.Math

theorem zero_off : (![0, 0] : Fin 2 → Nat) = fun _ => 0 := by funext a; fin_cases a <;> rfl

/-- A sum over 1792 positions, taken as seven sums over 256 consecutive ones added from the left. -/
theorem sum_1792 (g : Fin 1792 → EReal) : ∑ f, g f
    = (∑ u : Fin 256, g ⟨0 + u.val, by omega⟩) + (∑ u : Fin 256, g ⟨256 + u.val, by omega⟩)
      + (∑ u : Fin 256, g ⟨512 + u.val, by omega⟩) + (∑ u : Fin 256, g ⟨768 + u.val, by omega⟩)
      + (∑ u : Fin 256, g ⟨1024 + u.val, by omega⟩) + (∑ u : Fin 256, g ⟨1280 + u.val, by omega⟩)
      + (∑ u : Fin 256, g ⟨1536 + u.val, by omega⟩) := by
  rw [Fin.sum_univ_tiles 7 256 rfl g]
  simp only [Fin.sum_univ_castSucc (n := 6), Fin.sum_univ_castSucc (n := 5), Fin.sum_univ_castSucc (n := 4), Fin.sum_univ_castSucc (n := 3),
    Fin.sum_univ_castSucc (n := 2), Fin.sum_univ_castSucc (n := 1), Fin.sum_univ_castSucc (n := 0), Fin.sum_univ_zero, zero_add]
  rfl

/-- One row of half the gated layer. -/
def halfRow (x : Fin 1024 → EReal) (w1 w3 : Fin 1024 → Fin 1792 → EReal) (w2 : Fin 1792 → Fin 1024 → EReal) (d : Fin 1024) : EReal :=
  ∑ f, swi (∑ k, x k * w1 k f) (∑ k, x k * w3 k f) * w2 f d

/-- Columns `j` and on, 256 of them. -/
def cols (x : Vec Ideal S1x1024x1792 .bf16) (j : Nat) (h : j + 256 ≤ 1792) : Vec Ideal S1x1024x256 .bf16 :=
  fun i => x (ix3 0 (i 1) ⟨j + (i 2).val, by have : (i 2).val < 256 := (i 2).isLt; omega⟩)

/-- Rows `j` and on, 256 of them. -/
def rows (x : Vec Ideal S1x1792x1024 .bf16) (j : Nat) (h : j + 256 ≤ 1792) : Vec Ideal S1x256x1024 .bf16 :=
  fun i => x (ix3 0 ⟨j + (i 1).val, by have : (i 1).val < 256 := (i 1).isLt; omega⟩ (i 2))

/-- A chunk of 256 hidden positions out of the 1792, as a load of columns. -/
theorem ld_in (x : Vec Ideal S1x1024x1792 .bf16) (j : Nat) (h) :
    View.ld x (Rect.unit ![0, 0, j] ![1, 1024, 256] h) = cols x j (by have := h 2; exact this) := by
  funext i
  unfold View.ld cols
  congr 1
  funext a
  apply Fin.ext
  match a with
  | ⟨0, _⟩ => have : (i 0).val < 1 := (i 0).isLt; show 0 + 1 * (i 0).val = 0; omega
  | ⟨1, _⟩ => show 0 + 1 * (i 1).val = (i 1).val; omega
  | ⟨2, _⟩ => show j + 1 * (i 2).val = j + (i 2).val; omega

/-- The same of rows. -/
theorem ld_out (x : Vec Ideal S1x1792x1024 .bf16) (j : Nat) (h) :
    View.ld x (Rect.unit ![0, j, 0] ![1, 256, 1024] h) = rows x j (by have := h 1; exact this) := by
  funext i
  unfold View.ld rows
  congr 1
  funext a
  apply Fin.ext
  match a with
  | ⟨0, _⟩ => have : (i 0).val < 1 := (i 0).isLt; show 0 + 1 * (i 0).val = 0; omega
  | ⟨1, _⟩ => show j + 1 * (i 1).val = j + (i 1).val; omega
  | ⟨2, _⟩ => show 0 + 1 * (i 2).val = (i 2).val; omega

variable (m : (ℓ : Loc nD τ sig) → Buf (Elt Ideal) ℓ) (b : (pcfg0 (F := Ideal)).Adm)

set_option maxHeartbeats 2000000 in
/-- The first meeting of a tile in use leaves half the layer. -/
theorem outA_at (c : Dev nD) (t : Fin grid0.N) (hu : used (grid0.coords t) (nu b) = true) (h0 : (grid0.coords t 1).val = 0)
    (r : Fin 512) (d : Fin 1024) :
    VO.read (Elt Ideal) (VO.writes (Elt Ideal) VO.junk (theA m b c t hu h0).1) (ix2 r d)
      = halfRow (fun k => (iblk m b c 0 t : Vec Ideal S512x1024 .f32) (ix2 r k))
          (fun k f => (iblk m b c 1 t : Vec Ideal S1x1024x1792 .bf16) (ix3 0 k f))
          (fun k f => (iblk m b c 2 t : Vec Ideal S1x1024x1792 .bf16) (ix3 0 k f))
          (fun f d => (iblk m b c 3 t : Vec Ideal S1x1792x1024 .bf16) (ix3 0 f d)) d := by
  unfold theA
  generalize (iblk m b c 0 t : Vec Ideal S512x1024 .f32) = x0
  generalize (iblk m b c 1 t : Vec Ideal S1x1024x1792 .bf16) = x1
  generalize (iblk m b c 2 t : Vec Ideal S1x1024x1792 .bf16) = x2
  generalize (iblk m b c 3 t : Vec Ideal S1x1792x1024 .bf16) = x3
  unfold runA
  dsimp only
  refine (congrFun (View.read_writes_full VO VO.junk _ _ []) _).trans ?_
  simp only [runA.sl.r_1, runA.sl.r_2, runA.sl.r_3, runA.sl.r_4, runA.sl.r_5, runA.sl.r_6, runA.sl.r_7, runA.sl.r_8, runA.sl.r_9, runA.sl.r_10, runA.sl.r_11,
    View.readAt_eq_ld, Memref.IsWhole.read_unread, View.ld_unit_zero (S := S512x1024) zero_off, ld_in, ld_out]
  pointwise [k0_pay1, k0_pay4, k0_pay5, k0_pay6, k0_pay7, k0_pay8, k0_pay9, k0_pay10, k0_pay11, k0_pay12, k0_pay13, k0_pay14, runA.sl.cst_30]
  simp only [half_tanh]
  simp only [halfRow, sum_1792, swi, cols, rows, zero_add]
  rfl

set_option maxHeartbeats 2000000 in
/-- The second adds the other half. -/
theorem outB_at (c : Dev nD) (t : Fin grid0.N) (x4 : Vec Ideal S512x1024 .f32) (hu : used (grid0.coords t) (nu b) = true)
    (h1 : (grid0.coords t 1).val = 1) (r : Fin 512) (d : Fin 1024) :
    VO.read (Elt Ideal) (VO.writes (Elt Ideal) VO.junk (theB m b c t x4 hu h1).1) (ix2 r d)
      = x4 (ix2 r d) + halfRow (fun k => (iblk m b c 0 t : Vec Ideal S512x1024 .f32) (ix2 r k))
          (fun k f => (iblk m b c 1 t : Vec Ideal S1x1024x1792 .bf16) (ix3 0 k f))
          (fun k f => (iblk m b c 2 t : Vec Ideal S1x1024x1792 .bf16) (ix3 0 k f))
          (fun f d => (iblk m b c 3 t : Vec Ideal S1x1792x1024 .bf16) (ix3 0 f d)) d := by
  unfold theB
  generalize (iblk m b c 0 t : Vec Ideal S512x1024 .f32) = x0
  generalize (iblk m b c 1 t : Vec Ideal S1x1024x1792 .bf16) = x1
  generalize (iblk m b c 2 t : Vec Ideal S1x1024x1792 .bf16) = x2
  generalize (iblk m b c 3 t : Vec Ideal S1x1792x1024 .bf16) = x3
  unfold runB
  dsimp only
  refine (congrFun (View.read_writes_full VO VO.junk _ _ []) _).trans ?_
  simp only [runB.sl.r_1, runB.sl.r_2, runB.sl.r_3, runB.sl.r_4, runB.sl.r_5, runB.sl.r_6, runB.sl.r_7, runB.sl.r_8, runB.sl.r_9, runB.sl.r_10, runB.sl.r_11, runB.sl.r_12, runB.sl.r_13, runB.sl.r_14, runB.sl.r_15,
    View.readAt_eq_ld, Memref.IsWhole.read_unread, View.ld_unit_zero (S := S512x1024) zero_off, ld_in, ld_out]
  pointwise [k0_pay2, k0_pay15, k0_pay16, k0_pay17, k0_pay18, k0_pay19, k0_pay20, k0_pay21, k0_pay22, k0_pay23, k0_pay24,
    k0_pay25, k0_pay26, k0_pay27, k0_pay28, k0_pay29, k0_pay30, runB.sl.cst_78]
  simp only [half_tanh]
  simp only [halfRow, sum_1792, swi, cols, rows, zero_add]
  rfl

end Cert.Proof.Experts

end
-- ==== Proof.ExpertsValue.lean ====
module

public import proofs.«01_k».proof.Proof.ExpertsPoint
public import Idealize.ShloMosaic.Lib.Pipeline.Value

/-! # The expert kernel's result, as one function of its arguments

A row lies in the tile of 512 rows its number falls in. In a tile in use it is the gated layer of the tile's expert at
that row, and zero elsewhere. -/

@[expose] public section

set_option maxRecDepth 16384

noncomputable section

namespace Cert.Proof.Experts

open Cert.Kernel3Ideal Cert.Kernel3Ideal.Gen
open Idealize.ShloMosaic Idealize.ShloMosaic.TcCoe Cert.Proof.Math
open Idealize.SL Idealize.SL.Sem
open Idealize.ShloMosaic.Pipeline (Dat Cfg Window)

/-- A sum over 3584 positions, taken as two halves. -/
theorem sum_3584 (g : Fin 3584 → EReal) :
    ∑ f, g f = (∑ u : Fin 1792, g ⟨0 * 1792 + u.val, by omega⟩) + ∑ u : Fin 1792, g ⟨1 * 1792 + u.val, by omega⟩ := by
  rw [Fin.sum_univ_tiles 2 1792 rfl g, Fin.sum_univ_two]
  rfl

/-- One row of the gated layer. -/
def expRow (x : Fin 1024 → EReal) (w1 w3 : Fin 1024 → Fin 3584 → EReal) (w2 : Fin 3584 → Fin 1024 → EReal) (d : Fin 1024) : EReal :=
  ∑ f, swi (∑ k, x k * w1 k f) (∑ k, x k * w3 k f) * w2 f d

theorem expRow_eq (x : Fin 1024 → EReal) (w1 w3 : Fin 1024 → Fin 3584 → EReal) (w2 : Fin 3584 → Fin 1024 → EReal) (d : Fin 1024) :
    expRow x w1 w3 w2 d
      = halfRow x (fun k f => w1 k ⟨0 * 1792 + f.val, by omega⟩) (fun k f => w3 k ⟨0 * 1792 + f.val, by omega⟩)
          (fun f d => w2 ⟨0 * 1792 + f.val, by omega⟩ d) d
        + halfRow x (fun k f => w1 k ⟨1 * 1792 + f.val, by omega⟩) (fun k f => w3 k ⟨1 * 1792 + f.val, by omega⟩)
          (fun f d => w2 ⟨1 * 1792 + f.val, by omega⟩ d) d := by
  unfold expRow
  rw [sum_3584]
  rfl

/-- The tile of a row. -/
def tileOf (r : Fin 36864) : Fin 72 := ⟨r.val / 512, by omega⟩

/-- The expert of a tile. -/
def eAt (te : Vec Ideal S72 .i32) (k : Fin 72) : Fin 8 := ⟨(expertOf (F := Ideal) te k).toNat % 8, by omega⟩

/-- The layer of whole arrays. -/
def G (xs : Vec Ideal S36864x1024 .f32) (te : Vec Ideal S72 .i32) (n : Vec Ideal S1 .i32) (w1 w3 : Vec Ideal S8x1024x3584 .f32)
    (w2 : Vec Ideal S8x3584x1024 .f32) : Vec Ideal S36864x1024 .f32 := fun i =>
  if (tileOf (i 0)).val < (word (F := Ideal) n).toNat then
    expRow (fun k => xs (ix2 (i 0) k)) (fun k f => w1 (ix3 (eAt te (tileOf (i 0))) k f)) (fun k f => w3 (ix3 (eAt te (tileOf (i 0))) k f))
      (fun f d => w2 (ix3 (eAt te (tileOf (i 0))) f d)) (i 1)
  else (0 : EReal)

variable (m : (ℓ : Loc nD τ sig) → Buf (Elt Ideal) ℓ) (ρ : Dev nD → PrngReg) (b : (pcfg0 (F := Ideal)).Adm)

/-- The tables hold experts below eight and a count between one and seventy-two. -/
structure Good : Prop where
  expert : ∀ k, (expertOf (F := Ideal) (b.1 0) k).toNat < 8
  low : 1 ≤ (nu b).toNat
  high : (nu b).toNat ≤ 72

theorem lt144 : ∀ t : Fin grid0.N, t.val < 144 := by decide +kernel

/-- Row `r` of the tile of `t`, as a row of the array. -/
def rowAt (t : Fin grid0.N) (r : Fin 512) : Fin 36864 := ⟨t.val / 2 * 512 + r.val, by have := lt144 t; omega⟩

/-- The tile of `t`. -/
def tileAt (t : Fin grid0.N) : Fin 72 := ⟨t.val / 2, by have := lt144 t; omega⟩

theorem coords_tileAt (t : Fin grid0.N) : grid0.coords t 0 = tileAt t := Fin.ext (coords_tile t)

theorem used_at (hg : Good b) (t : Fin grid0.N) : used (grid0.coords t) (nu b) = true ↔ (tileAt t).val < (nu b).toNat := by
  rw [used_iff _ _ hg.high, coords_tileAt]

/-! ## Where each block lies -/

theorem index0 (hg : Good b) (t : Fin grid0.N) (hu : used (grid0.coords t) (nu b) = true) :
    ((cfg0 b).win 0).index t = ![t.val / 2, 0] := by
  refine (transform0_eq b.1 (grid0.coords t)).trans ?_
  rw [rowOf_used _ _ hg.low hg.high hu, coords_tile]

theorem half_at (t : Fin grid0.N) (hu : used (grid0.coords t) (nu b) = true) : halfOf (grid0.coords t) (nu b) = t.val % 2 := by
  unfold halfOf; rw [if_pos hu, coords_half]

theorem expert_at (hg : Good b) (t : Fin grid0.N) :
    (expertOf (F := Ideal) (b.1 0) (grid0.coords t 0)).toNat = (eAt (b.1 0) (tileAt t)).val := by
  have e := hg.expert (tileAt t)
  rw [coords_tileAt]
  exact (Nat.mod_eq_of_lt e).symm

theorem index1 (hg : Good b) (t : Fin grid0.N) (hu : used (grid0.coords t) (nu b) = true) :
    ((cfg0 b).win 1).index t = ![(eAt (b.1 0) (tileAt t)).val, 0, t.val % 2] := by
  refine (transform1_eq b.1 (grid0.coords t)).trans ?_
  rw [expert_at b hg, half_at b t hu]

theorem index2 (hg : Good b) (t : Fin grid0.N) (hu : used (grid0.coords t) (nu b) = true) :
    ((cfg0 b).win 2).index t = ![(eAt (b.1 0) (tileAt t)).val, 0, t.val % 2] := by
  refine (transform2_eq b.1 (grid0.coords t)).trans ?_
  rw [expert_at b hg, half_at b t hu]

theorem index3 (hg : Good b) (t : Fin grid0.N) (hu : used (grid0.coords t) (nu b) = true) :
    ((cfg0 b).win 3).index t = ![(eAt (b.1 0) (tileAt t)).val, t.val % 2, 0] := by
  refine (transform3_eq b.1 (grid0.coords t)).trans ?_
  rw [expert_at b hg, half_at b t hu]

theorem index4 : ∀ t : Fin grid0.N, cc0_transform_4 (grid0.coords t) = ![t.val / 2, 0] := by decide +kernel

theorem emb0 (hg : Good b) (t : Fin grid0.N) (hu : used (grid0.coords t) (nu b) = true) (r : Fin 512) (k : Fin 1024) :
    (((cfg0 b).win 0).blk t).view.emb (ix2 r k) = ix2 (rowAt t r) k := by
  have e := index0 b hg t hu
  funext a; apply Fin.ext
  match a with
  | ⟨0, _⟩ =>
    show ((cfg0 b).win 0).index t (0 : Fin 2) * 512 + 1 * r.val = t.val / 2 * 512 + r.val
    rw [e]; show t.val / 2 * 512 + 1 * r.val = _; omega
  | ⟨1, _⟩ =>
    show ((cfg0 b).win 0).index t (1 : Fin 2) * 1024 + 1 * k.val = k.val
    rw [e]; show 0 * 1024 + 1 * k.val = _; omega

theorem emb1 (hg : Good b) (t : Fin grid0.N) (hu : used (grid0.coords t) (nu b) = true) (h : Nat) (hh : t.val % 2 = h) (h2 : h < 2)
    (k : Fin 1024) (f : Fin 1792) :
    (((cfg0 b).win 1).blk t).view.emb (ix3 0 k f) = ix3 (eAt (b.1 0) (tileAt t)) k ⟨h * 1792 + f.val, by omega⟩ := by
  have e := index1 b hg t hu
  rw [hh] at e
  funext a; apply Fin.ext
  match a with
  | ⟨0, _⟩ =>
    show ((cfg0 b).win 1).index t (0 : Fin 3) * 1 + 1 * 0 = (eAt (b.1 0) (tileAt t)).val
    rw [e]; show (eAt (b.1 0) (tileAt t)).val * 1 + 1 * 0 = _; omega
  | ⟨1, _⟩ =>
    show ((cfg0 b).win 1).index t (1 : Fin 3) * 1024 + 1 * k.val = k.val
    rw [e]; show 0 * 1024 + 1 * k.val = _; omega
  | ⟨2, _⟩ =>
    show ((cfg0 b).win 1).index t (2 : Fin 3) * 1792 + 1 * f.val = h * 1792 + f.val
    rw [e]; show h * 1792 + 1 * f.val = _; omega

theorem emb2 (hg : Good b) (t : Fin grid0.N) (hu : used (grid0.coords t) (nu b) = true) (h : Nat) (hh : t.val % 2 = h) (h2 : h < 2)
    (k : Fin 1024) (f : Fin 1792) :
    (((cfg0 b).win 2).blk t).view.emb (ix3 0 k f) = ix3 (eAt (b.1 0) (tileAt t)) k ⟨h * 1792 + f.val, by omega⟩ := by
  have e := index2 b hg t hu
  rw [hh] at e
  funext a; apply Fin.ext
  match a with
  | ⟨0, _⟩ =>
    show ((cfg0 b).win 2).index t (0 : Fin 3) * 1 + 1 * 0 = (eAt (b.1 0) (tileAt t)).val
    rw [e]; show (eAt (b.1 0) (tileAt t)).val * 1 + 1 * 0 = _; omega
  | ⟨1, _⟩ =>
    show ((cfg0 b).win 2).index t (1 : Fin 3) * 1024 + 1 * k.val = k.val
    rw [e]; show 0 * 1024 + 1 * k.val = _; omega
  | ⟨2, _⟩ =>
    show ((cfg0 b).win 2).index t (2 : Fin 3) * 1792 + 1 * f.val = h * 1792 + f.val
    rw [e]; show h * 1792 + 1 * f.val = _; omega

theorem emb3 (hg : Good b) (t : Fin grid0.N) (hu : used (grid0.coords t) (nu b) = true) (h : Nat) (hh : t.val % 2 = h) (h2 : h < 2)
    (f : Fin 1792) (d : Fin 1024) :
    (((cfg0 b).win 3).blk t).view.emb (ix3 0 f d) = ix3 (eAt (b.1 0) (tileAt t)) ⟨h * 1792 + f.val, by omega⟩ d := by
  have e := index3 b hg t hu
  rw [hh] at e
  funext a; apply Fin.ext
  match a with
  | ⟨0, _⟩ =>
    show ((cfg0 b).win 3).index t (0 : Fin 3) * 1 + 1 * 0 = (eAt (b.1 0) (tileAt t)).val
    rw [e]; show (eAt (b.1 0) (tileAt t)).val * 1 + 1 * 0 = _; omega
  | ⟨1, _⟩ =>
    show ((cfg0 b).win 3).index t (1 : Fin 3) * 1792 + 1 * f.val = h * 1792 + f.val
    rw [e]; show h * 1792 + 1 * f.val = _; omega
  | ⟨2, _⟩ =>
    show ((cfg0 b).win 3).index t (2 : Fin 3) * 1024 + 1 * d.val = d.val
    rw [e]; show 0 * 1024 + 1 * d.val = _; omega

theorem emb4 (t : Fin grid0.N) (r : Fin 512) (d : Fin 1024) :
    (((cfg0 b).win 4).blk t).view.emb (ix2 r d) = ix2 (rowAt t r) d := by
  have e : ((cfg0 b).win 4).index t = ![t.val / 2, 0] := index4 t
  funext a; apply Fin.ext
  match a with
  | ⟨0, _⟩ =>
    show ((cfg0 b).win 4).index t (0 : Fin 2) * 512 + 1 * r.val = t.val / 2 * 512 + r.val
    rw [e]; show t.val / 2 * 512 + 1 * r.val = _; omega
  | ⟨1, _⟩ =>
    show ((cfg0 b).win 4).index t (1 : Fin 2) * 1024 + 1 * d.val = d.val
    rw [e]; show 0 * 1024 + 1 * d.val = _; omega

/-! ## What each block holds -/

/-- The arrays the host prepares are the weights rounded. -/
theorem V_main_v0 (c : Dev nD) :
    V m c main_v0 = truncf (F := Ideal) (s := S8x1024x3584) .bf16 (m ((c : Thread nD τ).loc main_arg3)) bitsLt_bf16_f32 := rfl
theorem V_main_v1 (c : Dev nD) :
    V m c main_v1 = truncf (F := Ideal) (s := S8x1024x3584) .bf16 (m ((c : Thread nD τ).loc main_arg4)) bitsLt_bf16_f32 := rfl
theorem V_main_v2 (c : Dev nD) :
    V m c main_v2 = truncf (F := Ideal) (s := S8x3584x1024) .bf16 (m ((c : Thread nD τ).loc main_arg5)) bitsLt_bf16_f32 := rfl

theorem iblk0_at (hg : Good b) (c : Dev nD) (t : Fin grid0.N) (hu : used (grid0.coords t) (nu b) = true) (r : Fin 512) (k : Fin 1024) :
    (iblk m b c 0 t : Vec Ideal S512x1024 .f32) (ix2 r k) = m ((c : Thread nD τ).loc main_arg0) (ix2 (rowAt t r) k) := by
  show V m c main_arg0 ((((cfg0 b).win 0).blk t).view.emb (ix2 r k)) = _
  rw [emb0 b hg t hu, V_of_ne m c main_arg0 (by decide) (by decide) (by decide)]

theorem iblk1_at (hg : Good b) (c : Dev nD) (t : Fin grid0.N) (hu : used (grid0.coords t) (nu b) = true) (h : Nat) (hh : t.val % 2 = h)
    (h2 : h < 2) (k : Fin 1024) (f : Fin 1792) :
    (iblk m b c 1 t : Vec Ideal S1x1024x1792 .bf16) (ix3 0 k f)
      = m ((c : Thread nD τ).loc main_arg3) (ix3 (eAt (b.1 0) (tileAt t)) k ⟨h * 1792 + f.val, by omega⟩) := by
  show V m c main_v0 ((((cfg0 b).win 1).blk t).view.emb (ix3 0 k f)) = _
  rw [emb1 b hg t hu h hh h2, V_main_v0]
  rfl

theorem iblk2_at (hg : Good b) (c : Dev nD) (t : Fin grid0.N) (hu : used (grid0.coords t) (nu b) = true) (h : Nat) (hh : t.val % 2 = h)
    (h2 : h < 2) (k : Fin 1024) (f : Fin 1792) :
    (iblk m b c 2 t : Vec Ideal S1x1024x1792 .bf16) (ix3 0 k f)
      = m ((c : Thread nD τ).loc main_arg4) (ix3 (eAt (b.1 0) (tileAt t)) k ⟨h * 1792 + f.val, by omega⟩) := by
  show V m c main_v1 ((((cfg0 b).win 2).blk t).view.emb (ix3 0 k f)) = _
  rw [emb2 b hg t hu h hh h2, V_main_v1]
  rfl

theorem iblk3_at (hg : Good b) (c : Dev nD) (t : Fin grid0.N) (hu : used (grid0.coords t) (nu b) = true) (h : Nat) (hh : t.val % 2 = h)
    (h2 : h < 2) (f : Fin 1792) (d : Fin 1024) :
    (iblk m b c 3 t : Vec Ideal S1x1792x1024 .bf16) (ix3 0 f d)
      = m ((c : Thread nD τ).loc main_arg5) (ix3 (eAt (b.1 0) (tileAt t)) ⟨h * 1792 + f.val, by omega⟩ d) := by
  show V m c main_v2 ((((cfg0 b).win 3).blk t).view.emb (ix3 0 f d)) = _
  rw [emb3 b hg t hu h hh h2, V_main_v2]
  rfl

/-! ## What is written back -/

/-- After the second meeting of a tile in use its block is the whole layer at its rows. -/
theorem outs_used (hg : Good b) (c : Dev nD) (t : Fin grid0.N) (ht : t.val % 2 = 1) (hu : used (grid0.coords t) (nu b) = true)
    (r : Fin 512) (d : Fin 1024) :
    outsAt m b c t (ix2 r d) = expRow (fun k => m ((c : Thread nD τ).loc main_arg0) (ix2 (rowAt t r) k))
      (fun k f => m ((c : Thread nD τ).loc main_arg3) (ix3 (eAt (b.1 0) (tileAt t)) k f))
      (fun k f => m ((c : Thread nD τ).loc main_arg4) (ix3 (eAt (b.1 0) (tileAt t)) k f))
      (fun f d => m ((c : Thread nD τ).loc main_arg5) (ix3 (eAt (b.1 0) (tileAt t)) f d)) d := by
  have h1 : (grid0.coords t 1).val = 1 := (coords_half t).trans ht
  have hp : (before_ t).val % 2 = 0 := by show (t.val - 1) % 2 = 0; omega
  have h0 : (grid0.coords (before_ t) 1).val = 0 := (coords_half _).trans hp
  have hT : tileAt (before_ t) = tileAt t := Fin.ext (by show (t.val - 1) / 2 = t.val / 2; omega)
  have hR : rowAt (before_ t) r = rowAt t r := Fin.ext (by show (t.val - 1) / 2 * 512 + r.val = t.val / 2 * 512 + r.val; omega)
  have hup : used (grid0.coords (before_ t)) (nu b) = true := by
    rw [used_at b hg] at hu ⊢; rw [hT]; exact hu
  unfold outsAt
  rw [dif_pos ⟨hu, h1⟩, outB_at]
  unfold firstAt
  rw [dif_pos ⟨hup, h0⟩, outA_at, expRow_eq]
  simp only [iblk0_at m b hg c t hu, iblk1_at m b hg c t hu 1 ht (by decide), iblk2_at m b hg c t hu 1 ht (by decide),
    iblk3_at m b hg c t hu 1 ht (by decide), iblk0_at m b hg c _ hup, iblk1_at m b hg c _ hup 0 hp (by decide),
    iblk2_at m b hg c _ hup 0 hp (by decide), iblk3_at m b hg c _ hup 0 hp (by decide), hT, hR]

/-- After the second meeting of a tile not in use its block is zero. -/
theorem outs_unused (c : Dev nD) (t : Fin grid0.N) (hu : used (grid0.coords t) (nu b) = false) (r : Fin 512) (d : Fin 1024) :
    outsAt m b c t (ix2 r d) = (0 : EReal) := by
  unfold outsAt firstAt
  rw [dif_neg (by rw [hu]; simp), dif_neg (by rw [hu]; simp)]
  pointwise [k0_pay3]

/-- `G` of the launched arguments, the tables as given. -/
abbrev Gm (c : Dev nD) : Vec Ideal S36864x1024 .f32 :=
  G (m ((c : Thread nD τ).loc main_arg0)) (b.1 0) (b.1 1) (m ((c : Thread nD τ).loc main_arg3))
    (m ((c : Thread nD τ).loc main_arg4)) (m ((c : Thread nD τ).loc main_arg5))

theorem tileOf_rowAt (t : Fin grid0.N) (r : Fin 512) : tileOf (rowAt t r) = tileAt t :=
  Fin.ext (by show (t.val / 2 * 512 + r.val) / 512 = t.val / 2; omega)

/-- A point that writes back writes its rows of `G`. -/
theorem flushed_eq (hg : Good b) (c : Dev nD) (t : Fin grid0.N) (hf : ((cfg0 b).win 4).flush t = true) :
    (dats m b 0 c).flushed 4 t = (((cfg0 b).win 4).blk t).view.read (Elt Ideal) (Gm m b c) := by
  have ht : t.val % 2 = 1 := by rw [flush4] at hf; simpa using hf
  have e : (dats m b 0 c).flushed 4 t = outsAt m b c t := by
    show ((cfg0 b).win 4).cut (grid0.coords t) ((dat m b c).after 4 t) = _
    rw [after4]
    rfl
  rw [e]
  funext j
  show outsAt m b c t j = Gm m b c ((((cfg0 b).win 4).blk t).view.emb j)
  obtain ⟨r, d, rfl⟩ : ∃ (r : Fin 512) (d : Fin 1024), j = ix2 r d := ⟨j 0, j 1, by idx_ext⟩
  rw [emb4]
  unfold Gm G
  show _ = if (tileOf (rowAt t r)).val < (nu b).toNat then _ else _
  cases hu : used (grid0.coords t) (nu b) with
  | true =>
    have hn := (used_at b hg t).mp hu
    rw [tileOf_rowAt, if_pos hn, outs_used m b hg c t ht hu]
    show _ = expRow (fun k => m ((c : Thread nD τ).loc main_arg0) (ix2 (rowAt t r) k))
      (fun k f => m ((c : Thread nD τ).loc main_arg3) (ix3 (eAt (b.1 0) (tileOf (rowAt t r))) k f))
      (fun k f => m ((c : Thread nD τ).loc main_arg4) (ix3 (eAt (b.1 0) (tileOf (rowAt t r))) k f))
      (fun f d => m ((c : Thread nD τ).loc main_arg5) (ix3 (eAt (b.1 0) (tileOf (rowAt t r))) f d)) d
    rw [tileOf_rowAt]
  | false =>
    have hn : ¬ (tileAt t).val < (nu b).toNat := by rw [← used_at b hg, hu]; simp
    rw [tileOf_rowAt, if_neg hn, outs_unused m b c t hu]

theorem covered (i : S36864x1024.Idx) :
    ∃ t : Fin grid0.N, ((cfg0 b).win 4).flush t = true ∧ i ∈ (((cfg0 b).win 4).blk t).view.set := by
  obtain ⟨r, k, rfl⟩ : ∃ (r : Fin 36864) (k : Fin 1024), i = ix2 r k := ⟨i 0, i 1, by idx_ext⟩
  have hN : grid0.N = 144 := by decide +kernel
  obtain ⟨t, ht⟩ : ∃ t : Fin grid0.N, t.val = 2 * (r.val / 512) + 1 := ⟨⟨2 * (r.val / 512) + 1, by rw [hN]; omega⟩, rfl⟩
  refine ⟨t, by rw [flush4, ht]; simp, ?_⟩
  have h := (((cfg0 b).win 4).blk t).view.emb_mem_set (ix2 ⟨r.val % 512, by omega⟩ k)
  rw [emb4] at h
  have e : rowAt t ⟨r.val % 512, by omega⟩ = r := Fin.ext (by
    show t.val / 2 * 512 + r.val % 512 = r.val; omega)
  rwa [e] at h

theorem final (hg : Good b) (c : Dev nD) : (dats m b 0 c).arrAt 4 (cfg0 b).N = Gm m b c :=
  (dats m b 0 c).arrAt_eq_of_cover 4 (Gm m b c) (fun t hf => flushed_eq m b hg c t hf) (covered b)

/-- The kernel's run, its result named. -/
theorem run (hg : Good b) (hb : ∀ (c : Dev nD) k, m ((c : Thread nD τ).loc (pre0.ref k)) = b.1 k) :
    θ_run defs (onTc (τ := τ) (main (F := Ideal))) ⟨m, fun _ => 0, ρ⟩ fun r => ∀ c : Dev nD,
      r.2.mem ((c : Thread nD τ).loc main_v3) = Gm m b c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ hr c => ⟨((hr.1 c).1 4).trans (final m b hg c), kept m b hr.1 c⟩) (run_main m ρ b hb)

end Cert.Proof.Experts

end
-- ==== Proof.ExpertsRef.lean ====
module

public import proofs.«01_k».proof.Proof.ExpertsValue
public import proofs.«01_k».proof.Proof.Gen.Reference3Ideal.Read

/-! # The expert reference, read at one point

Each expert's gated layer at every row, kept where the row's tile is in use and is that expert's, and the eight added. -/

@[expose] public section

set_option maxRecDepth 16384

noncomputable section

namespace Cert.Proof.Experts

open Idealize.ShloMosaic Idealize.ShloMosaic.TcCoe Cert.Proof.Math
open Cert.Reference3Ideal Cert.Reference3Ideal.Gen Cert.Reference3Ideal.Read

variable (x0 : Vec Ideal S36864x1024 .f32) (x1 : Vec Ideal S72 .i32) (x2 : Vec Ideal S1 .i32) (x3 x4 : Vec Ideal S8x1024x3584 .f32)
  (x5 : Vec Ideal S8x3584x1024 .f32)

theorem zero_bits : (FloatOps.ofBits (F := Ideal) .f32 0x00000000#32 : EReal) = 0 := by
  simp [FloatOps.ofBits, Ideal.ofBits, Ideal.ieee]

/-- One expert's layer at one row. -/
abbrev expAt (e : Fin 8) (r : Fin 36864) (d : Fin 1024) : EReal :=
  expRow (fun k => x0 (ix2 r k)) (fun k f => x3 (ix3 e k f)) (fun k f => x4 (ix3 e k f)) (fun f d => x5 (ix3 e f d)) d

/-- Whether the row is of a tile in use whose expert is `e`. -/
abbrev Mine (e : Nat) (r : Fin 36864) : Prop :=
  (tileOf r).val < (word (F := Ideal) x2).toNat ∧ (expertOf (F := Ideal) x1 (tileOf r)).toNat = e

/-- The row's expert is its tile's. -/
theorem row_expert (r : Fin 36864) : val_main_v1 (F := Ideal) x1 (ix1 r) = expertOf (F := Ideal) x1 (tileOf r) := by
  rw [val_main_v1_apply, val_main_v0_apply]
  refine congrArg x1 (funext fun a => ?_)
  match a with
  | ⟨0, _⟩ => rfl

/-- The comparison with the number of rows in use. -/
theorem row_used (hn : (word (F := Ideal) x2).toNat ≤ 72) (r : Fin 36864) :
    val_main_v6 (F := Ideal) x2 (ix1 r) = BitVec.ofBool (decide ((tileOf r).val < (word (F := Ideal) x2).toNat)) := by
  have e : val_main_v6 (F := Ideal) x2 (ix1 r) = BitVec.ofBool ((BitVec.ofNat 32 r.val).slt (word (F := Ideal) x2 * 512#32)) := by
    rw [val_main_v6_apply, val_main_v5_apply, val_main_v4_apply, val_main_v3_apply]
    refine congrArg (fun w : BitVec 32 => BitVec.ofBool ((BitVec.ofNat 32 r.val).slt (w * 512#32))) (congrArg x2 (funext fun a => ?_))
    match a with
    | ⟨0, _⟩ => rfl
  rw [e]
  congr 1
  have hr := r.isLt
  have h1 : (BitVec.ofNat 32 r.val).toNat = r.val := by rw [BitVec.toNat_ofNat]; omega
  have h2 : (word (F := Ideal) x2 * 512#32).toNat = (word (F := Ideal) x2).toNat * 512 := by
    rw [BitVec.toNat_mul, BitVec.toNat_ofNat]; omega
  rw [BitVec.slt_eq_decide, BitVec.toInt_eq_toNat_cond, BitVec.toInt_eq_toNat_cond, h1, h2]
  congr 1
  show _ = (r.val / 512 < (word (F := Ideal) x2).toNat)
  apply propext
  split <;> split <;> omega

/-- A selection by the two comparisons, as a case distinction. -/
theorem select_mine (hn : (word (F := Ideal) x2).toNat ≤ 72) (r : Fin 36864) (e : Nat) (he : e < 8) (a b : EReal) :
    Scalar.select (IntOp.andi (val_main_v6 (F := Ideal) x2 (ix1 r)) (IntOp.cmpi .eq (val_main_v1 (F := Ideal) x1 (ix1 r)) (BitVec.ofNat 32 e))) a b
      = if Mine x1 x2 e r then a else b := by
  rw [row_used x2 hn, row_expert]
  have h : IntOp.cmpi .eq (expertOf (F := Ideal) x1 (tileOf r)) (BitVec.ofNat 32 e)
      = BitVec.ofBool (decide ((expertOf (F := Ideal) x1 (tileOf r)).toNat = e)) := by
    show BitVec.ofBool (_ == _) = _
    congr 1
    rw [Bool.eq_iff_iff, beq_iff_eq, decide_eq_true_eq, ← BitVec.toNat_inj, BitVec.toNat_ofNat]
    omega
  rw [h]
  unfold Mine
  by_cases h1 : (tileOf r).val < (word (F := Ideal) x2).toNat <;>
    by_cases h2 : (expertOf (F := Ideal) x1 (tileOf r)).toNat = e <;> simp [h1, h2] <;> rfl

theorem layer_0 (r : Fin 36864) (d : Fin 1024) : val_main_v22 (F := Ideal) x0 x3 x4 x5 (ix2 r d) = expAt x0 x3 x4 x5 0 r d := by
  pointwise [val_main_v22, val_main_v21, val_main_v20, val_main_v19, val_main_v18, val_main_v17, val_main_v16, val_main_v15, val_main_v14,
    val_main_v13, val_main_v12, val_main_call0_v0, val_main_call0_v1, val_main_call0_v2, val_main_call0_v3, val_main_call0_v4, val_main_call0_v5, val_main_call0_cst, val_main_call0_cst_0]
  rfl

theorem part_0 (hn : (word (F := Ideal) x2).toNat ≤ 72) (r : Fin 36864) (d : Fin 1024) :
    val_main_v23 (F := Ideal) x0 x1 x2 x3 x4 x5 (ix2 r d) = if Mine x1 x2 0 r then expAt x0 x3 x4 x5 0 r d else 0 := by
  rw [val_main_v23_apply, layer_0, val_main_call1_v1_apply, val_main_call1_v2_apply, val_main_v11_apply, val_main_v10_apply, val_main_v9_apply, val_main_v8_apply, val_main_c_0_apply,
    show idx_main_v11 (idx_main_call1_v1 (ix2 r d)) = ix1 r from funext fun a => match a with | ⟨0, _⟩ => rfl]
  refine (select_mine x1 x2 hn r 0 (by decide) _ _).trans ?_
  rw [val_main_call1_v0_apply, val_main_cst_1_apply, zero_bits]

theorem layer_1 (r : Fin 36864) (d : Fin 1024) : val_main_v39 (F := Ideal) x0 x3 x4 x5 (ix2 r d) = expAt x0 x3 x4 x5 1 r d := by
  pointwise [val_main_v39, val_main_v38, val_main_v37, val_main_v36, val_main_v35, val_main_v34, val_main_v33, val_main_v32, val_main_v31,
    val_main_v30, val_main_v29, val_main_call2_v0, val_main_call2_v1, val_main_call2_v2, val_main_call2_v3, val_main_call2_v4, val_main_call2_v5, val_main_call2_cst, val_main_call2_cst_0]
  rfl

theorem part_1 (hn : (word (F := Ideal) x2).toNat ≤ 72) (r : Fin 36864) (d : Fin 1024) :
    val_main_v40 (F := Ideal) x0 x1 x2 x3 x4 x5 (ix2 r d) = if Mine x1 x2 1 r then expAt x0 x3 x4 x5 1 r d else 0 := by
  rw [val_main_v40_apply, layer_1, val_main_call3_v1_apply, val_main_call3_v2_apply, val_main_v28_apply, val_main_v27_apply, val_main_v26_apply, val_main_v25_apply, val_main_c_2_apply,
    show idx_main_v28 (idx_main_call3_v1 (ix2 r d)) = ix1 r from funext fun a => match a with | ⟨0, _⟩ => rfl]
  refine (select_mine x1 x2 hn r 1 (by decide) _ _).trans ?_
  rw [val_main_call3_v0_apply, val_main_cst_3_apply, zero_bits]

theorem layer_2 (r : Fin 36864) (d : Fin 1024) : val_main_v56 (F := Ideal) x0 x3 x4 x5 (ix2 r d) = expAt x0 x3 x4 x5 2 r d := by
  pointwise [val_main_v56, val_main_v55, val_main_v54, val_main_v53, val_main_v52, val_main_v51, val_main_v50, val_main_v49, val_main_v48,
    val_main_v47, val_main_v46, val_main_call4_v0, val_main_call4_v1, val_main_call4_v2, val_main_call4_v3, val_main_call4_v4, val_main_call4_v5, val_main_call4_cst, val_main_call4_cst_0]
  rfl

theorem part_2 (hn : (word (F := Ideal) x2).toNat ≤ 72) (r : Fin 36864) (d : Fin 1024) :
    val_main_v57 (F := Ideal) x0 x1 x2 x3 x4 x5 (ix2 r d) = if Mine x1 x2 2 r then expAt x0 x3 x4 x5 2 r d else 0 := by
  rw [val_main_v57_apply, layer_2, val_main_call5_v1_apply, val_main_call5_v2_apply, val_main_v45_apply, val_main_v44_apply, val_main_v43_apply, val_main_v42_apply, val_main_c_4_apply,
    show idx_main_v45 (idx_main_call5_v1 (ix2 r d)) = ix1 r from funext fun a => match a with | ⟨0, _⟩ => rfl]
  refine (select_mine x1 x2 hn r 2 (by decide) _ _).trans ?_
  rw [val_main_call5_v0_apply, val_main_cst_5_apply, zero_bits]

theorem layer_3 (r : Fin 36864) (d : Fin 1024) : val_main_v73 (F := Ideal) x0 x3 x4 x5 (ix2 r d) = expAt x0 x3 x4 x5 3 r d := by
  pointwise [val_main_v73, val_main_v72, val_main_v71, val_main_v70, val_main_v69, val_main_v68, val_main_v67, val_main_v66, val_main_v65,
    val_main_v64, val_main_v63, val_main_call6_v0, val_main_call6_v1, val_main_call6_v2, val_main_call6_v3, val_main_call6_v4, val_main_call6_v5, val_main_call6_cst, val_main_call6_cst_0]
  rfl

theorem part_3 (hn : (word (F := Ideal) x2).toNat ≤ 72) (r : Fin 36864) (d : Fin 1024) :
    val_main_v74 (F := Ideal) x0 x1 x2 x3 x4 x5 (ix2 r d) = if Mine x1 x2 3 r then expAt x0 x3 x4 x5 3 r d else 0 := by
  rw [val_main_v74_apply, layer_3, val_main_call7_v1_apply, val_main_call7_v2_apply, val_main_v62_apply, val_main_v61_apply, val_main_v60_apply, val_main_v59_apply, val_main_c_6_apply,
    show idx_main_v62 (idx_main_call7_v1 (ix2 r d)) = ix1 r from funext fun a => match a with | ⟨0, _⟩ => rfl]
  refine (select_mine x1 x2 hn r 3 (by decide) _ _).trans ?_
  rw [val_main_call7_v0_apply, val_main_cst_7_apply, zero_bits]

theorem layer_4 (r : Fin 36864) (d : Fin 1024) : val_main_v90 (F := Ideal) x0 x3 x4 x5 (ix2 r d) = expAt x0 x3 x4 x5 4 r d := by
  pointwise [val_main_v90, val_main_v89, val_main_v88, val_main_v87, val_main_v86, val_main_v85, val_main_v84, val_main_v83, val_main_v82,
    val_main_v81, val_main_v80, val_main_call8_v0, val_main_call8_v1, val_main_call8_v2, val_main_call8_v3, val_main_call8_v4, val_main_call8_v5, val_main_call8_cst, val_main_call8_cst_0]
  rfl

theorem part_4 (hn : (word (F := Ideal) x2).toNat ≤ 72) (r : Fin 36864) (d : Fin 1024) :
    val_main_v91 (F := Ideal) x0 x1 x2 x3 x4 x5 (ix2 r d) = if Mine x1 x2 4 r then expAt x0 x3 x4 x5 4 r d else 0 := by
  rw [val_main_v91_apply, layer_4, val_main_call9_v1_apply, val_main_call9_v2_apply, val_main_v79_apply, val_main_v78_apply, val_main_v77_apply, val_main_v76_apply, val_main_c_8_apply,
    show idx_main_v79 (idx_main_call9_v1 (ix2 r d)) = ix1 r from funext fun a => match a with | ⟨0, _⟩ => rfl]
  refine (select_mine x1 x2 hn r 4 (by decide) _ _).trans ?_
  rw [val_main_call9_v0_apply, val_main_cst_9_apply, zero_bits]

theorem layer_5 (r : Fin 36864) (d : Fin 1024) : val_main_v107 (F := Ideal) x0 x3 x4 x5 (ix2 r d) = expAt x0 x3 x4 x5 5 r d := by
  pointwise [val_main_v107, val_main_v106, val_main_v105, val_main_v104, val_main_v103, val_main_v102, val_main_v101, val_main_v100, val_main_v99,
    val_main_v98, val_main_v97, val_main_call10_v0, val_main_call10_v1, val_main_call10_v2, val_main_call10_v3, val_main_call10_v4, val_main_call10_v5, val_main_call10_cst, val_main_call10_cst_0]
  rfl

theorem part_5 (hn : (word (F := Ideal) x2).toNat ≤ 72) (r : Fin 36864) (d : Fin 1024) :
    val_main_v108 (F := Ideal) x0 x1 x2 x3 x4 x5 (ix2 r d) = if Mine x1 x2 5 r then expAt x0 x3 x4 x5 5 r d else 0 := by
  rw [val_main_v108_apply, layer_5, val_main_call11_v1_apply, val_main_call11_v2_apply, val_main_v96_apply, val_main_v95_apply, val_main_v94_apply, val_main_v93_apply, val_main_c_10_apply,
    show idx_main_v96 (idx_main_call11_v1 (ix2 r d)) = ix1 r from funext fun a => match a with | ⟨0, _⟩ => rfl]
  refine (select_mine x1 x2 hn r 5 (by decide) _ _).trans ?_
  rw [val_main_call11_v0_apply, val_main_cst_11_apply, zero_bits]

theorem layer_6 (r : Fin 36864) (d : Fin 1024) : val_main_v124 (F := Ideal) x0 x3 x4 x5 (ix2 r d) = expAt x0 x3 x4 x5 6 r d := by
  pointwise [val_main_v124, val_main_v123, val_main_v122, val_main_v121, val_main_v120, val_main_v119, val_main_v118, val_main_v117, val_main_v116,
    val_main_v115, val_main_v114, val_main_call12_v0, val_main_call12_v1, val_main_call12_v2, val_main_call12_v3, val_main_call12_v4, val_main_call12_v5, val_main_call12_cst, val_main_call12_cst_0]
  rfl

theorem part_6 (hn : (word (F := Ideal) x2).toNat ≤ 72) (r : Fin 36864) (d : Fin 1024) :
    val_main_v125 (F := Ideal) x0 x1 x2 x3 x4 x5 (ix2 r d) = if Mine x1 x2 6 r then expAt x0 x3 x4 x5 6 r d else 0 := by
  rw [val_main_v125_apply, layer_6, val_main_call13_v1_apply, val_main_call13_v2_apply, val_main_v113_apply, val_main_v112_apply, val_main_v111_apply, val_main_v110_apply, val_main_c_12_apply,
    show idx_main_v113 (idx_main_call13_v1 (ix2 r d)) = ix1 r from funext fun a => match a with | ⟨0, _⟩ => rfl]
  refine (select_mine x1 x2 hn r 6 (by decide) _ _).trans ?_
  rw [val_main_call13_v0_apply, val_main_cst_13_apply, zero_bits]

theorem layer_7 (r : Fin 36864) (d : Fin 1024) : val_main_v141 (F := Ideal) x0 x3 x4 x5 (ix2 r d) = expAt x0 x3 x4 x5 7 r d := by
  pointwise [val_main_v141, val_main_v140, val_main_v139, val_main_v138, val_main_v137, val_main_v136, val_main_v135, val_main_v134, val_main_v133,
    val_main_v132, val_main_v131, val_main_call14_v0, val_main_call14_v1, val_main_call14_v2, val_main_call14_v3, val_main_call14_v4, val_main_call14_v5, val_main_call14_cst, val_main_call14_cst_0]
  rfl

theorem part_7 (hn : (word (F := Ideal) x2).toNat ≤ 72) (r : Fin 36864) (d : Fin 1024) :
    val_main_v142 (F := Ideal) x0 x1 x2 x3 x4 x5 (ix2 r d) = if Mine x1 x2 7 r then expAt x0 x3 x4 x5 7 r d else 0 := by
  rw [val_main_v142_apply, layer_7, val_main_call15_v1_apply, val_main_call15_v2_apply, val_main_v130_apply, val_main_v129_apply, val_main_v128_apply, val_main_v127_apply, val_main_c_14_apply,
    show idx_main_v130 (idx_main_call15_v1 (ix2 r d)) = ix1 r from funext fun a => match a with | ⟨0, _⟩ => rfl]
  refine (select_mine x1 x2 hn r 7 (by decide) _ _).trans ?_
  rw [val_main_call15_v0_apply, val_main_cst_15_apply, zero_bits]

/-- The reference's result is the same function of its arguments, for tables in range. -/
theorem ref_eq (he : ∀ k, (expertOf (F := Ideal) x1 k).toNat < 8) (hn : (word (F := Ideal) x2).toNat ≤ 72) :
    val_main_v143 (F := Ideal) x0 x1 x2 x3 x4 x5 = G x0 x1 x2 x3 x4 x5 := by
  funext i
  obtain ⟨r, d, rfl⟩ : ∃ (r : Fin 36864) (d : Fin 1024), i = ix2 r d := ⟨i 0, i 1, by idx_ext⟩
  have hG : G x0 x1 x2 x3 x4 x5 (ix2 r d)
      = if (tileOf r).val < (word (F := Ideal) x2).toNat then expAt x0 x3 x4 x5 (eAt x1 (tileOf r)) r d else 0 := rfl
  have hs : val_main_v143 (F := Ideal) x0 x1 x2 x3 x4 x5 (ix2 r d)
      = ((((((((0 : EReal) + val_main_v23 (F := Ideal) x0 x1 x2 x3 x4 x5 (ix2 r d)) + val_main_v40 (F := Ideal) x0 x1 x2 x3 x4 x5 (ix2 r d))
        + val_main_v57 (F := Ideal) x0 x1 x2 x3 x4 x5 (ix2 r d)) + val_main_v74 (F := Ideal) x0 x1 x2 x3 x4 x5 (ix2 r d))
        + val_main_v91 (F := Ideal) x0 x1 x2 x3 x4 x5 (ix2 r d)) + val_main_v108 (F := Ideal) x0 x1 x2 x3 x4 x5 (ix2 r d))
        + val_main_v125 (F := Ideal) x0 x1 x2 x3 x4 x5 (ix2 r d)) + val_main_v142 (F := Ideal) x0 x1 x2 x3 x4 x5 (ix2 r d) := by
    rw [val_main_v143_apply, val_main_v126_apply, val_main_v109_apply, val_main_v92_apply, val_main_v75_apply, val_main_v58_apply,
      val_main_v41_apply, val_main_v24_apply, val_main_v7_apply, val_main_cst_apply]
    rw [zero_bits]
    rfl
  rw [hs, hG, part_0 x0 x1 x2 x3 x4 x5 hn, part_1 x0 x1 x2 x3 x4 x5 hn, part_2 x0 x1 x2 x3 x4 x5 hn, part_3 x0 x1 x2 x3 x4 x5 hn,
    part_4 x0 x1 x2 x3 x4 x5 hn, part_5 x0 x1 x2 x3 x4 x5 hn, part_6 x0 x1 x2 x3 x4 x5 hn, part_7 x0 x1 x2 x3 x4 x5 hn]
  by_cases hu : (tileOf r).val < (word (F := Ideal) x2).toNat
  · have h8 := he (tileOf r)
    obtain ⟨e, hE⟩ : ∃ e : Fin 8, (expertOf (F := Ideal) x1 (tileOf r)).toNat = e.val := ⟨⟨_, h8⟩, rfl⟩
    have hA : eAt x1 (tileOf r) = e := Fin.ext ((congrArg (· % 8) hE).trans (Nat.mod_eq_of_lt e.isLt))
    rw [if_pos hu, hA]
    unfold Mine
    rw [hE]
    simp only [hu, true_and]
    fin_cases e <;> simp
  · rw [if_neg hu]
    unfold Mine
    simp only [hu, false_and, if_false, add_zero]

end Cert.Proof.Experts

end
-- ==== Proof.ExpertsAlgebra.lean ====
module

public import proofs.«01_k».proof.Proof.ExpertsPre
public import proofs.«01_k».proof.Proof.ExpertsRef
public import proofs.«01_k».proof.Proof.Gen.Reference3Ideal
public import proofs.«01_k».proof.Proof.Gen.Reference3Ideal.Run

/-! # The expert kernel and the reference compute the same function, for tables in range -/

@[expose] public section

noncomputable section

namespace Cert.Proof.Experts

open Idealize.ShloMosaic Idealize.ShloMosaic.TcCoe Idealize.SL.Sem

/-- The precondition says the tables are good. -/
theorem good_of_pre (m : (ℓ : Loc Cert.Kernel3Ideal.nD Cert.Kernel3Ideal.τ Cert.Kernel3Ideal.sig) → Buf (Elt Ideal) ℓ) (hp : InRange m) :
    Good (tables m hp) :=
  ⟨fun _ => (ranges_of_pre _ _ _ _ _ _ (hp 0)).1 _, ((ranges_of_pre _ _ _ _ _ _ (hp 0)).2 _).1, ((ranges_of_pre _ _ _ _ _ _ (hp 0)).2 _).2⟩

theorem algebraic : Cert.algebraic_Kernel3Ideal_Reference3Ideal := fun m ρ m' ρ' hp hag =>
  ⟨fun c => Gm m (tables m hp) c, run m ρ (tables m hp) (good_of_pre m hp) (tables_at m hp),
    (θ_run _ _ _).mono (fun _ h c => ⟨(h c).1.trans (by
      have hg := good_of_pre m hp
      have e0 := (hag c).2.1.trans (tables_at m hp c 0)
      have e1 := (hag c).2.2.1.trans (tables_at m hp c 1)
      rw [Cert.Reference3Ideal.Read.val_main_v143_eq]
      refine (ref_eq _ _ _ _ _ _ (fun k => ?_) ?_).trans ?_
      · have := hg.expert k
        rw [← e0] at this
        exact this
      · have := hg.high
        unfold nu at this
        rw [← e1] at this
        exact this
      · unfold Gm
        rw [← e0, ← e1]
        dsimp only
        rw [← (hag c).1, ← (hag c).2.2.2.1, ← (hag c).2.2.2.2.1, ← (hag c).2.2.2.2.2]), (h c).2⟩)
      (Cert.Reference3Ideal.Value.run m' ρ')⟩

theorem frame_ref : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

end Cert.Proof.Experts

end
-- ==== Proof.ProjKern.lean ====
/-
  What a grid point of the input projection computes from its blocks: the 512 normalised rows times the packed weights,
  section by section. The first section passes through a scratch buffer of four parts, each read back sixteen times
  with row stride 16, so that its rows come out sixteen to a row.
-/
module

public import proofs.«01_k».proof.Proof.Gen.Kernel4Ideal.Value
public import proofs.«01_k».proof.Proof.Math
public import Idealize.ShloMosaic.Lib.Pipeline.ValueKit.Tiles

@[expose] public section

set_option maxRecDepth 16384

noncomputable section

namespace Cert.Proof.Proj

open Idealize.ShloMosaic Idealize.ShloMosaic.TcCoe Idealize.SL.Sem Cert.Proof.Math
open Cert.Kernel4Ideal Cert.Kernel4Ideal.Gen Cert.Kernel4Ideal.Value

theorem zero2 : (![0, 0] : Fin 2 → Nat) = fun _ => 0 := by funext a; fin_cases a <;> rfl

/-- The normalised rows of a block. -/
theorem norm_at (x : Vec Ideal S512x1024 .f32) (w : Vec Ideal S1x1024 .f32) (r : Fin 512) (k : Fin 1024) :
    k0_pay1 x w (ix2 r k) = rmsRow (fun j => x (ix2 r j)) (fun j => w (ix2 0 j)) k := by
  pointwise [k0_pay1]
  rfl

/-- Entry `c` of row `r` of a block's product with the packed weights. -/
def bprod (x0 : Vec Ideal S512x1024 .f32) (x1 : Vec Ideal S1x1024 .f32) (x2 : Vec Ideal S1024x4992 .bf16) (r : Fin 512)
    (c : Fin 4992) : EReal :=
  ∑ k : Fin 1024, rmsRow (fun j => x0 (ix2 r j)) (fun j => x1 (ix2 0 j)) k * x2 (ix2 k c)

/-- A part of the scratch buffer just stored, read back with row stride 16 from row `t` on. -/
theorem strided (v : View sig .tc .vmem S4x512x128 .f32) (q t : Nat) (inb1) (inb2)
    (w : (Rect.unit (s := S4x512x128) ![q, 0, 0] ![1, 512, 128] inb1).shape.Idx → Elt Ideal .f32)
    (L : List (View.Piece (Elt Ideal) S4x512x128 .f32)) (b : Fin 32) (l : Fin 128) (ht : t < 16) :
    v.readCov (⟨Rect.unit (s := S4x512x128) ![q, 0, 0] ![1, 512, 128] inb1, w⟩ :: L)
        { off := ![q, t, 0], size := ![1, 32, 128], stride := ![1, 16, 1], inb := inb2 } (ix3 0 b l)
      = w (ix3 0 ⟨b.val * 16 + t, by omega⟩ l) := by
  have h := View.canon_cons_emb (Val := Elt Ideal) (Rect.unit (s := S4x512x128) ![q, 0, 0] ![1, 512, 128] inb1) w L
    (ix3 0 ⟨b.val * 16 + t, by omega⟩ l)
  have e : ({ off := ![q, t, 0], size := ![1, 32, 128], stride := ![1, 16, 1], inb := inb2 } : LoadRect S4x512x128).idx
      (ix3 0 b l) = (Rect.unit (s := S4x512x128) ![q, 0, 0] ![1, 512, 128] inb1).emb (ix3 0 ⟨b.val * 16 + t, by omega⟩ l) := by
    funext a; apply Fin.ext
    match a with
    | ⟨0, _⟩ => show q + 1 * 0 = q + 1 * 0; rfl
    | ⟨1, _⟩ => show t + 16 * b.val = 0 + 1 * (b.val * 16 + t); omega
    | ⟨2, _⟩ => show 0 + 1 * l.val = 0 + 1 * l.val; rfl
  rw [← e] at h
  rw [View.readCov_eq_canon']
  exact h

/-- Part 0 of the first section: columns 0 to 127. -/
theorem part0_at (x0 : Vec Ideal S512x1024 .f32) (x1 : Vec Ideal S1x1024 .f32) (x2 : Vec Ideal S1024x4992 .bf16) (inb)
    (r r' : Fin 512) (l : Fin 128) (c : Fin 4992) (hr : r'.val = r.val) (hc : c.val = 0 + l.val) :
    k0_pay3 x0 x1 (View.ld x2 (Rect.unit (s := S1024x4992) ![0, 0] ![1024, 512] inb)) (ix3 0 r l) = bprod x0 x1 x2 r' c := by
  obtain rfl : r' = r := Fin.ext hr
  pointwise [k0_pay3, k0_pay2, norm_at]
  refine Finset.sum_congr rfl fun k _ => congrArg _ ?_
  refine congrArg x2 (congrArg (ix2 k) (Fin.ext ?_))
  first | omega | (dsimp only; omega)

/-- Part 1 of the first section: columns 128 to 255. -/
theorem part1_at (x0 : Vec Ideal S512x1024 .f32) (x1 : Vec Ideal S1x1024 .f32) (x2 : Vec Ideal S1024x4992 .bf16) (inb)
    (r r' : Fin 512) (l : Fin 128) (c : Fin 4992) (hr : r'.val = r.val) (hc : c.val = 128 + l.val) :
    k0_pay22 (k0_pay2 x0 x1 (View.ld x2 (Rect.unit (s := S1024x4992) ![0, 0] ![1024, 512] inb))) (ix3 0 r l) = bprod x0 x1 x2 r' c := by
  obtain rfl : r' = r := Fin.ext hr
  pointwise [k0_pay22, k0_pay2, norm_at]
  refine Finset.sum_congr rfl fun k _ => congrArg _ ?_
  refine congrArg x2 (congrArg (ix2 k) (Fin.ext ?_))
  first | omega | (dsimp only; omega)

/-- Part 2 of the first section: columns 256 to 383. -/
theorem part2_at (x0 : Vec Ideal S512x1024 .f32) (x1 : Vec Ideal S1x1024 .f32) (x2 : Vec Ideal S1024x4992 .bf16) (inb)
    (r r' : Fin 512) (l : Fin 128) (c : Fin 4992) (hr : r'.val = r.val) (hc : c.val = 256 + l.val) :
    k0_pay41 (k0_pay2 x0 x1 (View.ld x2 (Rect.unit (s := S1024x4992) ![0, 0] ![1024, 512] inb))) (ix3 0 r l) = bprod x0 x1 x2 r' c := by
  obtain rfl : r' = r := Fin.ext hr
  pointwise [k0_pay41, k0_pay2, norm_at]
  refine Finset.sum_congr rfl fun k _ => congrArg _ ?_
  refine congrArg x2 (congrArg (ix2 k) (Fin.ext ?_))
  first | omega | (dsimp only; omega)

/-- Part 3 of the first section: columns 384 to 511. -/
theorem part3_at (x0 : Vec Ideal S512x1024 .f32) (x1 : Vec Ideal S1x1024 .f32) (x2 : Vec Ideal S1024x4992 .bf16) (inb)
    (r r' : Fin 512) (l : Fin 128) (c : Fin 4992) (hr : r'.val = r.val) (hc : c.val = 384 + l.val) :
    k0_pay61 (k0_pay2 x0 x1 (View.ld x2 (Rect.unit (s := S1024x4992) ![0, 0] ![1024, 512] inb))) (ix3 0 r l) = bprod x0 x1 x2 r' c := by
  obtain rfl : r' = r := Fin.ext hr
  pointwise [k0_pay61, k0_pay2, norm_at]
  refine Finset.sum_congr rfl fun k _ => congrArg _ ?_
  refine congrArg x2 (congrArg (ix2 k) (Fin.ext ?_))
  first | omega | (dsimp only; omega)

section Point
variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4992 .bf16) (harg3 : arg3.IsWhole) (arg4 : Memref sig .tc .vmem S4x32x2048 .bf16) (harg4 : arg4.IsWhole) (arg5 : Memref sig .tc .vmem S512x512 .bf16) (harg5 : arg5.IsWhole) (arg6 : Memref sig .tc .vmem S512x768 .bf16) (harg6 : arg6.IsWhole) (arg7 : Memref sig .tc .vmem S512x128 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S4x512x128 .f32) (harg14 : arg14.IsWhole)
variable (x0 : Vec Ideal S512x1024 .f32) (x1 : Vec Ideal S1x1024 .f32) (x2 : Vec Ideal S1024x4992 .bf16)

theorem out4_at (r : Fin 512) (cc : Fin 512) :
    out0_A_4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 (ix2 r cc)
      = bprod x0 x1 x2 r ⟨512 + cc.val, by omega⟩ := by
  unfold out0_A_4
  rw [View.read_writes_junk_eq_canon]
  unfold kernelRun0_A
  dsimp only
  canon_tiles x h using cover0_A_4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 _
  · obtain ⟨r', c', rfl⟩ : ∃ (r' : Fin 512) (c' : Fin 512), x = ix2 r' c' := ⟨x 0, x 1, by idx_ext⟩
    obtain rfl : r = r' := Fin.ext h0
    have hc : cc.val = c'.val := h1
    simp only [View.readAt_eq_ld, harg3.read_unread, harg2.read_unread, harg1.read_unread, kernelRun0_A.sl.r, kernelRun0_A.sl.r_12]
    rw [View.ld_unit_zero (S := S512x1024) zero2, View.ld_unit_zero (S := S1x1024) zero2]
    pointwise [k0_pay80, k0_pay81, norm_at]
    refine Finset.sum_congr rfl fun k _ => congrArg _ ?_
    refine congrArg x2 (congrArg (ix2 k) (Fin.ext ?_))
    first | omega | (dsimp only; omega)

theorem out5_at (r : Fin 512) (cc : Fin 768) :
    out0_A_5 c i arg1 harg1 arg2 harg2 arg3 harg3 arg4 harg4 arg5 harg5 arg6 harg6 arg7 harg7 arg8 harg8 arg9 harg9 arg10 harg10 arg11 harg11 arg12 harg12 arg13 harg13 arg14 harg14 x0 x1 x2 (ix2 r cc)
      = bprod x0 x1 x2 r ⟨1024 + cc.val, by omega⟩ := by
  unfold out0_A_5
  rw [View.read_writes_junk_eq_canon]
  unfold kernelRun0_A
  dsimp only
  canon_tiles x h using cover0_A_5 c i arg1 harg1 arg2 harg2 arg3 harg3 arg4 harg4 arg5 harg5 arg6 harg6 arg7 harg7 arg8 harg8 arg9 harg9 arg10 harg10 arg11 harg11 arg12 harg12 arg13 harg13 arg14 harg14 x0 x1 x2 _
  · obtain ⟨r', c', rfl⟩ : ∃ (r' : Fin 512) (c' : Fin 256), x = ix2 r' c' := ⟨x 0, x 1, by idx_ext⟩
    obtain rfl : r = r' := Fin.ext h0
    have hc : cc.val = 512 + c'.val := h1
    simp only [View.readAt_eq_ld, harg3.read_unread, harg2.read_unread, harg1.read_unread, kernelRun0_A.sl.r, kernelRun0_A.sl.r_12]
    rw [View.ld_unit_zero (S := S512x1024) zero2, View.ld_unit_zero (S := S1x1024) zero2]
    pointwise [k0_pay83, norm_at]
    refine Finset.sum_congr rfl fun k _ => congrArg _ ?_
    refine congrArg x2 (congrArg (ix2 k) (Fin.ext ?_))
    first | omega | (dsimp only; omega)
  · obtain ⟨r', c', rfl⟩ : ∃ (r' : Fin 512) (c' : Fin 512), x = ix2 r' c' := ⟨x 0, x 1, by idx_ext⟩
    obtain rfl : r = r' := Fin.ext h0
    have hc : cc.val = c'.val := h1
    simp only [View.readAt_eq_ld, harg3.read_unread, harg2.read_unread, harg1.read_unread, kernelRun0_A.sl.r, kernelRun0_A.sl.r_12]
    rw [View.ld_unit_zero (S := S512x1024) zero2, View.ld_unit_zero (S := S1x1024) zero2]
    pointwise [k0_pay82, norm_at]
    refine Finset.sum_congr rfl fun k _ => congrArg _ ?_
    refine congrArg x2 (congrArg (ix2 k) (Fin.ext ?_))
    first | omega | (dsimp only; omega)

theorem out6_at (r : Fin 512) (cc : Fin 128) :
    out0_A_6 c i arg1 harg1 arg2 harg2 arg3 harg3 arg4 harg4 arg5 harg5 arg6 harg6 arg7 harg7 arg8 harg8 arg9 harg9 arg10 harg10 arg11 harg11 arg12 harg12 arg13 harg13 arg14 harg14 x0 x1 x2 (ix2 r cc)
      = bprod x0 x1 x2 r ⟨1792 + cc.val, by omega⟩ := by
  unfold out0_A_6
  rw [View.read_writes_junk_eq_canon]
  unfold kernelRun0_A
  dsimp only
  canon_tiles x h using cover0_A_6 c i arg1 harg1 arg2 harg2 arg3 harg3 arg4 harg4 arg5 harg5 arg6 harg6 arg7 harg7 arg8 harg8 arg9 harg9 arg10 harg10 arg11 harg11 arg12 harg12 arg13 harg13 arg14 harg14 x0 x1 x2 _
  · obtain ⟨r', c', rfl⟩ : ∃ (r' : Fin 512) (c' : Fin 128), x = ix2 r' c' := ⟨x 0, x 1, by idx_ext⟩
    obtain rfl : r = r' := Fin.ext h0
    have hc : cc.val = c'.val := h1
    simp only [View.readAt_eq_ld, harg3.read_unread, harg2.read_unread, harg1.read_unread, kernelRun0_A.sl.r, kernelRun0_A.sl.r_12]
    rw [View.ld_unit_zero (S := S512x1024) zero2, View.ld_unit_zero (S := S1x1024) zero2]
    pointwise [k0_pay84, norm_at]
    refine Finset.sum_congr rfl fun k _ => congrArg _ ?_
    refine congrArg x2 (congrArg (ix2 k) (Fin.ext ?_))
    first | omega | (dsimp only; omega)

theorem out7_at (r : Fin 512) (cc : Fin 512) :
    out0_A_7 c i arg1 harg1 arg2 harg2 arg3 harg3 arg4 harg4 arg5 harg5 arg6 harg6 arg7 harg7 arg8 harg8 arg9 harg9 arg10 harg10 arg11 harg11 arg12 harg12 arg13 harg13 arg14 harg14 x0 x1 x2 (ix2 r cc)
      = bprod x0 x1 x2 r ⟨1920 + cc.val, by omega⟩ := by
  unfold out0_A_7
  rw [View.read_writes_junk_eq_canon]
  unfold kernelRun0_A
  dsimp only
  canon_tiles x h using cover0_A_7 c i arg1 harg1 arg2 harg2 arg3 harg3 arg4 harg4 arg5 harg5 arg6 harg6 arg7 harg7 arg8 harg8 arg9 harg9 arg10 harg10 arg11 harg11 arg12 harg12 arg13 harg13 arg14 harg14 x0 x1 x2 _
  · obtain ⟨r', c', rfl⟩ : ∃ (r' : Fin 512) (c' : Fin 512), x = ix2 r' c' := ⟨x 0, x 1, by idx_ext⟩
    obtain rfl : r = r' := Fin.ext h0
    have hc : cc.val = c'.val := h1
    simp only [View.readAt_eq_ld, harg3.read_unread, harg2.read_unread, harg1.read_unread, kernelRun0_A.sl.r, kernelRun0_A.sl.r_12]
    rw [View.ld_unit_zero (S := S512x1024) zero2, View.ld_unit_zero (S := S1x1024) zero2]
    pointwise [k0_pay85, norm_at]
    refine Finset.sum_congr rfl fun k _ => congrArg _ ?_
    refine congrArg x2 (congrArg (ix2 k) (Fin.ext ?_))
    first | omega | (dsimp only; omega)

theorem out8_at (r : Fin 512) (cc : Fin 512) :
    out0_A_8 c i arg1 harg1 arg2 harg2 arg3 harg3 arg4 harg4 arg5 harg5 arg6 harg6 arg7 harg7 arg8 harg8 arg9 harg9 arg10 harg10 arg11 harg11 arg12 harg12 arg13 harg13 arg14 harg14 x0 x1 x2 (ix2 r cc)
      = bprod x0 x1 x2 r ⟨2432 + cc.val, by omega⟩ := by
  unfold out0_A_8
  rw [View.read_writes_junk_eq_canon]
  unfold kernelRun0_A
  dsimp only
  canon_tiles x h using cover0_A_8 c i arg1 harg1 arg2 harg2 arg3 harg3 arg4 harg4 arg5 harg5 arg6 harg6 arg7 harg7 arg8 harg8 arg9 harg9 arg10 harg10 arg11 harg11 arg12 harg12 arg13 harg13 arg14 harg14 x0 x1 x2 _
  · obtain ⟨r', c', rfl⟩ : ∃ (r' : Fin 512) (c' : Fin 512), x = ix2 r' c' := ⟨x 0, x 1, by idx_ext⟩
    obtain rfl : r = r' := Fin.ext h0
    have hc : cc.val = c'.val := h1
    simp only [View.readAt_eq_ld, harg3.read_unread, harg2.read_unread, harg1.read_unread, kernelRun0_A.sl.r, kernelRun0_A.sl.r_12]
    rw [View.ld_unit_zero (S := S512x1024) zero2, View.ld_unit_zero (S := S1x1024) zero2]
    pointwise [k0_pay86, norm_at]
    refine Finset.sum_congr rfl fun k _ => congrArg _ ?_
    refine congrArg x2 (congrArg (ix2 k) (Fin.ext ?_))
    first | omega | (dsimp only; omega)

theorem out9_at (r : Fin 512) (cc : Fin 512) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 x0 x1 x2 (ix2 r cc)
      = bprod x0 x1 x2 r ⟨2944 + cc.val, by omega⟩ := by
  unfold out0_A_9
  rw [View.read_writes_junk_eq_canon]
  unfold kernelRun0_A
  dsimp only
  canon_tiles x h using cover0_A_9 c i arg1 harg1 arg2 harg2 arg3 harg3 arg4 harg4 arg5 harg5 arg6 harg6 arg7 harg7 arg8 harg8 arg9 harg9 arg10 harg10 arg11 harg11 arg12 harg12 arg13 harg13 arg14 harg14 x0 x1 x2 _
  · obtain ⟨r', c', rfl⟩ : ∃ (r' : Fin 512) (c' : Fin 512), x = ix2 r' c' := ⟨x 0, x 1, by idx_ext⟩
    obtain rfl : r = r' := Fin.ext h0
    have hc : cc.val = c'.val := h1
    simp only [View.readAt_eq_ld, harg3.read_unread, harg2.read_unread, harg1.read_unread, kernelRun0_A.sl.r, kernelRun0_A.sl.r_12]
    rw [View.ld_unit_zero (S := S512x1024) zero2, View.ld_unit_zero (S := S1x1024) zero2]
    pointwise [k0_pay87, norm_at]
    refine Finset.sum_congr rfl fun k _ => congrArg _ ?_
    refine congrArg x2 (congrArg (ix2 k) (Fin.ext ?_))
    first | omega | (dsimp only; omega)

theorem out10_at (r : Fin 512) (cc : Fin 512) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 x0 x1 x2 (ix2 r cc)
      = bprod x0 x1 x2 r ⟨3456 + cc.val, by omega⟩ := by
  unfold out0_A_10
  rw [View.read_writes_junk_eq_canon]
  unfold kernelRun0_A
  dsimp only
  canon_tiles x h using cover0_A_10 c i arg1 harg1 arg2 harg2 arg3 harg3 arg4 harg4 arg5 harg5 arg6 harg6 arg7 harg7 arg8 harg8 arg9 harg9 arg10 harg10 arg11 harg11 arg12 harg12 arg13 harg13 arg14 harg14 x0 x1 x2 _
  · obtain ⟨r', c', rfl⟩ : ∃ (r' : Fin 512) (c' : Fin 512), x = ix2 r' c' := ⟨x 0, x 1, by idx_ext⟩
    obtain rfl : r = r' := Fin.ext h0
    have hc : cc.val = c'.val := h1
    simp only [View.readAt_eq_ld, harg3.read_unread, harg2.read_unread, harg1.read_unread, kernelRun0_A.sl.r, kernelRun0_A.sl.r_12]
    rw [View.ld_unit_zero (S := S512x1024) zero2, View.ld_unit_zero (S := S1x1024) zero2]
    pointwise [k0_pay88, norm_at]
    refine Finset.sum_congr rfl fun k _ => congrArg _ ?_
    refine congrArg x2 (congrArg (ix2 k) (Fin.ext ?_))
    first | omega | (dsimp only; omega)

theorem out11_at (r : Fin 512) (cc : Fin 512) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 (ix2 r cc)
      = bprod x0 x1 x2 r ⟨3968 + cc.val, by omega⟩ := by
  unfold out0_A_11
  rw [View.read_writes_junk_eq_canon]
  unfold kernelRun0_A
  dsimp only
  canon_tiles x h using cover0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 _
  · obtain ⟨r', c', rfl⟩ : ∃ (r' : Fin 512) (c' : Fin 512), x = ix2 r' c' := ⟨x 0, x 1, by idx_ext⟩
    obtain rfl : r = r' := Fin.ext h0
    have hc : cc.val = c'.val := h1
    simp only [View.readAt_eq_ld, harg3.read_unread, harg2.read_unread, harg1.read_unread, kernelRun0_A.sl.r, kernelRun0_A.sl.r_12]
    rw [View.ld_unit_zero (S := S512x1024) zero2, View.ld_unit_zero (S := S1x1024) zero2]
    pointwise [k0_pay89, norm_at]
    refine Finset.sum_congr rfl fun k _ => congrArg _ ?_
    refine congrArg x2 (congrArg (ix2 k) (Fin.ext ?_))
    first | omega | (dsimp only; omega)

theorem out12_at (r : Fin 512) (cc : Fin 512) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 (ix2 r cc)
      = bprod x0 x1 x2 r ⟨4480 + cc.val, by omega⟩ := by
  unfold out0_A_12
  rw [View.read_writes_junk_eq_canon]
  unfold kernelRun0_A
  dsimp only
  canon_tiles x h using cover0_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 _
  · obtain ⟨r', c', rfl⟩ : ∃ (r' : Fin 512) (c' : Fin 512), x = ix2 r' c' := ⟨x 0, x 1, by idx_ext⟩
    obtain rfl : r = r' := Fin.ext h0
    have hc : cc.val = c'.val := h1
    simp only [View.readAt_eq_ld, harg3.read_unread, harg2.read_unread, harg1.read_unread, kernelRun0_A.sl.r, kernelRun0_A.sl.r_12]
    rw [View.ld_unit_zero (S := S512x1024) zero2, View.ld_unit_zero (S := S1x1024) zero2]
    pointwise [k0_pay90, norm_at]
    refine Finset.sum_congr rfl fun k _ => congrArg _ ?_
    refine congrArg x2 (congrArg (ix2 k) (Fin.ext ?_))
    first | omega | (dsimp only; omega)

set_option maxHeartbeats 8000000 in
theorem out3_at (q : Fin 4) (b : Fin 32) (cc : Fin 2048) :
    out0_A_3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 (ix3 q b cc)
      = bprod x0 x1 x2 ⟨b.val * 16 + cc.val / 128, by omega⟩ ⟨q.val * 128 + cc.val % 128, by omega⟩ := by
  unfold out0_A_3
  rw [View.read_writes_junk_eq_canon]
  unfold kernelRun0_A
  dsimp only
  canon_tiles x h using cover0_A_3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 _
  · obtain ⟨b', l, rfl⟩ : ∃ (b' : Fin 32) (l : Fin 128), x = ix3 0 b' l := ⟨x 1, x 2, by idx_ext⟩
    obtain rfl : b = b' := Fin.ext h1
    have hq : q.val = 3 := h0
    have hc : cc.val = 1920 + l.val := h2
    pointwise [k0_pay79, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v413, kernelRun0_A.sl.HS0_4]
    refine (strided _ 3 15 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part3_at x0 x1 x2 _ ⟨b.val * 16 + 15, by omega⟩ ⟨b.val * 16 + cc.val / 128, by omega⟩ l ⟨q.val * 128 + cc.val % 128, by omega⟩
      (show b.val * 16 + cc.val / 128 = b.val * 16 + 15 by omega) (show q.val * 128 + cc.val % 128 = 384 + l.val by omega)
  · obtain ⟨b', l, rfl⟩ : ∃ (b' : Fin 32) (l : Fin 128), x = ix3 0 b' l := ⟨x 1, x 2, by idx_ext⟩
    obtain rfl : b = b' := Fin.ext h1
    have hq : q.val = 3 := h0
    have hc : cc.val = 1792 + l.val := h2
    pointwise [k0_pay78, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v407, kernelRun0_A.sl.HS0_4]
    refine (strided _ 3 14 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part3_at x0 x1 x2 _ ⟨b.val * 16 + 14, by omega⟩ ⟨b.val * 16 + cc.val / 128, by omega⟩ l ⟨q.val * 128 + cc.val % 128, by omega⟩
      (show b.val * 16 + cc.val / 128 = b.val * 16 + 14 by omega) (show q.val * 128 + cc.val % 128 = 384 + l.val by omega)
  · obtain ⟨b', l, rfl⟩ : ∃ (b' : Fin 32) (l : Fin 128), x = ix3 0 b' l := ⟨x 1, x 2, by idx_ext⟩
    obtain rfl : b = b' := Fin.ext h1
    have hq : q.val = 3 := h0
    have hc : cc.val = 1664 + l.val := h2
    pointwise [k0_pay77, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v401, kernelRun0_A.sl.HS0_4]
    refine (strided _ 3 13 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part3_at x0 x1 x2 _ ⟨b.val * 16 + 13, by omega⟩ ⟨b.val * 16 + cc.val / 128, by omega⟩ l ⟨q.val * 128 + cc.val % 128, by omega⟩
      (show b.val * 16 + cc.val / 128 = b.val * 16 + 13 by omega) (show q.val * 128 + cc.val % 128 = 384 + l.val by omega)
  · obtain ⟨b', l, rfl⟩ : ∃ (b' : Fin 32) (l : Fin 128), x = ix3 0 b' l := ⟨x 1, x 2, by idx_ext⟩
    obtain rfl : b = b' := Fin.ext h1
    have hq : q.val = 3 := h0
    have hc : cc.val = 1536 + l.val := h2
    pointwise [k0_pay76, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v395, kernelRun0_A.sl.HS0_4]
    refine (strided _ 3 12 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part3_at x0 x1 x2 _ ⟨b.val * 16 + 12, by omega⟩ ⟨b.val * 16 + cc.val / 128, by omega⟩ l ⟨q.val * 128 + cc.val % 128, by omega⟩
      (show b.val * 16 + cc.val / 128 = b.val * 16 + 12 by omega) (show q.val * 128 + cc.val % 128 = 384 + l.val by omega)
  · obtain ⟨b', l, rfl⟩ : ∃ (b' : Fin 32) (l : Fin 128), x = ix3 0 b' l := ⟨x 1, x 2, by idx_ext⟩
    obtain rfl : b = b' := Fin.ext h1
    have hq : q.val = 3 := h0
    have hc : cc.val = 1408 + l.val := h2
    pointwise [k0_pay75, k0_pay74, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v389, kernelRun0_A.sl.HS0_4]
    refine (strided _ 3 11 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part3_at x0 x1 x2 _ ⟨b.val * 16 + 11, by omega⟩ ⟨b.val * 16 + cc.val / 128, by omega⟩ l ⟨q.val * 128 + cc.val % 128, by omega⟩
      (show b.val * 16 + cc.val / 128 = b.val * 16 + 11 by omega) (show q.val * 128 + cc.val % 128 = 384 + l.val by omega)
  · obtain ⟨b', l, rfl⟩ : ∃ (b' : Fin 32) (l : Fin 128), x = ix3 0 b' l := ⟨x 1, x 2, by idx_ext⟩
    obtain rfl : b = b' := Fin.ext h1
    have hq : q.val = 3 := h0
    have hc : cc.val = 1280 + l.val := h2
    pointwise [k0_pay73, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v383, kernelRun0_A.sl.HS0_4]
    refine (strided _ 3 10 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part3_at x0 x1 x2 _ ⟨b.val * 16 + 10, by omega⟩ ⟨b.val * 16 + cc.val / 128, by omega⟩ l ⟨q.val * 128 + cc.val % 128, by omega⟩
      (show b.val * 16 + cc.val / 128 = b.val * 16 + 10 by omega) (show q.val * 128 + cc.val % 128 = 384 + l.val by omega)
  · obtain ⟨b', l, rfl⟩ : ∃ (b' : Fin 32) (l : Fin 128), x = ix3 0 b' l := ⟨x 1, x 2, by idx_ext⟩
    obtain rfl : b = b' := Fin.ext h1
    have hq : q.val = 3 := h0
    have hc : cc.val = 1152 + l.val := h2
    pointwise [k0_pay72, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v377, kernelRun0_A.sl.HS0_4]
    refine (strided _ 3 9 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part3_at x0 x1 x2 _ ⟨b.val * 16 + 9, by omega⟩ ⟨b.val * 16 + cc.val / 128, by omega⟩ l ⟨q.val * 128 + cc.val % 128, by omega⟩
      (show b.val * 16 + cc.val / 128 = b.val * 16 + 9 by omega) (show q.val * 128 + cc.val % 128 = 384 + l.val by omega)
  · obtain ⟨b', l, rfl⟩ : ∃ (b' : Fin 32) (l : Fin 128), x = ix3 0 b' l := ⟨x 1, x 2, by idx_ext⟩
    obtain rfl : b = b' := Fin.ext h1
    have hq : q.val = 3 := h0
    have hc : cc.val = 1024 + l.val := h2
    pointwise [k0_pay71, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v371, kernelRun0_A.sl.HS0_4]
    refine (strided _ 3 8 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part3_at x0 x1 x2 _ ⟨b.val * 16 + 8, by omega⟩ ⟨b.val * 16 + cc.val / 128, by omega⟩ l ⟨q.val * 128 + cc.val % 128, by omega⟩
      (show b.val * 16 + cc.val / 128 = b.val * 16 + 8 by omega) (show q.val * 128 + cc.val % 128 = 384 + l.val by omega)
  · obtain ⟨b', l, rfl⟩ : ∃ (b' : Fin 32) (l : Fin 128), x = ix3 0 b' l := ⟨x 1, x 2, by idx_ext⟩
    obtain rfl : b = b' := Fin.ext h1
    have hq : q.val = 3 := h0
    have hc : cc.val = 896 + l.val := h2
    pointwise [k0_pay70, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v365, kernelRun0_A.sl.HS0_4]
    refine (strided _ 3 7 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part3_at x0 x1 x2 _ ⟨b.val * 16 + 7, by omega⟩ ⟨b.val * 16 + cc.val / 128, by omega⟩ l ⟨q.val * 128 + cc.val % 128, by omega⟩
      (show b.val * 16 + cc.val / 128 = b.val * 16 + 7 by omega) (show q.val * 128 + cc.val % 128 = 384 + l.val by omega)
  · obtain ⟨b', l, rfl⟩ : ∃ (b' : Fin 32) (l : Fin 128), x = ix3 0 b' l := ⟨x 1, x 2, by idx_ext⟩
    obtain rfl : b = b' := Fin.ext h1
    have hq : q.val = 3 := h0
    have hc : cc.val = 768 + l.val := h2
    pointwise [k0_pay69, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v359, kernelRun0_A.sl.HS0_4]
    refine (strided _ 3 6 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part3_at x0 x1 x2 _ ⟨b.val * 16 + 6, by omega⟩ ⟨b.val * 16 + cc.val / 128, by omega⟩ l ⟨q.val * 128 + cc.val % 128, by omega⟩
      (show b.val * 16 + cc.val / 128 = b.val * 16 + 6 by omega) (show q.val * 128 + cc.val % 128 = 384 + l.val by omega)
  · obtain ⟨b', l, rfl⟩ : ∃ (b' : Fin 32) (l : Fin 128), x = ix3 0 b' l := ⟨x 1, x 2, by idx_ext⟩
    obtain rfl : b = b' := Fin.ext h1
    have hq : q.val = 3 := h0
    have hc : cc.val = 640 + l.val := h2
    pointwise [k0_pay68, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v353, kernelRun0_A.sl.HS0_4]
    refine (strided _ 3 5 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part3_at x0 x1 x2 _ ⟨b.val * 16 + 5, by omega⟩ ⟨b.val * 16 + cc.val / 128, by omega⟩ l ⟨q.val * 128 + cc.val % 128, by omega⟩
      (show b.val * 16 + cc.val / 128 = b.val * 16 + 5 by omega) (show q.val * 128 + cc.val % 128 = 384 + l.val by omega)
  · obtain ⟨b', l, rfl⟩ : ∃ (b' : Fin 32) (l : Fin 128), x = ix3 0 b' l := ⟨x 1, x 2, by idx_ext⟩
    obtain rfl : b = b' := Fin.ext h1
    have hq : q.val = 3 := h0
    have hc : cc.val = 512 + l.val := h2
    pointwise [k0_pay67, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v347, kernelRun0_A.sl.HS0_4]
    refine (strided _ 3 4 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part3_at x0 x1 x2 _ ⟨b.val * 16 + 4, by omega⟩ ⟨b.val * 16 + cc.val / 128, by omega⟩ l ⟨q.val * 128 + cc.val % 128, by omega⟩
      (show b.val * 16 + cc.val / 128 = b.val * 16 + 4 by omega) (show q.val * 128 + cc.val % 128 = 384 + l.val by omega)
  · obtain ⟨b', l, rfl⟩ : ∃ (b' : Fin 32) (l : Fin 128), x = ix3 0 b' l := ⟨x 1, x 2, by idx_ext⟩
    obtain rfl : b = b' := Fin.ext h1
    have hq : q.val = 3 := h0
    have hc : cc.val = 384 + l.val := h2
    pointwise [k0_pay66, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v341, kernelRun0_A.sl.HS0_4]
    refine (strided _ 3 3 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part3_at x0 x1 x2 _ ⟨b.val * 16 + 3, by omega⟩ ⟨b.val * 16 + cc.val / 128, by omega⟩ l ⟨q.val * 128 + cc.val % 128, by omega⟩
      (show b.val * 16 + cc.val / 128 = b.val * 16 + 3 by omega) (show q.val * 128 + cc.val % 128 = 384 + l.val by omega)
  · obtain ⟨b', l, rfl⟩ : ∃ (b' : Fin 32) (l : Fin 128), x = ix3 0 b' l := ⟨x 1, x 2, by idx_ext⟩
    obtain rfl : b = b' := Fin.ext h1
    have hq : q.val = 3 := h0
    have hc : cc.val = 256 + l.val := h2
    pointwise [k0_pay65, k0_pay64, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v335, kernelRun0_A.sl.HS0_4]
    refine (strided _ 3 2 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part3_at x0 x1 x2 _ ⟨b.val * 16 + 2, by omega⟩ ⟨b.val * 16 + cc.val / 128, by omega⟩ l ⟨q.val * 128 + cc.val % 128, by omega⟩
      (show b.val * 16 + cc.val / 128 = b.val * 16 + 2 by omega) (show q.val * 128 + cc.val % 128 = 384 + l.val by omega)
  · obtain ⟨b', l, rfl⟩ : ∃ (b' : Fin 32) (l : Fin 128), x = ix3 0 b' l := ⟨x 1, x 2, by idx_ext⟩
    obtain rfl : b = b' := Fin.ext h1
    have hq : q.val = 3 := h0
    have hc : cc.val = 128 + l.val := h2
    pointwise [k0_pay63, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v329, kernelRun0_A.sl.HS0_4]
    refine (strided _ 3 1 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part3_at x0 x1 x2 _ ⟨b.val * 16 + 1, by omega⟩ ⟨b.val * 16 + cc.val / 128, by omega⟩ l ⟨q.val * 128 + cc.val % 128, by omega⟩
      (show b.val * 16 + cc.val / 128 = b.val * 16 + 1 by omega) (show q.val * 128 + cc.val % 128 = 384 + l.val by omega)
  · obtain ⟨b', l, rfl⟩ : ∃ (b' : Fin 32) (l : Fin 128), x = ix3 0 b' l := ⟨x 1, x 2, by idx_ext⟩
    obtain rfl : b = b' := Fin.ext h1
    have hq : q.val = 3 := h0
    have hc : cc.val = l.val := h2
    pointwise [k0_pay62, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v323, kernelRun0_A.sl.HS0_4]
    refine (strided _ 3 0 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part3_at x0 x1 x2 _ ⟨b.val * 16 + 0, by omega⟩ ⟨b.val * 16 + cc.val / 128, by omega⟩ l ⟨q.val * 128 + cc.val % 128, by omega⟩
      (show b.val * 16 + cc.val / 128 = b.val * 16 + 0 by omega) (show q.val * 128 + cc.val % 128 = 384 + l.val by omega)
  · obtain ⟨b', l, rfl⟩ : ∃ (b' : Fin 32) (l : Fin 128), x = ix3 0 b' l := ⟨x 1, x 2, by idx_ext⟩
    obtain rfl : b = b' := Fin.ext h1
    have hq : q.val = 2 := h0
    have hc : cc.val = 1920 + l.val := h2
    pointwise [k0_pay60, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v313, kernelRun0_A.sl.HS0_3]
    refine (strided _ 2 15 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part2_at x0 x1 x2 _ ⟨b.val * 16 + 15, by omega⟩ ⟨b.val * 16 + cc.val / 128, by omega⟩ l ⟨q.val * 128 + cc.val % 128, by omega⟩
      (show b.val * 16 + cc.val / 128 = b.val * 16 + 15 by omega) (show q.val * 128 + cc.val % 128 = 256 + l.val by omega)
  · obtain ⟨b', l, rfl⟩ : ∃ (b' : Fin 32) (l : Fin 128), x = ix3 0 b' l := ⟨x 1, x 2, by idx_ext⟩
    obtain rfl : b = b' := Fin.ext h1
    have hq : q.val = 2 := h0
    have hc : cc.val = 1792 + l.val := h2
    pointwise [k0_pay59, k0_pay58, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v307, kernelRun0_A.sl.HS0_3]
    refine (strided _ 2 14 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part2_at x0 x1 x2 _ ⟨b.val * 16 + 14, by omega⟩ ⟨b.val * 16 + cc.val / 128, by omega⟩ l ⟨q.val * 128 + cc.val % 128, by omega⟩
      (show b.val * 16 + cc.val / 128 = b.val * 16 + 14 by omega) (show q.val * 128 + cc.val % 128 = 256 + l.val by omega)
  · obtain ⟨b', l, rfl⟩ : ∃ (b' : Fin 32) (l : Fin 128), x = ix3 0 b' l := ⟨x 1, x 2, by idx_ext⟩
    obtain rfl : b = b' := Fin.ext h1
    have hq : q.val = 2 := h0
    have hc : cc.val = 1664 + l.val := h2
    pointwise [k0_pay57, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v301, kernelRun0_A.sl.HS0_3]
    refine (strided _ 2 13 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part2_at x0 x1 x2 _ ⟨b.val * 16 + 13, by omega⟩ ⟨b.val * 16 + cc.val / 128, by omega⟩ l ⟨q.val * 128 + cc.val % 128, by omega⟩
      (show b.val * 16 + cc.val / 128 = b.val * 16 + 13 by omega) (show q.val * 128 + cc.val % 128 = 256 + l.val by omega)
  · obtain ⟨b', l, rfl⟩ : ∃ (b' : Fin 32) (l : Fin 128), x = ix3 0 b' l := ⟨x 1, x 2, by idx_ext⟩
    obtain rfl : b = b' := Fin.ext h1
    have hq : q.val = 2 := h0
    have hc : cc.val = 1536 + l.val := h2
    pointwise [k0_pay56, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v295, kernelRun0_A.sl.HS0_3]
    refine (strided _ 2 12 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part2_at x0 x1 x2 _ ⟨b.val * 16 + 12, by omega⟩ ⟨b.val * 16 + cc.val / 128, by omega⟩ l ⟨q.val * 128 + cc.val % 128, by omega⟩
      (show b.val * 16 + cc.val / 128 = b.val * 16 + 12 by omega) (show q.val * 128 + cc.val % 128 = 256 + l.val by omega)
  · obtain ⟨b', l, rfl⟩ : ∃ (b' : Fin 32) (l : Fin 128), x = ix3 0 b' l := ⟨x 1, x 2, by idx_ext⟩
    obtain rfl : b = b' := Fin.ext h1
    have hq : q.val = 2 := h0
    have hc : cc.val = 1408 + l.val := h2
    pointwise [k0_pay55, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v289, kernelRun0_A.sl.HS0_3]
    refine (strided _ 2 11 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part2_at x0 x1 x2 _ ⟨b.val * 16 + 11, by omega⟩ ⟨b.val * 16 + cc.val / 128, by omega⟩ l ⟨q.val * 128 + cc.val % 128, by omega⟩
      (show b.val * 16 + cc.val / 128 = b.val * 16 + 11 by omega) (show q.val * 128 + cc.val % 128 = 256 + l.val by omega)
  · obtain ⟨b', l, rfl⟩ : ∃ (b' : Fin 32) (l : Fin 128), x = ix3 0 b' l := ⟨x 1, x 2, by idx_ext⟩
    obtain rfl : b = b' := Fin.ext h1
    have hq : q.val = 2 := h0
    have hc : cc.val = 1280 + l.val := h2
    pointwise [k0_pay54, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v283, kernelRun0_A.sl.HS0_3]
    refine (strided _ 2 10 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part2_at x0 x1 x2 _ ⟨b.val * 16 + 10, by omega⟩ ⟨b.val * 16 + cc.val / 128, by omega⟩ l ⟨q.val * 128 + cc.val % 128, by omega⟩
      (show b.val * 16 + cc.val / 128 = b.val * 16 + 10 by omega) (show q.val * 128 + cc.val % 128 = 256 + l.val by omega)
  · obtain ⟨b', l, rfl⟩ : ∃ (b' : Fin 32) (l : Fin 128), x = ix3 0 b' l := ⟨x 1, x 2, by idx_ext⟩
    obtain rfl : b = b' := Fin.ext h1
    have hq : q.val = 2 := h0
    have hc : cc.val = 1152 + l.val := h2
    pointwise [k0_pay53, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v277, kernelRun0_A.sl.HS0_3]
    refine (strided _ 2 9 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part2_at x0 x1 x2 _ ⟨b.val * 16 + 9, by omega⟩ ⟨b.val * 16 + cc.val / 128, by omega⟩ l ⟨q.val * 128 + cc.val % 128, by omega⟩
      (show b.val * 16 + cc.val / 128 = b.val * 16 + 9 by omega) (show q.val * 128 + cc.val % 128 = 256 + l.val by omega)
  · obtain ⟨b', l, rfl⟩ : ∃ (b' : Fin 32) (l : Fin 128), x = ix3 0 b' l := ⟨x 1, x 2, by idx_ext⟩
    obtain rfl : b = b' := Fin.ext h1
    have hq : q.val = 2 := h0
    have hc : cc.val = 1024 + l.val := h2
    pointwise [k0_pay52, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v271, kernelRun0_A.sl.HS0_3]
    refine (strided _ 2 8 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part2_at x0 x1 x2 _ ⟨b.val * 16 + 8, by omega⟩ ⟨b.val * 16 + cc.val / 128, by omega⟩ l ⟨q.val * 128 + cc.val % 128, by omega⟩
      (show b.val * 16 + cc.val / 128 = b.val * 16 + 8 by omega) (show q.val * 128 + cc.val % 128 = 256 + l.val by omega)
  · obtain ⟨b', l, rfl⟩ : ∃ (b' : Fin 32) (l : Fin 128), x = ix3 0 b' l := ⟨x 1, x 2, by idx_ext⟩
    obtain rfl : b = b' := Fin.ext h1
    have hq : q.val = 2 := h0
    have hc : cc.val = 896 + l.val := h2
    pointwise [k0_pay51, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v265, kernelRun0_A.sl.HS0_3]
    refine (strided _ 2 7 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part2_at x0 x1 x2 _ ⟨b.val * 16 + 7, by omega⟩ ⟨b.val * 16 + cc.val / 128, by omega⟩ l ⟨q.val * 128 + cc.val % 128, by omega⟩
      (show b.val * 16 + cc.val / 128 = b.val * 16 + 7 by omega) (show q.val * 128 + cc.val % 128 = 256 + l.val by omega)
  · obtain ⟨b', l, rfl⟩ : ∃ (b' : Fin 32) (l : Fin 128), x = ix3 0 b' l := ⟨x 1, x 2, by idx_ext⟩
    obtain rfl : b = b' := Fin.ext h1
    have hq : q.val = 2 := h0
    have hc : cc.val = 768 + l.val := h2
    pointwise [k0_pay50, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v259, kernelRun0_A.sl.HS0_3]
    refine (strided _ 2 6 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part2_at x0 x1 x2 _ ⟨b.val * 16 + 6, by omega⟩ ⟨b.val * 16 + cc.val / 128, by omega⟩ l ⟨q.val * 128 + cc.val % 128, by omega⟩
      (show b.val * 16 + cc.val / 128 = b.val * 16 + 6 by omega) (show q.val * 128 + cc.val % 128 = 256 + l.val by omega)
  · obtain ⟨b', l, rfl⟩ : ∃ (b' : Fin 32) (l : Fin 128), x = ix3 0 b' l := ⟨x 1, x 2, by idx_ext⟩
    obtain rfl : b = b' := Fin.ext h1
    have hq : q.val = 2 := h0
    have hc : cc.val = 640 + l.val := h2
    pointwise [k0_pay49, k0_pay48, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v253, kernelRun0_A.sl.HS0_3]
    refine (strided _ 2 5 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part2_at x0 x1 x2 _ ⟨b.val * 16 + 5, by omega⟩ ⟨b.val * 16 + cc.val / 128, by omega⟩ l ⟨q.val * 128 + cc.val % 128, by omega⟩
      (show b.val * 16 + cc.val / 128 = b.val * 16 + 5 by omega) (show q.val * 128 + cc.val % 128 = 256 + l.val by omega)
  · obtain ⟨b', l, rfl⟩ : ∃ (b' : Fin 32) (l : Fin 128), x = ix3 0 b' l := ⟨x 1, x 2, by idx_ext⟩
    obtain rfl : b = b' := Fin.ext h1
    have hq : q.val = 2 := h0
    have hc : cc.val = 512 + l.val := h2
    pointwise [k0_pay47, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v247, kernelRun0_A.sl.HS0_3]
    refine (strided _ 2 4 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part2_at x0 x1 x2 _ ⟨b.val * 16 + 4, by omega⟩ ⟨b.val * 16 + cc.val / 128, by omega⟩ l ⟨q.val * 128 + cc.val % 128, by omega⟩
      (show b.val * 16 + cc.val / 128 = b.val * 16 + 4 by omega) (show q.val * 128 + cc.val % 128 = 256 + l.val by omega)
  · obtain ⟨b', l, rfl⟩ : ∃ (b' : Fin 32) (l : Fin 128), x = ix3 0 b' l := ⟨x 1, x 2, by idx_ext⟩
    obtain rfl : b = b' := Fin.ext h1
    have hq : q.val = 2 := h0
    have hc : cc.val = 384 + l.val := h2
    pointwise [k0_pay46, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v241, kernelRun0_A.sl.HS0_3]
    refine (strided _ 2 3 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part2_at x0 x1 x2 _ ⟨b.val * 16 + 3, by omega⟩ ⟨b.val * 16 + cc.val / 128, by omega⟩ l ⟨q.val * 128 + cc.val % 128, by omega⟩
      (show b.val * 16 + cc.val / 128 = b.val * 16 + 3 by omega) (show q.val * 128 + cc.val % 128 = 256 + l.val by omega)
  · obtain ⟨b', l, rfl⟩ : ∃ (b' : Fin 32) (l : Fin 128), x = ix3 0 b' l := ⟨x 1, x 2, by idx_ext⟩
    obtain rfl : b = b' := Fin.ext h1
    have hq : q.val = 2 := h0
    have hc : cc.val = 256 + l.val := h2
    pointwise [k0_pay45, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v235, kernelRun0_A.sl.HS0_3]
    refine (strided _ 2 2 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part2_at x0 x1 x2 _ ⟨b.val * 16 + 2, by omega⟩ ⟨b.val * 16 + cc.val / 128, by omega⟩ l ⟨q.val * 128 + cc.val % 128, by omega⟩
      (show b.val * 16 + cc.val / 128 = b.val * 16 + 2 by omega) (show q.val * 128 + cc.val % 128 = 256 + l.val by omega)
  · obtain ⟨b', l, rfl⟩ : ∃ (b' : Fin 32) (l : Fin 128), x = ix3 0 b' l := ⟨x 1, x 2, by idx_ext⟩
    obtain rfl : b = b' := Fin.ext h1
    have hq : q.val = 2 := h0
    have hc : cc.val = 128 + l.val := h2
    pointwise [k0_pay44, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v229, kernelRun0_A.sl.HS0_3]
    refine (strided _ 2 1 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part2_at x0 x1 x2 _ ⟨b.val * 16 + 1, by omega⟩ ⟨b.val * 16 + cc.val / 128, by omega⟩ l ⟨q.val * 128 + cc.val % 128, by omega⟩
      (show b.val * 16 + cc.val / 128 = b.val * 16 + 1 by omega) (show q.val * 128 + cc.val % 128 = 256 + l.val by omega)
  · obtain ⟨b', l, rfl⟩ : ∃ (b' : Fin 32) (l : Fin 128), x = ix3 0 b' l := ⟨x 1, x 2, by idx_ext⟩
    obtain rfl : b = b' := Fin.ext h1
    have hq : q.val = 2 := h0
    have hc : cc.val = l.val := h2
    pointwise [k0_pay43, k0_pay42, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v223, kernelRun0_A.sl.HS0_3]
    refine (strided _ 2 0 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part2_at x0 x1 x2 _ ⟨b.val * 16 + 0, by omega⟩ ⟨b.val * 16 + cc.val / 128, by omega⟩ l ⟨q.val * 128 + cc.val % 128, by omega⟩
      (show b.val * 16 + cc.val / 128 = b.val * 16 + 0 by omega) (show q.val * 128 + cc.val % 128 = 256 + l.val by omega)
  · obtain ⟨b', l, rfl⟩ : ∃ (b' : Fin 32) (l : Fin 128), x = ix3 0 b' l := ⟨x 1, x 2, by idx_ext⟩
    obtain rfl : b = b' := Fin.ext h1
    have hq : q.val = 1 := h0
    have hc : cc.val = 1920 + l.val := h2
    pointwise [k0_pay40, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v213, kernelRun0_A.sl.HS0_2]
    refine (strided _ 1 15 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part1_at x0 x1 x2 _ ⟨b.val * 16 + 15, by omega⟩ ⟨b.val * 16 + cc.val / 128, by omega⟩ l ⟨q.val * 128 + cc.val % 128, by omega⟩
      (show b.val * 16 + cc.val / 128 = b.val * 16 + 15 by omega) (show q.val * 128 + cc.val % 128 = 128 + l.val by omega)
  · obtain ⟨b', l, rfl⟩ : ∃ (b' : Fin 32) (l : Fin 128), x = ix3 0 b' l := ⟨x 1, x 2, by idx_ext⟩
    obtain rfl : b = b' := Fin.ext h1
    have hq : q.val = 1 := h0
    have hc : cc.val = 1792 + l.val := h2
    pointwise [k0_pay39, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v207, kernelRun0_A.sl.HS0_2]
    refine (strided _ 1 14 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part1_at x0 x1 x2 _ ⟨b.val * 16 + 14, by omega⟩ ⟨b.val * 16 + cc.val / 128, by omega⟩ l ⟨q.val * 128 + cc.val % 128, by omega⟩
      (show b.val * 16 + cc.val / 128 = b.val * 16 + 14 by omega) (show q.val * 128 + cc.val % 128 = 128 + l.val by omega)
  · obtain ⟨b', l, rfl⟩ : ∃ (b' : Fin 32) (l : Fin 128), x = ix3 0 b' l := ⟨x 1, x 2, by idx_ext⟩
    obtain rfl : b = b' := Fin.ext h1
    have hq : q.val = 1 := h0
    have hc : cc.val = 1664 + l.val := h2
    pointwise [k0_pay38, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v201, kernelRun0_A.sl.HS0_2]
    refine (strided _ 1 13 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part1_at x0 x1 x2 _ ⟨b.val * 16 + 13, by omega⟩ ⟨b.val * 16 + cc.val / 128, by omega⟩ l ⟨q.val * 128 + cc.val % 128, by omega⟩
      (show b.val * 16 + cc.val / 128 = b.val * 16 + 13 by omega) (show q.val * 128 + cc.val % 128 = 128 + l.val by omega)
  · obtain ⟨b', l, rfl⟩ : ∃ (b' : Fin 32) (l : Fin 128), x = ix3 0 b' l := ⟨x 1, x 2, by idx_ext⟩
    obtain rfl : b = b' := Fin.ext h1
    have hq : q.val = 1 := h0
    have hc : cc.val = 1536 + l.val := h2
    pointwise [k0_pay37, k0_pay36, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v195, kernelRun0_A.sl.HS0_2]
    refine (strided _ 1 12 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part1_at x0 x1 x2 _ ⟨b.val * 16 + 12, by omega⟩ ⟨b.val * 16 + cc.val / 128, by omega⟩ l ⟨q.val * 128 + cc.val % 128, by omega⟩
      (show b.val * 16 + cc.val / 128 = b.val * 16 + 12 by omega) (show q.val * 128 + cc.val % 128 = 128 + l.val by omega)
  · obtain ⟨b', l, rfl⟩ : ∃ (b' : Fin 32) (l : Fin 128), x = ix3 0 b' l := ⟨x 1, x 2, by idx_ext⟩
    obtain rfl : b = b' := Fin.ext h1
    have hq : q.val = 1 := h0
    have hc : cc.val = 1408 + l.val := h2
    pointwise [k0_pay35, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v189, kernelRun0_A.sl.HS0_2]
    refine (strided _ 1 11 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part1_at x0 x1 x2 _ ⟨b.val * 16 + 11, by omega⟩ ⟨b.val * 16 + cc.val / 128, by omega⟩ l ⟨q.val * 128 + cc.val % 128, by omega⟩
      (show b.val * 16 + cc.val / 128 = b.val * 16 + 11 by omega) (show q.val * 128 + cc.val % 128 = 128 + l.val by omega)
  · obtain ⟨b', l, rfl⟩ : ∃ (b' : Fin 32) (l : Fin 128), x = ix3 0 b' l := ⟨x 1, x 2, by idx_ext⟩
    obtain rfl : b = b' := Fin.ext h1
    have hq : q.val = 1 := h0
    have hc : cc.val = 1280 + l.val := h2
    pointwise [k0_pay34, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v183, kernelRun0_A.sl.HS0_2]
    refine (strided _ 1 10 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part1_at x0 x1 x2 _ ⟨b.val * 16 + 10, by omega⟩ ⟨b.val * 16 + cc.val / 128, by omega⟩ l ⟨q.val * 128 + cc.val % 128, by omega⟩
      (show b.val * 16 + cc.val / 128 = b.val * 16 + 10 by omega) (show q.val * 128 + cc.val % 128 = 128 + l.val by omega)
  · obtain ⟨b', l, rfl⟩ : ∃ (b' : Fin 32) (l : Fin 128), x = ix3 0 b' l := ⟨x 1, x 2, by idx_ext⟩
    obtain rfl : b = b' := Fin.ext h1
    have hq : q.val = 1 := h0
    have hc : cc.val = 1152 + l.val := h2
    pointwise [k0_pay33, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v177, kernelRun0_A.sl.HS0_2]
    refine (strided _ 1 9 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part1_at x0 x1 x2 _ ⟨b.val * 16 + 9, by omega⟩ ⟨b.val * 16 + cc.val / 128, by omega⟩ l ⟨q.val * 128 + cc.val % 128, by omega⟩
      (show b.val * 16 + cc.val / 128 = b.val * 16 + 9 by omega) (show q.val * 128 + cc.val % 128 = 128 + l.val by omega)
  · obtain ⟨b', l, rfl⟩ : ∃ (b' : Fin 32) (l : Fin 128), x = ix3 0 b' l := ⟨x 1, x 2, by idx_ext⟩
    obtain rfl : b = b' := Fin.ext h1
    have hq : q.val = 1 := h0
    have hc : cc.val = 1024 + l.val := h2
    pointwise [k0_pay32, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v171, kernelRun0_A.sl.HS0_2]
    refine (strided _ 1 8 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part1_at x0 x1 x2 _ ⟨b.val * 16 + 8, by omega⟩ ⟨b.val * 16 + cc.val / 128, by omega⟩ l ⟨q.val * 128 + cc.val % 128, by omega⟩
      (show b.val * 16 + cc.val / 128 = b.val * 16 + 8 by omega) (show q.val * 128 + cc.val % 128 = 128 + l.val by omega)
  · obtain ⟨b', l, rfl⟩ : ∃ (b' : Fin 32) (l : Fin 128), x = ix3 0 b' l := ⟨x 1, x 2, by idx_ext⟩
    obtain rfl : b = b' := Fin.ext h1
    have hq : q.val = 1 := h0
    have hc : cc.val = 896 + l.val := h2
    pointwise [k0_pay31, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v165, kernelRun0_A.sl.HS0_2]
    refine (strided _ 1 7 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part1_at x0 x1 x2 _ ⟨b.val * 16 + 7, by omega⟩ ⟨b.val * 16 + cc.val / 128, by omega⟩ l ⟨q.val * 128 + cc.val % 128, by omega⟩
      (show b.val * 16 + cc.val / 128 = b.val * 16 + 7 by omega) (show q.val * 128 + cc.val % 128 = 128 + l.val by omega)
  · obtain ⟨b', l, rfl⟩ : ∃ (b' : Fin 32) (l : Fin 128), x = ix3 0 b' l := ⟨x 1, x 2, by idx_ext⟩
    obtain rfl : b = b' := Fin.ext h1
    have hq : q.val = 1 := h0
    have hc : cc.val = 768 + l.val := h2
    pointwise [k0_pay30, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v159, kernelRun0_A.sl.HS0_2]
    refine (strided _ 1 6 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part1_at x0 x1 x2 _ ⟨b.val * 16 + 6, by omega⟩ ⟨b.val * 16 + cc.val / 128, by omega⟩ l ⟨q.val * 128 + cc.val % 128, by omega⟩
      (show b.val * 16 + cc.val / 128 = b.val * 16 + 6 by omega) (show q.val * 128 + cc.val % 128 = 128 + l.val by omega)
  · obtain ⟨b', l, rfl⟩ : ∃ (b' : Fin 32) (l : Fin 128), x = ix3 0 b' l := ⟨x 1, x 2, by idx_ext⟩
    obtain rfl : b = b' := Fin.ext h1
    have hq : q.val = 1 := h0
    have hc : cc.val = 640 + l.val := h2
    pointwise [k0_pay29, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v153, kernelRun0_A.sl.HS0_2]
    refine (strided _ 1 5 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part1_at x0 x1 x2 _ ⟨b.val * 16 + 5, by omega⟩ ⟨b.val * 16 + cc.val / 128, by omega⟩ l ⟨q.val * 128 + cc.val % 128, by omega⟩
      (show b.val * 16 + cc.val / 128 = b.val * 16 + 5 by omega) (show q.val * 128 + cc.val % 128 = 128 + l.val by omega)
  · obtain ⟨b', l, rfl⟩ : ∃ (b' : Fin 32) (l : Fin 128), x = ix3 0 b' l := ⟨x 1, x 2, by idx_ext⟩
    obtain rfl : b = b' := Fin.ext h1
    have hq : q.val = 1 := h0
    have hc : cc.val = 512 + l.val := h2
    pointwise [k0_pay28, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v147, kernelRun0_A.sl.HS0_2]
    refine (strided _ 1 4 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part1_at x0 x1 x2 _ ⟨b.val * 16 + 4, by omega⟩ ⟨b.val * 16 + cc.val / 128, by omega⟩ l ⟨q.val * 128 + cc.val % 128, by omega⟩
      (show b.val * 16 + cc.val / 128 = b.val * 16 + 4 by omega) (show q.val * 128 + cc.val % 128 = 128 + l.val by omega)
  · obtain ⟨b', l, rfl⟩ : ∃ (b' : Fin 32) (l : Fin 128), x = ix3 0 b' l := ⟨x 1, x 2, by idx_ext⟩
    obtain rfl : b = b' := Fin.ext h1
    have hq : q.val = 1 := h0
    have hc : cc.val = 384 + l.val := h2
    pointwise [k0_pay27, k0_pay26, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v141, kernelRun0_A.sl.HS0_2]
    refine (strided _ 1 3 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part1_at x0 x1 x2 _ ⟨b.val * 16 + 3, by omega⟩ ⟨b.val * 16 + cc.val / 128, by omega⟩ l ⟨q.val * 128 + cc.val % 128, by omega⟩
      (show b.val * 16 + cc.val / 128 = b.val * 16 + 3 by omega) (show q.val * 128 + cc.val % 128 = 128 + l.val by omega)
  · obtain ⟨b', l, rfl⟩ : ∃ (b' : Fin 32) (l : Fin 128), x = ix3 0 b' l := ⟨x 1, x 2, by idx_ext⟩
    obtain rfl : b = b' := Fin.ext h1
    have hq : q.val = 1 := h0
    have hc : cc.val = 256 + l.val := h2
    pointwise [k0_pay25, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v135, kernelRun0_A.sl.HS0_2]
    refine (strided _ 1 2 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part1_at x0 x1 x2 _ ⟨b.val * 16 + 2, by omega⟩ ⟨b.val * 16 + cc.val / 128, by omega⟩ l ⟨q.val * 128 + cc.val % 128, by omega⟩
      (show b.val * 16 + cc.val / 128 = b.val * 16 + 2 by omega) (show q.val * 128 + cc.val % 128 = 128 + l.val by omega)
  · obtain ⟨b', l, rfl⟩ : ∃ (b' : Fin 32) (l : Fin 128), x = ix3 0 b' l := ⟨x 1, x 2, by idx_ext⟩
    obtain rfl : b = b' := Fin.ext h1
    have hq : q.val = 1 := h0
    have hc : cc.val = 128 + l.val := h2
    pointwise [k0_pay24, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v129, kernelRun0_A.sl.HS0_2]
    refine (strided _ 1 1 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part1_at x0 x1 x2 _ ⟨b.val * 16 + 1, by omega⟩ ⟨b.val * 16 + cc.val / 128, by omega⟩ l ⟨q.val * 128 + cc.val % 128, by omega⟩
      (show b.val * 16 + cc.val / 128 = b.val * 16 + 1 by omega) (show q.val * 128 + cc.val % 128 = 128 + l.val by omega)
  · obtain ⟨b', l, rfl⟩ : ∃ (b' : Fin 32) (l : Fin 128), x = ix3 0 b' l := ⟨x 1, x 2, by idx_ext⟩
    obtain rfl : b = b' := Fin.ext h1
    have hq : q.val = 1 := h0
    have hc : cc.val = l.val := h2
    pointwise [k0_pay23, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v123, kernelRun0_A.sl.HS0_2]
    refine (strided _ 1 0 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part1_at x0 x1 x2 _ ⟨b.val * 16 + 0, by omega⟩ ⟨b.val * 16 + cc.val / 128, by omega⟩ l ⟨q.val * 128 + cc.val % 128, by omega⟩
      (show b.val * 16 + cc.val / 128 = b.val * 16 + 0 by omega) (show q.val * 128 + cc.val % 128 = 128 + l.val by omega)
  · obtain ⟨b', l, rfl⟩ : ∃ (b' : Fin 32) (l : Fin 128), x = ix3 0 b' l := ⟨x 1, x 2, by idx_ext⟩
    obtain rfl : b = b' := Fin.ext h1
    have hq : q.val = 0 := h0
    have hc : cc.val = 1920 + l.val := h2
    pointwise [k0_pay21, k0_pay20, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v113, kernelRun0_A.sl.HS0_1]
    refine (strided _ 0 15 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part0_at x0 x1 x2 _ ⟨b.val * 16 + 15, by omega⟩ ⟨b.val * 16 + cc.val / 128, by omega⟩ l ⟨q.val * 128 + cc.val % 128, by omega⟩
      (show b.val * 16 + cc.val / 128 = b.val * 16 + 15 by omega) (show q.val * 128 + cc.val % 128 = 0 + l.val by omega)
  · obtain ⟨b', l, rfl⟩ : ∃ (b' : Fin 32) (l : Fin 128), x = ix3 0 b' l := ⟨x 1, x 2, by idx_ext⟩
    obtain rfl : b = b' := Fin.ext h1
    have hq : q.val = 0 := h0
    have hc : cc.val = 1792 + l.val := h2
    pointwise [k0_pay19, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v107, kernelRun0_A.sl.HS0_1]
    refine (strided _ 0 14 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part0_at x0 x1 x2 _ ⟨b.val * 16 + 14, by omega⟩ ⟨b.val * 16 + cc.val / 128, by omega⟩ l ⟨q.val * 128 + cc.val % 128, by omega⟩
      (show b.val * 16 + cc.val / 128 = b.val * 16 + 14 by omega) (show q.val * 128 + cc.val % 128 = 0 + l.val by omega)
  · obtain ⟨b', l, rfl⟩ : ∃ (b' : Fin 32) (l : Fin 128), x = ix3 0 b' l := ⟨x 1, x 2, by idx_ext⟩
    obtain rfl : b = b' := Fin.ext h1
    have hq : q.val = 0 := h0
    have hc : cc.val = 1664 + l.val := h2
    pointwise [k0_pay18, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v101, kernelRun0_A.sl.HS0_1]
    refine (strided _ 0 13 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part0_at x0 x1 x2 _ ⟨b.val * 16 + 13, by omega⟩ ⟨b.val * 16 + cc.val / 128, by omega⟩ l ⟨q.val * 128 + cc.val % 128, by omega⟩
      (show b.val * 16 + cc.val / 128 = b.val * 16 + 13 by omega) (show q.val * 128 + cc.val % 128 = 0 + l.val by omega)
  · obtain ⟨b', l, rfl⟩ : ∃ (b' : Fin 32) (l : Fin 128), x = ix3 0 b' l := ⟨x 1, x 2, by idx_ext⟩
    obtain rfl : b = b' := Fin.ext h1
    have hq : q.val = 0 := h0
    have hc : cc.val = 1536 + l.val := h2
    pointwise [k0_pay17, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v95, kernelRun0_A.sl.HS0_1]
    refine (strided _ 0 12 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part0_at x0 x1 x2 _ ⟨b.val * 16 + 12, by omega⟩ ⟨b.val * 16 + cc.val / 128, by omega⟩ l ⟨q.val * 128 + cc.val % 128, by omega⟩
      (show b.val * 16 + cc.val / 128 = b.val * 16 + 12 by omega) (show q.val * 128 + cc.val % 128 = 0 + l.val by omega)
  · obtain ⟨b', l, rfl⟩ : ∃ (b' : Fin 32) (l : Fin 128), x = ix3 0 b' l := ⟨x 1, x 2, by idx_ext⟩
    obtain rfl : b = b' := Fin.ext h1
    have hq : q.val = 0 := h0
    have hc : cc.val = 1408 + l.val := h2
    pointwise [k0_pay16, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v89, kernelRun0_A.sl.HS0_1]
    refine (strided _ 0 11 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part0_at x0 x1 x2 _ ⟨b.val * 16 + 11, by omega⟩ ⟨b.val * 16 + cc.val / 128, by omega⟩ l ⟨q.val * 128 + cc.val % 128, by omega⟩
      (show b.val * 16 + cc.val / 128 = b.val * 16 + 11 by omega) (show q.val * 128 + cc.val % 128 = 0 + l.val by omega)
  · obtain ⟨b', l, rfl⟩ : ∃ (b' : Fin 32) (l : Fin 128), x = ix3 0 b' l := ⟨x 1, x 2, by idx_ext⟩
    obtain rfl : b = b' := Fin.ext h1
    have hq : q.val = 0 := h0
    have hc : cc.val = 1280 + l.val := h2
    pointwise [k0_pay15, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v83, kernelRun0_A.sl.HS0_1]
    refine (strided _ 0 10 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part0_at x0 x1 x2 _ ⟨b.val * 16 + 10, by omega⟩ ⟨b.val * 16 + cc.val / 128, by omega⟩ l ⟨q.val * 128 + cc.val % 128, by omega⟩
      (show b.val * 16 + cc.val / 128 = b.val * 16 + 10 by omega) (show q.val * 128 + cc.val % 128 = 0 + l.val by omega)
  · obtain ⟨b', l, rfl⟩ : ∃ (b' : Fin 32) (l : Fin 128), x = ix3 0 b' l := ⟨x 1, x 2, by idx_ext⟩
    obtain rfl : b = b' := Fin.ext h1
    have hq : q.val = 0 := h0
    have hc : cc.val = 1152 + l.val := h2
    pointwise [k0_pay14, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v77, kernelRun0_A.sl.HS0_1]
    refine (strided _ 0 9 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part0_at x0 x1 x2 _ ⟨b.val * 16 + 9, by omega⟩ ⟨b.val * 16 + cc.val / 128, by omega⟩ l ⟨q.val * 128 + cc.val % 128, by omega⟩
      (show b.val * 16 + cc.val / 128 = b.val * 16 + 9 by omega) (show q.val * 128 + cc.val % 128 = 0 + l.val by omega)
  · obtain ⟨b', l, rfl⟩ : ∃ (b' : Fin 32) (l : Fin 128), x = ix3 0 b' l := ⟨x 1, x 2, by idx_ext⟩
    obtain rfl : b = b' := Fin.ext h1
    have hq : q.val = 0 := h0
    have hc : cc.val = 1024 + l.val := h2
    pointwise [k0_pay13, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v71, kernelRun0_A.sl.HS0_1]
    refine (strided _ 0 8 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part0_at x0 x1 x2 _ ⟨b.val * 16 + 8, by omega⟩ ⟨b.val * 16 + cc.val / 128, by omega⟩ l ⟨q.val * 128 + cc.val % 128, by omega⟩
      (show b.val * 16 + cc.val / 128 = b.val * 16 + 8 by omega) (show q.val * 128 + cc.val % 128 = 0 + l.val by omega)
  · obtain ⟨b', l, rfl⟩ : ∃ (b' : Fin 32) (l : Fin 128), x = ix3 0 b' l := ⟨x 1, x 2, by idx_ext⟩
    obtain rfl : b = b' := Fin.ext h1
    have hq : q.val = 0 := h0
    have hc : cc.val = 896 + l.val := h2
    pointwise [k0_pay12, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v65, kernelRun0_A.sl.HS0_1]
    refine (strided _ 0 7 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part0_at x0 x1 x2 _ ⟨b.val * 16 + 7, by omega⟩ ⟨b.val * 16 + cc.val / 128, by omega⟩ l ⟨q.val * 128 + cc.val % 128, by omega⟩
      (show b.val * 16 + cc.val / 128 = b.val * 16 + 7 by omega) (show q.val * 128 + cc.val % 128 = 0 + l.val by omega)
  · obtain ⟨b', l, rfl⟩ : ∃ (b' : Fin 32) (l : Fin 128), x = ix3 0 b' l := ⟨x 1, x 2, by idx_ext⟩
    obtain rfl : b = b' := Fin.ext h1
    have hq : q.val = 0 := h0
    have hc : cc.val = 768 + l.val := h2
    pointwise [k0_pay11, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v, kernelRun0_A.sl.HS0_1]
    refine (strided _ 0 6 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part0_at x0 x1 x2 _ ⟨b.val * 16 + 6, by omega⟩ ⟨b.val * 16 + cc.val / 128, by omega⟩ l ⟨q.val * 128 + cc.val % 128, by omega⟩
      (show b.val * 16 + cc.val / 128 = b.val * 16 + 6 by omega) (show q.val * 128 + cc.val % 128 = 0 + l.val by omega)
  · obtain ⟨b', l, rfl⟩ : ∃ (b' : Fin 32) (l : Fin 128), x = ix3 0 b' l := ⟨x 1, x 2, by idx_ext⟩
    obtain rfl : b = b' := Fin.ext h1
    have hq : q.val = 0 := h0
    have hc : cc.val = 640 + l.val := h2
    pointwise [k0_pay10, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v53, kernelRun0_A.sl.HS0_1]
    refine (strided _ 0 5 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part0_at x0 x1 x2 _ ⟨b.val * 16 + 5, by omega⟩ ⟨b.val * 16 + cc.val / 128, by omega⟩ l ⟨q.val * 128 + cc.val % 128, by omega⟩
      (show b.val * 16 + cc.val / 128 = b.val * 16 + 5 by omega) (show q.val * 128 + cc.val % 128 = 0 + l.val by omega)
  · obtain ⟨b', l, rfl⟩ : ∃ (b' : Fin 32) (l : Fin 128), x = ix3 0 b' l := ⟨x 1, x 2, by idx_ext⟩
    obtain rfl : b = b' := Fin.ext h1
    have hq : q.val = 0 := h0
    have hc : cc.val = 512 + l.val := h2
    pointwise [k0_pay9, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v47, kernelRun0_A.sl.HS0_1]
    refine (strided _ 0 4 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part0_at x0 x1 x2 _ ⟨b.val * 16 + 4, by omega⟩ ⟨b.val * 16 + cc.val / 128, by omega⟩ l ⟨q.val * 128 + cc.val % 128, by omega⟩
      (show b.val * 16 + cc.val / 128 = b.val * 16 + 4 by omega) (show q.val * 128 + cc.val % 128 = 0 + l.val by omega)
  · obtain ⟨b', l, rfl⟩ : ∃ (b' : Fin 32) (l : Fin 128), x = ix3 0 b' l := ⟨x 1, x 2, by idx_ext⟩
    obtain rfl : b = b' := Fin.ext h1
    have hq : q.val = 0 := h0
    have hc : cc.val = 384 + l.val := h2
    pointwise [k0_pay8, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v41, kernelRun0_A.sl.HS0_1]
    refine (strided _ 0 3 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part0_at x0 x1 x2 _ ⟨b.val * 16 + 3, by omega⟩ ⟨b.val * 16 + cc.val / 128, by omega⟩ l ⟨q.val * 128 + cc.val % 128, by omega⟩
      (show b.val * 16 + cc.val / 128 = b.val * 16 + 3 by omega) (show q.val * 128 + cc.val % 128 = 0 + l.val by omega)
  · obtain ⟨b', l, rfl⟩ : ∃ (b' : Fin 32) (l : Fin 128), x = ix3 0 b' l := ⟨x 1, x 2, by idx_ext⟩
    obtain rfl : b = b' := Fin.ext h1
    have hq : q.val = 0 := h0
    have hc : cc.val = 256 + l.val := h2
    pointwise [k0_pay7, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v35, kernelRun0_A.sl.HS0_1]
    refine (strided _ 0 2 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part0_at x0 x1 x2 _ ⟨b.val * 16 + 2, by omega⟩ ⟨b.val * 16 + cc.val / 128, by omega⟩ l ⟨q.val * 128 + cc.val % 128, by omega⟩
      (show b.val * 16 + cc.val / 128 = b.val * 16 + 2 by omega) (show q.val * 128 + cc.val % 128 = 0 + l.val by omega)
  · obtain ⟨b', l, rfl⟩ : ∃ (b' : Fin 32) (l : Fin 128), x = ix3 0 b' l := ⟨x 1, x 2, by idx_ext⟩
    obtain rfl : b = b' := Fin.ext h1
    have hq : q.val = 0 := h0
    have hc : cc.val = 128 + l.val := h2
    pointwise [k0_pay6, k0_pay5, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v29, kernelRun0_A.sl.HS0_1]
    refine (strided _ 0 1 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part0_at x0 x1 x2 _ ⟨b.val * 16 + 1, by omega⟩ ⟨b.val * 16 + cc.val / 128, by omega⟩ l ⟨q.val * 128 + cc.val % 128, by omega⟩
      (show b.val * 16 + cc.val / 128 = b.val * 16 + 1 by omega) (show q.val * 128 + cc.val % 128 = 0 + l.val by omega)
  · obtain ⟨b', l, rfl⟩ : ∃ (b' : Fin 32) (l : Fin 128), x = ix3 0 b' l := ⟨x 1, x 2, by idx_ext⟩
    obtain rfl : b = b' := Fin.ext h1
    have hq : q.val = 0 := h0
    have hc : cc.val = l.val := h2
    pointwise [k0_pay4, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
    simp only [kernelRun0_A.sl.v23, kernelRun0_A.sl.HS0_1]
    refine (strided _ 0 0 _ _ _ _ b l (by omega)).trans ?_
    simp only [View.readAt_eq_ld, harg3.read_unread, harg2.read_unread, harg1.read_unread, kernelRun0_A.sl.r_1]
    rw [View.ld_unit_zero (S := S512x1024) zero2, View.ld_unit_zero (S := S1x1024) zero2]
    exact part0_at x0 x1 x2 _ ⟨b.val * 16 + 0, by omega⟩ ⟨b.val * 16 + cc.val / 128, by omega⟩ l ⟨q.val * 128 + cc.val % 128, by omega⟩
      (show b.val * 16 + cc.val / 128 = b.val * 16 + 0 by omega) (show q.val * 128 + cc.val % 128 = 0 + l.val by omega)

end Point

end Cert.Proof.Proj

end
-- ==== Proof.ProjPack.lean ====
/-
  The packed weights of the input projection: the columns of `w_in` the kernel multiplies by, with the eight columns of
  the step sizes followed by 120 zero columns so that every section begins at a multiple of 128.
-/
module

public import proofs.«01_k».proof.Proof.Gen.Kernel4Ideal.Value
public import proofs.«01_k».proof.Proof.Math

@[expose] public section

set_option maxRecDepth 16384

noncomputable section

namespace Cert.Proof.Proj

open Idealize.ShloMosaic Idealize.ShloMosaic.TcCoe Idealize.SL.Sem Cert.Proof.Math
open Cert.Kernel4Ideal Cert.Kernel4Ideal.Gen Cert.Kernel4Ideal.Value

/-- The zero that fills up the step columns. -/
def zero : Vec Ideal S_ .f32 := sitofp (F := Ideal) .f32 (constantI S_ 32 0#32)

/-- The step columns with the zero columns after them. -/
def stepCols (w : Vec Ideal S1024x8968 .f32) : Vec Ideal S1024x128 .f32 :=
  pad S1024x128 ![0, 0] ![0, 120] ![0, 0] (extractStridedSlice S1024x8 ![0, 1792] w slices_S1024x8968_S1024x8_0_1792) zero
    pads_S1024x8_S1024x128_000_01200 h_S_

/-- The sections of `w_in`, in the order they are packed in. -/
def pieces (w : Vec Ideal S1024x8968 .f32) : List ((s : Shape) × (s.Idx → EReal)) :=
  [⟨S1024x512, extractStridedSlice S1024x512 ![0, 0] w slices_S1024x8968_S1024x512_0_0⟩,
   ⟨S1024x512, extractStridedSlice S1024x512 ![0, 512] w slices_S1024x8968_S1024x512_0_512⟩,
   ⟨S1024x768, extractStridedSlice S1024x768 ![0, 1024] w slices_S1024x8968_S1024x768_0_1024⟩,
   ⟨S1024x128, stepCols w⟩,
   ⟨S1024x512, extractStridedSlice S1024x512 ![0, 1800] w slices_S1024x8968_S1024x512_0_1800⟩,
   ⟨S1024x512, extractStridedSlice S1024x512 ![0, 2312] w slices_S1024x8968_S1024x512_0_2312⟩,
   ⟨S1024x512, extractStridedSlice S1024x512 ![0, 2824] w slices_S1024x8968_S1024x512_0_2824⟩,
   ⟨S1024x512, extractStridedSlice S1024x512 ![0, 3336] w slices_S1024x8968_S1024x512_0_3336⟩,
   ⟨S1024x512, extractStridedSlice S1024x512 ![0, 3848] w slices_S1024x8968_S1024x512_0_3848⟩,
   ⟨S1024x512, extractStridedSlice S1024x512 ![0, 4360] w slices_S1024x8968_S1024x512_0_4360⟩]

/-- The packed weights. -/
def packed (w : Vec Ideal S1024x8968 .f32) : Vec Ideal S1024x4992 .bf16 :=
  concatenate S1024x4992 1 (pieces w)
    concatenates_S1024x512_S1024x512_S1024x768_S1024x128_S1024x512_S1024x512_S1024x512_S1024x512_S1024x512_S1024x512_S1024x4992_d1

theorem zero_at (i : S_.Idx) : zero i = 0 := by
  unfold zero
  pointwise
  simp [FloatOps.sitofp]

/-- Section 0. -/
theorem packed0_at (w : Vec Ideal S1024x8968 .f32) (k : Fin 1024) (j : Fin 512) :
    packed w (ix2 k ⟨0 + j.val, by omega⟩) = w (ix2 k ⟨0 + j.val, by omega⟩) := by
  refine (concatenate_apply_piece (t := S1024x4992) 1 (pieces w) _ _ 0 (show 0 < 10 by decide) S1024x512 _ rfl rfl 0 (by rfl) (ix2 k j) ?_ ?_).trans ?_
  · intro b hb
    match b with
    | ⟨0, _⟩ => rfl
    | ⟨1, _⟩ => exact absurd rfl hb
  · rfl
  · refine congrArg w (funext fun a => Fin.ext ?_)
    match a with
    | ⟨0, _⟩ => exact Nat.zero_add _
    | ⟨1, _⟩ => rfl

/-- Section 1. -/
theorem packed1_at (w : Vec Ideal S1024x8968 .f32) (k : Fin 1024) (j : Fin 512) :
    packed w (ix2 k ⟨512 + j.val, by omega⟩) = w (ix2 k ⟨512 + j.val, by omega⟩) := by
  refine (concatenate_apply_piece (t := S1024x4992) 1 (pieces w) _ _ 1 (show 1 < 10 by decide) S1024x512 _ rfl rfl 512 (by rfl) (ix2 k j) ?_ ?_).trans ?_
  · intro b hb
    match b with
    | ⟨0, _⟩ => rfl
    | ⟨1, _⟩ => exact absurd rfl hb
  · rfl
  · refine congrArg w (funext fun a => Fin.ext ?_)
    match a with
    | ⟨0, _⟩ => exact Nat.zero_add _
    | ⟨1, _⟩ => rfl

/-- Section 2. -/
theorem packed2_at (w : Vec Ideal S1024x8968 .f32) (k : Fin 1024) (j : Fin 768) :
    packed w (ix2 k ⟨1024 + j.val, by omega⟩) = w (ix2 k ⟨1024 + j.val, by omega⟩) := by
  refine (concatenate_apply_piece (t := S1024x4992) 1 (pieces w) _ _ 2 (show 2 < 10 by decide) S1024x768 _ rfl rfl 1024 (by rfl) (ix2 k j) ?_ ?_).trans ?_
  · intro b hb
    match b with
    | ⟨0, _⟩ => rfl
    | ⟨1, _⟩ => exact absurd rfl hb
  · rfl
  · refine congrArg w (funext fun a => Fin.ext ?_)
    match a with
    | ⟨0, _⟩ => exact Nat.zero_add _
    | ⟨1, _⟩ => rfl

/-- Section 4. -/
theorem packed4_at (w : Vec Ideal S1024x8968 .f32) (k : Fin 1024) (j : Fin 512) :
    packed w (ix2 k ⟨1920 + j.val, by omega⟩) = w (ix2 k ⟨1800 + j.val, by omega⟩) := by
  refine (concatenate_apply_piece (t := S1024x4992) 1 (pieces w) _ _ 4 (show 4 < 10 by decide) S1024x512 _ rfl rfl 1920 (by rfl) (ix2 k j) ?_ ?_).trans ?_
  · intro b hb
    match b with
    | ⟨0, _⟩ => rfl
    | ⟨1, _⟩ => exact absurd rfl hb
  · rfl
  · refine congrArg w (funext fun a => Fin.ext ?_)
    match a with
    | ⟨0, _⟩ => exact Nat.zero_add _
    | ⟨1, _⟩ => rfl

/-- Section 5. -/
theorem packed5_at (w : Vec Ideal S1024x8968 .f32) (k : Fin 1024) (j : Fin 512) :
    packed w (ix2 k ⟨2432 + j.val, by omega⟩) = w (ix2 k ⟨2312 + j.val, by omega⟩) := by
  refine (concatenate_apply_piece (t := S1024x4992) 1 (pieces w) _ _ 5 (show 5 < 10 by decide) S1024x512 _ rfl rfl 2432 (by rfl) (ix2 k j) ?_ ?_).trans ?_
  · intro b hb
    match b with
    | ⟨0, _⟩ => rfl
    | ⟨1, _⟩ => exact absurd rfl hb
  · rfl
  · refine congrArg w (funext fun a => Fin.ext ?_)
    match a with
    | ⟨0, _⟩ => exact Nat.zero_add _
    | ⟨1, _⟩ => rfl

/-- Section 6. -/
theorem packed6_at (w : Vec Ideal S1024x8968 .f32) (k : Fin 1024) (j : Fin 512) :
    packed w (ix2 k ⟨2944 + j.val, by omega⟩) = w (ix2 k ⟨2824 + j.val, by omega⟩) := by
  refine (concatenate_apply_piece (t := S1024x4992) 1 (pieces w) _ _ 6 (show 6 < 10 by decide) S1024x512 _ rfl rfl 2944 (by rfl) (ix2 k j) ?_ ?_).trans ?_
  · intro b hb
    match b with
    | ⟨0, _⟩ => rfl
    | ⟨1, _⟩ => exact absurd rfl hb
  · rfl
  · refine congrArg w (funext fun a => Fin.ext ?_)
    match a with
    | ⟨0, _⟩ => exact Nat.zero_add _
    | ⟨1, _⟩ => rfl

/-- Section 7. -/
theorem packed7_at (w : Vec Ideal S1024x8968 .f32) (k : Fin 1024) (j : Fin 512) :
    packed w (ix2 k ⟨3456 + j.val, by omega⟩) = w (ix2 k ⟨3336 + j.val, by omega⟩) := by
  refine (concatenate_apply_piece (t := S1024x4992) 1 (pieces w) _ _ 7 (show 7 < 10 by decide) S1024x512 _ rfl rfl 3456 (by rfl) (ix2 k j) ?_ ?_).trans ?_
  · intro b hb
    match b with
    | ⟨0, _⟩ => rfl
    | ⟨1, _⟩ => exact absurd rfl hb
  · rfl
  · refine congrArg w (funext fun a => Fin.ext ?_)
    match a with
    | ⟨0, _⟩ => exact Nat.zero_add _
    | ⟨1, _⟩ => rfl

/-- Section 8. -/
theorem packed8_at (w : Vec Ideal S1024x8968 .f32) (k : Fin 1024) (j : Fin 512) :
    packed w (ix2 k ⟨3968 + j.val, by omega⟩) = w (ix2 k ⟨3848 + j.val, by omega⟩) := by
  refine (concatenate_apply_piece (t := S1024x4992) 1 (pieces w) _ _ 8 (show 8 < 10 by decide) S1024x512 _ rfl rfl 3968 (by rfl) (ix2 k j) ?_ ?_).trans ?_
  · intro b hb
    match b with
    | ⟨0, _⟩ => rfl
    | ⟨1, _⟩ => exact absurd rfl hb
  · rfl
  · refine congrArg w (funext fun a => Fin.ext ?_)
    match a with
    | ⟨0, _⟩ => exact Nat.zero_add _
    | ⟨1, _⟩ => rfl

/-- Section 9. -/
theorem packed9_at (w : Vec Ideal S1024x8968 .f32) (k : Fin 1024) (j : Fin 512) :
    packed w (ix2 k ⟨4480 + j.val, by omega⟩) = w (ix2 k ⟨4360 + j.val, by omega⟩) := by
  refine (concatenate_apply_piece (t := S1024x4992) 1 (pieces w) _ _ 9 (show 9 < 10 by decide) S1024x512 _ rfl rfl 4480 (by rfl) (ix2 k j) ?_ ?_).trans ?_
  · intro b hb
    match b with
    | ⟨0, _⟩ => rfl
    | ⟨1, _⟩ => exact absurd rfl hb
  · rfl
  · refine congrArg w (funext fun a => Fin.ext ?_)
    match a with
    | ⟨0, _⟩ => exact Nat.zero_add _
    | ⟨1, _⟩ => rfl

/-- Section 3. -/
theorem packed3_at (w : Vec Ideal S1024x8968 .f32) (k : Fin 1024) (j : Fin 128) :
    packed w (ix2 k ⟨1792 + j.val, by omega⟩) = if h : j.val < 8 then w (ix2 k ⟨1792 + j.val, by omega⟩) else 0 := by
  refine (concatenate_apply_piece (t := S1024x4992) 1 (pieces w) _ _ 3 (show 3 < 10 by decide) S1024x128 _ rfl rfl 1792 (by rfl) (ix2 k j) ?_ ?_).trans ?_
  · intro b hb
    match b with
    | ⟨0, _⟩ => rfl
    | ⟨1, _⟩ => exact absurd rfl hb
  · rfl
  · unfold stepCols
    generalize hz : zero = z
    have h0 : ∀ i, z i = 0 := fun i => by rw [← hz]; exact zero_at i
    pointwise
    simp only [h0]

end Cert.Proof.Proj

end
-- ==== Proof.Proj.lean ====
/-
  The input projection as functions of whole arrays: the normalised rows times `w_in`, one array per section of its
  columns, in the layouts the mixers read.
-/
module

public import proofs.«01_k».proof.Proof.Math

@[expose] public section

noncomputable section

namespace Cert.Proof.Proj

open Idealize.ShloMosaic Cert.Proof.Math

variable (h : Vec Ideal ⟨2, ![16384, 1024]⟩ .f32) (nw : Vec Ideal ⟨1, ![1024]⟩ .f32) (w : Vec Ideal ⟨2, ![1024, 8968]⟩ .f32)

/-- Entry `c` of row `r` of the product. -/
def prod (r : Fin 16384) (c : Fin 8968) : EReal :=
  ∑ k : Fin 1024, rmsRow (fun j => h (ix2 r j)) (fun j => nw (ix1 j)) k * w (ix2 k c)

/-- The section of `n` columns from column `o` on. -/
def sec (o n : Nat) (hn : o + n ≤ 8968) : Vec Ideal ⟨2, ![16384, n]⟩ .bf16 := fun i =>
  prod h nw w (i 0) ⟨o + (i 1).val, by have : (i 1).val < n := (i 1).isLt; omega⟩

/-- The S5 section: row `b` of part `q` holds 16 steps of the part's 128 columns. -/
def fold : Vec Ideal ⟨3, ![4, 1024, 2048]⟩ .bf16 := fun i =>
  prod h nw w ⟨(i 1).val * 16 + (i 2).val / 128, by have : (i 1).val < 1024 := (i 1).isLt; have : (i 2).val < 2048 := (i 2).isLt; omega⟩
    ⟨(i 0).val * 128 + (i 2).val % 128, by have : (i 0).val < 4 := (i 0).isLt; omega⟩

/-- The eight columns of the step sizes, with zeros up to 128 lanes. -/
def steps : Vec Ideal ⟨2, ![16384, 128]⟩ .bf16 := fun i =>
  if hc : (i 1).val < 8 then prod h nw w (i 0) ⟨1792 + (i 1).val, by omega⟩ else 0

end Cert.Proof.Proj

end
-- ==== Proof.ProjValue.lean ====
/-
  The value of the input projection's call: each grid point writes back 512 rows of every section, and together the 32
  points write every section whole.
-/
module

public import proofs.«01_k».proof.Proof.ProjKern
public import proofs.«01_k».proof.Proof.ProjPack
public import proofs.«01_k».proof.Proof.Proj

@[expose] public section

set_option maxRecDepth 16384

noncomputable section

namespace Cert.Proof.Proj

open Idealize.ShloMosaic Idealize.ShloMosaic.TcCoe Idealize.SL.Sem Cert.Proof.Math
open Cert.Kernel4Ideal Cert.Kernel4Ideal.Gen Cert.Kernel4Ideal.Value

variable (m : (ℓ : Loc nD τ sig) → Buf (Elt Ideal) ℓ) (ρ : Dev nD → PrngReg)

theorem lt32 : ∀ t : Fin cfg0.N, t.val < 32 := by decide +kernel

/-- Row `r` of block `t`, as a row of the array. -/
def rowOf (t : Fin cfg0.N) (r : Fin 512) : Fin 16384 := ⟨t.val * 512 + r.val, by have := lt32 t; omega⟩

/-- Which block of its array each window takes at a grid point. -/
theorem idx0 : ∀ t : Fin cfg0.N, win0_0.index t (0 : Fin 2) = t.val ∧ win0_0.index t (1 : Fin 2) = 0 := by decide +kernel
theorem idx1 : ∀ t : Fin cfg0.N, win0_1.index t (0 : Fin 2) = 0 ∧ win0_1.index t (1 : Fin 2) = 0 := by decide +kernel
theorem idx2 : ∀ t : Fin cfg0.N, win0_2.index t (0 : Fin 2) = 0 ∧ win0_2.index t (1 : Fin 2) = 0 := by decide +kernel
theorem idx3 : ∀ t : Fin cfg0.N, win0_3.index t (0 : Fin 3) = 0 ∧ win0_3.index t (1 : Fin 3) = t.val
    ∧ win0_3.index t (2 : Fin 3) = 0 := by decide +kernel
theorem idx4 : ∀ t : Fin cfg0.N, win0_4.index t (0 : Fin 2) = t.val ∧ win0_4.index t (1 : Fin 2) = 0 := by decide +kernel
theorem idx5 : ∀ t : Fin cfg0.N, win0_5.index t (0 : Fin 2) = t.val ∧ win0_5.index t (1 : Fin 2) = 0 := by decide +kernel
theorem idx6 : ∀ t : Fin cfg0.N, win0_6.index t (0 : Fin 2) = t.val ∧ win0_6.index t (1 : Fin 2) = 0 := by decide +kernel
theorem idx7 : ∀ t : Fin cfg0.N, win0_7.index t (0 : Fin 2) = t.val ∧ win0_7.index t (1 : Fin 2) = 0 := by decide +kernel
theorem idx8 : ∀ t : Fin cfg0.N, win0_8.index t (0 : Fin 2) = t.val ∧ win0_8.index t (1 : Fin 2) = 0 := by decide +kernel
theorem idx9 : ∀ t : Fin cfg0.N, win0_9.index t (0 : Fin 2) = t.val ∧ win0_9.index t (1 : Fin 2) = 0 := by decide +kernel
theorem idx10 : ∀ t : Fin cfg0.N, win0_10.index t (0 : Fin 2) = t.val ∧ win0_10.index t (1 : Fin 2) = 0 := by decide +kernel
theorem idx11 : ∀ t : Fin cfg0.N, win0_11.index t (0 : Fin 2) = t.val ∧ win0_11.index t (1 : Fin 2) = 0 := by decide +kernel
theorem idx12 : ∀ t : Fin cfg0.N, win0_12.index t (0 : Fin 2) = t.val ∧ win0_12.index t (1 : Fin 2) = 0 := by decide +kernel

theorem emb0 (t : Fin cfg0.N) (r : Fin 512) (k : Fin 1024) :
    ((cfg0.win 0).blk t).view.emb (ix2 r k) = ix2 (rowOf t r) k := by
  obtain ⟨e0, e1⟩ := idx0 t
  funext a; apply Fin.ext
  match a with
  | ⟨0, _⟩ => show win0_0.index t (0 : Fin 2) * 512 + 1 * r.val = t.val * 512 + r.val; omega
  | ⟨1, _⟩ => show win0_0.index t (1 : Fin 2) * 1024 + 1 * k.val = k.val; omega

theorem emb1 (t : Fin cfg0.N) (j : S1x1024.Idx) : ((cfg0.win 1).blk t).view.emb j = j := by
  obtain ⟨e0, e1⟩ := idx1 t
  funext a; apply Fin.ext
  match a with
  | ⟨0, _⟩ => show win0_1.index t (0 : Fin 2) * 1 + 1 * (j 0).val = (j 0).val; omega
  | ⟨1, _⟩ => show win0_1.index t (1 : Fin 2) * 1024 + 1 * (j 1).val = (j 1).val; omega

theorem emb2 (t : Fin cfg0.N) (j : S1024x4992.Idx) : ((cfg0.win 2).blk t).view.emb j = j := by
  obtain ⟨e0, e1⟩ := idx2 t
  funext a; apply Fin.ext
  match a with
  | ⟨0, _⟩ => show win0_2.index t (0 : Fin 2) * 1024 + 1 * (j 0).val = (j 0).val; omega
  | ⟨1, _⟩ => show win0_2.index t (1 : Fin 2) * 4992 + 1 * (j 1).val = (j 1).val; omega

/-- Row `b` of block `t` of the first section's array. -/
def row3 (t : Fin cfg0.N) (b : Fin 32) : Fin 1024 := ⟨t.val * 32 + b.val, by have := lt32 t; omega⟩

theorem emb3 (t : Fin cfg0.N) (q : Fin 4) (b : Fin 32) (k : Fin 2048) :
    ((cfg0.win 3).blk t).view.emb (ix3 q b k) = ix3 q (row3 t b) k := by
  obtain ⟨e0, e1, e2⟩ := idx3 t
  funext a; apply Fin.ext
  match a with
  | ⟨0, _⟩ => show win0_3.index t (0 : Fin 3) * 4 + 1 * q.val = q.val; omega
  | ⟨1, _⟩ => show win0_3.index t (1 : Fin 3) * 32 + 1 * b.val = t.val * 32 + b.val; omega
  | ⟨2, _⟩ => show win0_3.index t (2 : Fin 3) * 2048 + 1 * k.val = k.val; omega

theorem emb4 (t : Fin cfg0.N) (r : Fin 512) (k : Fin 512) :
    ((cfg0.win 4).blk t).view.emb (ix2 r k) = ix2 (rowOf t r) k := by
  obtain ⟨e0, e1⟩ := idx4 t
  funext a; apply Fin.ext
  match a with
  | ⟨0, _⟩ => show win0_4.index t (0 : Fin 2) * 512 + 1 * r.val = t.val * 512 + r.val; omega
  | ⟨1, _⟩ => show win0_4.index t (1 : Fin 2) * 512 + 1 * k.val = k.val; omega

theorem emb5 (t : Fin cfg0.N) (r : Fin 512) (k : Fin 768) :
    ((cfg0.win 5).blk t).view.emb (ix2 r k) = ix2 (rowOf t r) k := by
  obtain ⟨e0, e1⟩ := idx5 t
  funext a; apply Fin.ext
  match a with
  | ⟨0, _⟩ => show win0_5.index t (0 : Fin 2) * 512 + 1 * r.val = t.val * 512 + r.val; omega
  | ⟨1, _⟩ => show win0_5.index t (1 : Fin 2) * 768 + 1 * k.val = k.val; omega

theorem emb6 (t : Fin cfg0.N) (r : Fin 512) (k : Fin 128) :
    ((cfg0.win 6).blk t).view.emb (ix2 r k) = ix2 (rowOf t r) k := by
  obtain ⟨e0, e1⟩ := idx6 t
  funext a; apply Fin.ext
  match a with
  | ⟨0, _⟩ => show win0_6.index t (0 : Fin 2) * 512 + 1 * r.val = t.val * 512 + r.val; omega
  | ⟨1, _⟩ => show win0_6.index t (1 : Fin 2) * 128 + 1 * k.val = k.val; omega

theorem emb7 (t : Fin cfg0.N) (r : Fin 512) (k : Fin 512) :
    ((cfg0.win 7).blk t).view.emb (ix2 r k) = ix2 (rowOf t r) k := by
  obtain ⟨e0, e1⟩ := idx7 t
  funext a; apply Fin.ext
  match a with
  | ⟨0, _⟩ => show win0_7.index t (0 : Fin 2) * 512 + 1 * r.val = t.val * 512 + r.val; omega
  | ⟨1, _⟩ => show win0_7.index t (1 : Fin 2) * 512 + 1 * k.val = k.val; omega

theorem emb8 (t : Fin cfg0.N) (r : Fin 512) (k : Fin 512) :
    ((cfg0.win 8).blk t).view.emb (ix2 r k) = ix2 (rowOf t r) k := by
  obtain ⟨e0, e1⟩ := idx8 t
  funext a; apply Fin.ext
  match a with
  | ⟨0, _⟩ => show win0_8.index t (0 : Fin 2) * 512 + 1 * r.val = t.val * 512 + r.val; omega
  | ⟨1, _⟩ => show win0_8.index t (1 : Fin 2) * 512 + 1 * k.val = k.val; omega

theorem emb9 (t : Fin cfg0.N) (r : Fin 512) (k : Fin 512) :
    ((cfg0.win 9).blk t).view.emb (ix2 r k) = ix2 (rowOf t r) k := by
  obtain ⟨e0, e1⟩ := idx9 t
  funext a; apply Fin.ext
  match a with
  | ⟨0, _⟩ => show win0_9.index t (0 : Fin 2) * 512 + 1 * r.val = t.val * 512 + r.val; omega
  | ⟨1, _⟩ => show win0_9.index t (1 : Fin 2) * 512 + 1 * k.val = k.val; omega

theorem emb10 (t : Fin cfg0.N) (r : Fin 512) (k : Fin 512) :
    ((cfg0.win 10).blk t).view.emb (ix2 r k) = ix2 (rowOf t r) k := by
  obtain ⟨e0, e1⟩ := idx10 t
  funext a; apply Fin.ext
  match a with
  | ⟨0, _⟩ => show win0_10.index t (0 : Fin 2) * 512 + 1 * r.val = t.val * 512 + r.val; omega
  | ⟨1, _⟩ => show win0_10.index t (1 : Fin 2) * 512 + 1 * k.val = k.val; omega

theorem emb11 (t : Fin cfg0.N) (r : Fin 512) (k : Fin 512) :
    ((cfg0.win 11).blk t).view.emb (ix2 r k) = ix2 (rowOf t r) k := by
  obtain ⟨e0, e1⟩ := idx11 t
  funext a; apply Fin.ext
  match a with
  | ⟨0, _⟩ => show win0_11.index t (0 : Fin 2) * 512 + 1 * r.val = t.val * 512 + r.val; omega
  | ⟨1, _⟩ => show win0_11.index t (1 : Fin 2) * 512 + 1 * k.val = k.val; omega

theorem emb12 (t : Fin cfg0.N) (r : Fin 512) (k : Fin 512) :
    ((cfg0.win 12).blk t).view.emb (ix2 r k) = ix2 (rowOf t r) k := by
  obtain ⟨e0, e1⟩ := idx12 t
  funext a; apply Fin.ext
  match a with
  | ⟨0, _⟩ => show win0_12.index t (0 : Fin 2) * 512 + 1 * r.val = t.val * 512 + r.val; omega
  | ⟨1, _⟩ => show win0_12.index t (1 : Fin 2) * 512 + 1 * k.val = k.val; omega

/-- The arrays the host prepares. -/
theorem V_main_v17 (c : Dev nD) :
    V m c main_v17 = shapeCast _ (m ((c : Thread nD τ).loc main_arg1)) shapeCasts_S1024_S1x1024 := rfl
theorem V_main_v16 (c : Dev nD) : V m c main_v16 = packed (m ((c : Thread nD τ).loc main_arg2)) := rfl

theorem iblk0_at (c : Dev nD) (t : Fin cfg0.N) (r : Fin 512) (k : Fin 1024) :
    (iblk m c 0 t : Vec Ideal S512x1024 .f32) (ix2 r k) = m ((c : Thread nD τ).loc main_arg0) (ix2 (rowOf t r) k) := by
  show V m c main_arg0 (((cfg0.win 0).blk t).view.emb (ix2 r k)) = _
  rw [emb0, V_main_arg0]

theorem iblk1_at (c : Dev nD) (t : Fin cfg0.N) (k : Fin 1024) :
    (iblk m c 1 t : Vec Ideal S1x1024 .f32) (ix2 0 k) = m ((c : Thread nD τ).loc main_arg1) (ix1 k) := by
  show V m c main_v17 (((cfg0.win 1).blk t).view.emb (ix2 0 k)) = _
  rw [emb1, V_main_v17]
  pointwise

theorem iblk2_at (c : Dev nD) (t : Fin cfg0.N) (j : S1024x4992.Idx) :
    (iblk m c 2 t : Vec Ideal S1024x4992 .bf16) j = packed (m ((c : Thread nD τ).loc main_arg2)) j := by
  show V m c main_v16 (((cfg0.win 2).blk t).view.emb j) = _
  rw [emb2, V_main_v16]

/-- The arguments as launched. -/
abbrev hOf (c : Dev nD) : Vec Ideal S16384x1024 .f32 := m ((c : Thread nD τ).loc main_arg0)
abbrev nOf (c : Dev nD) : Vec Ideal S1024 .f32 := m ((c : Thread nD τ).loc main_arg1)
abbrev wOf (c : Dev nD) : Vec Ideal S1024x8968 .f32 := m ((c : Thread nD τ).loc main_arg2)

/-- A block's product with a packed column that is a column of `w_in`, as an entry of the whole product. -/
theorem bprod_eq (c : Dev nD) (t : Fin cfg0.N) (r : Fin 512) (j : Fin 4992) (r' : Fin 16384) (j' : Fin 8968) (hr : r' = rowOf t r)
    (hj : ∀ k, packed (wOf m c) (ix2 k j) = wOf m c (ix2 k j')) :
    bprod (iblk m c 0 t) (iblk m c 1 t) (iblk m c 2 t) r j = prod (hOf m c) (nOf m c) (wOf m c) r' j' := by
  subst hr
  unfold bprod prod
  simp only [iblk0_at, iblk1_at, iblk2_at, hj]

/-- A block's product with a zero column is zero. -/
theorem bprod_zero (c : Dev nD) (t : Fin cfg0.N) (r : Fin 512) (j : Fin 4992) (hj : ∀ k, packed (wOf m c) (ix2 k j) = 0) :
    bprod (iblk m c 0 t) (iblk m c 1 t) (iblk m c 2 t) r j = 0 := by
  unfold bprod
  simp only [iblk2_at, hj, mul_zero, Finset.sum_const_zero]

theorem N_eq : cfg0.grid.N = 32 := by decide +kernel

/-- The contents of output 1. -/
abbrev G4 (c : Dev nD) : Vec Ideal S16384x512 .bf16 := sec (hOf m c) (nOf m c) (wOf m c) 512 512 (by decide)

theorem flushed_eq4 (c : Dev nD) (t : Fin cfg0.N) :
    (dats m 0 c).flushed 4 t = ((cfg0.win 4).blk t).view.read (Elt Ideal) (G4 m c) := by
  rw [flushed4_A]
  funext j
  obtain ⟨r, k, rfl⟩ : ∃ (r : Fin 512) (k : Fin 512), j = ix2 r k := ⟨j 0, j 1, by idx_ext⟩
  refine (out4_at _ _ _ _ _ _ _ _ _ _ _ _ _ _ _ _ _ _ _ _ _ _ _ _ _ _ _ _ _ _ _ _ _ r k).trans ?_
  refine Eq.trans ?_ (congrArg (G4 m c) (emb4 t r k)).symm
  exact bprod_eq m c t r _ (rowOf t r) ⟨512 + k.val, by omega⟩ rfl fun j => packed1_at _ j k

theorem covered4 (i : S16384x512.Idx) :
    ∃ t : Fin cfg0.N, (cfg0.win 4).flush t = true ∧ i ∈ ((cfg0.win 4).blk t).view.set := by
  obtain ⟨r, k, rfl⟩ : ∃ (r : Fin 16384) (k : Fin 512), i = ix2 r k := ⟨i 0, i 1, by idx_ext⟩
  have hlt : r.val / 512 < cfg0.N := by change _ < cfg0.grid.N; rw [N_eq]; omega
  refine ⟨⟨r.val / 512, hlt⟩, flush0_4 _, ?_⟩
  have h := ((cfg0.win 4).blk ⟨r.val / 512, hlt⟩).view.emb_mem_set (ix2 ⟨r.val % 512, by omega⟩ k)
  rw [emb4] at h
  have e : rowOf ⟨r.val / 512, hlt⟩ ⟨r.val % 512, by omega⟩ = r := Fin.ext (by
    show r.val / 512 * 512 + r.val % 512 = r.val; omega)
  rwa [e] at h

theorem final4 (c : Dev nD) : (dats m 0 c).arrAt 4 cfg0.N = G4 m c :=
  (dats m 0 c).arrAt_eq_of_cover 4 (G4 m c) (fun t _ => flushed_eq4 m c t) covered4

/-- The contents of output 2. -/
abbrev G5 (c : Dev nD) : Vec Ideal S16384x768 .bf16 := sec (hOf m c) (nOf m c) (wOf m c) 1024 768 (by decide)

theorem flushed_eq5 (c : Dev nD) (t : Fin cfg0.N) :
    (dats m 0 c).flushed 5 t = ((cfg0.win 5).blk t).view.read (Elt Ideal) (G5 m c) := by
  rw [flushed5_A]
  funext j
  obtain ⟨r, k, rfl⟩ : ∃ (r : Fin 512) (k : Fin 768), j = ix2 r k := ⟨j 0, j 1, by idx_ext⟩
  refine (out5_at _ _ _ _ _ _ _ _ _ _ _ _ _ _ _ _ _ _ _ _ _ _ _ _ _ _ _ _ _ _ _ _ _ r k).trans ?_
  refine Eq.trans ?_ (congrArg (G5 m c) (emb5 t r k)).symm
  exact bprod_eq m c t r _ (rowOf t r) ⟨1024 + k.val, by omega⟩ rfl fun j => packed2_at _ j k

theorem covered5 (i : S16384x768.Idx) :
    ∃ t : Fin cfg0.N, (cfg0.win 5).flush t = true ∧ i ∈ ((cfg0.win 5).blk t).view.set := by
  obtain ⟨r, k, rfl⟩ : ∃ (r : Fin 16384) (k : Fin 768), i = ix2 r k := ⟨i 0, i 1, by idx_ext⟩
  have hlt : r.val / 512 < cfg0.N := by change _ < cfg0.grid.N; rw [N_eq]; omega
  refine ⟨⟨r.val / 512, hlt⟩, flush0_5 _, ?_⟩
  have h := ((cfg0.win 5).blk ⟨r.val / 512, hlt⟩).view.emb_mem_set (ix2 ⟨r.val % 512, by omega⟩ k)
  rw [emb5] at h
  have e : rowOf ⟨r.val / 512, hlt⟩ ⟨r.val % 512, by omega⟩ = r := Fin.ext (by
    show r.val / 512 * 512 + r.val % 512 = r.val; omega)
  rwa [e] at h

theorem final5 (c : Dev nD) : (dats m 0 c).arrAt 5 cfg0.N = G5 m c :=
  (dats m 0 c).arrAt_eq_of_cover 5 (G5 m c) (fun t _ => flushed_eq5 m c t) covered5

/-- The contents of output 3. -/
abbrev G6 (c : Dev nD) : Vec Ideal S16384x128 .bf16 := steps (hOf m c) (nOf m c) (wOf m c)

theorem flushed_eq6 (c : Dev nD) (t : Fin cfg0.N) :
    (dats m 0 c).flushed 6 t = ((cfg0.win 6).blk t).view.read (Elt Ideal) (G6 m c) := by
  rw [flushed6_A]
  funext j
  obtain ⟨r, k, rfl⟩ : ∃ (r : Fin 512) (k : Fin 128), j = ix2 r k := ⟨j 0, j 1, by idx_ext⟩
  refine (out6_at _ _ _ _ _ _ _ _ _ _ _ _ _ _ _ _ _ _ _ _ _ _ _ _ _ _ _ _ _ _ _ _ _ r k).trans ?_
  refine Eq.trans ?_ (congrArg (G6 m c) (emb6 t r k)).symm
  show _ = dite _ _ _
  split
  · rename_i hk
    exact bprod_eq m c t r _ (rowOf t r) ⟨1792 + k.val, by omega⟩ rfl fun j => (packed3_at _ j k).trans (dif_pos hk)
  · rename_i hk
    exact bprod_zero m c t r _ fun j => (packed3_at _ j k).trans (dif_neg hk)

theorem covered6 (i : S16384x128.Idx) :
    ∃ t : Fin cfg0.N, (cfg0.win 6).flush t = true ∧ i ∈ ((cfg0.win 6).blk t).view.set := by
  obtain ⟨r, k, rfl⟩ : ∃ (r : Fin 16384) (k : Fin 128), i = ix2 r k := ⟨i 0, i 1, by idx_ext⟩
  have hlt : r.val / 512 < cfg0.N := by change _ < cfg0.grid.N; rw [N_eq]; omega
  refine ⟨⟨r.val / 512, hlt⟩, flush0_6 _, ?_⟩
  have h := ((cfg0.win 6).blk ⟨r.val / 512, hlt⟩).view.emb_mem_set (ix2 ⟨r.val % 512, by omega⟩ k)
  rw [emb6] at h
  have e : rowOf ⟨r.val / 512, hlt⟩ ⟨r.val % 512, by omega⟩ = r := Fin.ext (by
    show r.val / 512 * 512 + r.val % 512 = r.val; omega)
  rwa [e] at h

theorem final6 (c : Dev nD) : (dats m 0 c).arrAt 6 cfg0.N = G6 m c :=
  (dats m 0 c).arrAt_eq_of_cover 6 (G6 m c) (fun t _ => flushed_eq6 m c t) covered6

/-- The contents of output 4. -/
abbrev G7 (c : Dev nD) : Vec Ideal S16384x512 .bf16 := sec (hOf m c) (nOf m c) (wOf m c) 1800 512 (by decide)

theorem flushed_eq7 (c : Dev nD) (t : Fin cfg0.N) :
    (dats m 0 c).flushed 7 t = ((cfg0.win 7).blk t).view.read (Elt Ideal) (G7 m c) := by
  rw [flushed7_A]
  funext j
  obtain ⟨r, k, rfl⟩ : ∃ (r : Fin 512) (k : Fin 512), j = ix2 r k := ⟨j 0, j 1, by idx_ext⟩
  refine (out7_at _ _ _ _ _ _ _ _ _ _ _ _ _ _ _ _ _ _ _ _ _ _ _ _ _ _ _ _ _ _ _ _ _ r k).trans ?_
  refine Eq.trans ?_ (congrArg (G7 m c) (emb7 t r k)).symm
  exact bprod_eq m c t r _ (rowOf t r) ⟨1800 + k.val, by omega⟩ rfl fun j => packed4_at _ j k

theorem covered7 (i : S16384x512.Idx) :
    ∃ t : Fin cfg0.N, (cfg0.win 7).flush t = true ∧ i ∈ ((cfg0.win 7).blk t).view.set := by
  obtain ⟨r, k, rfl⟩ : ∃ (r : Fin 16384) (k : Fin 512), i = ix2 r k := ⟨i 0, i 1, by idx_ext⟩
  have hlt : r.val / 512 < cfg0.N := by change _ < cfg0.grid.N; rw [N_eq]; omega
  refine ⟨⟨r.val / 512, hlt⟩, flush0_7 _, ?_⟩
  have h := ((cfg0.win 7).blk ⟨r.val / 512, hlt⟩).view.emb_mem_set (ix2 ⟨r.val % 512, by omega⟩ k)
  rw [emb7] at h
  have e : rowOf ⟨r.val / 512, hlt⟩ ⟨r.val % 512, by omega⟩ = r := Fin.ext (by
    show r.val / 512 * 512 + r.val % 512 = r.val; omega)
  rwa [e] at h

theorem final7 (c : Dev nD) : (dats m 0 c).arrAt 7 cfg0.N = G7 m c :=
  (dats m 0 c).arrAt_eq_of_cover 7 (G7 m c) (fun t _ => flushed_eq7 m c t) covered7

/-- The contents of output 5. -/
abbrev G8 (c : Dev nD) : Vec Ideal S16384x512 .bf16 := sec (hOf m c) (nOf m c) (wOf m c) 2312 512 (by decide)

theorem flushed_eq8 (c : Dev nD) (t : Fin cfg0.N) :
    (dats m 0 c).flushed 8 t = ((cfg0.win 8).blk t).view.read (Elt Ideal) (G8 m c) := by
  rw [flushed8_A]
  funext j
  obtain ⟨r, k, rfl⟩ : ∃ (r : Fin 512) (k : Fin 512), j = ix2 r k := ⟨j 0, j 1, by idx_ext⟩
  refine (out8_at _ _ _ _ _ _ _ _ _ _ _ _ _ _ _ _ _ _ _ _ _ _ _ _ _ _ _ _ _ _ _ _ _ r k).trans ?_
  refine Eq.trans ?_ (congrArg (G8 m c) (emb8 t r k)).symm
  exact bprod_eq m c t r _ (rowOf t r) ⟨2312 + k.val, by omega⟩ rfl fun j => packed5_at _ j k

theorem covered8 (i : S16384x512.Idx) :
    ∃ t : Fin cfg0.N, (cfg0.win 8).flush t = true ∧ i ∈ ((cfg0.win 8).blk t).view.set := by
  obtain ⟨r, k, rfl⟩ : ∃ (r : Fin 16384) (k : Fin 512), i = ix2 r k := ⟨i 0, i 1, by idx_ext⟩
  have hlt : r.val / 512 < cfg0.N := by change _ < cfg0.grid.N; rw [N_eq]; omega
  refine ⟨⟨r.val / 512, hlt⟩, flush0_8 _, ?_⟩
  have h := ((cfg0.win 8).blk ⟨r.val / 512, hlt⟩).view.emb_mem_set (ix2 ⟨r.val % 512, by omega⟩ k)
  rw [emb8] at h
  have e : rowOf ⟨r.val / 512, hlt⟩ ⟨r.val % 512, by omega⟩ = r := Fin.ext (by
    show r.val / 512 * 512 + r.val % 512 = r.val; omega)
  rwa [e] at h

theorem final8 (c : Dev nD) : (dats m 0 c).arrAt 8 cfg0.N = G8 m c :=
  (dats m 0 c).arrAt_eq_of_cover 8 (G8 m c) (fun t _ => flushed_eq8 m c t) covered8

/-- The contents of output 6. -/
abbrev G9 (c : Dev nD) : Vec Ideal S16384x512 .bf16 := sec (hOf m c) (nOf m c) (wOf m c) 2824 512 (by decide)

theorem flushed_eq9 (c : Dev nD) (t : Fin cfg0.N) :
    (dats m 0 c).flushed 9 t = ((cfg0.win 9).blk t).view.read (Elt Ideal) (G9 m c) := by
  rw [flushed9_A]
  funext j
  obtain ⟨r, k, rfl⟩ : ∃ (r : Fin 512) (k : Fin 512), j = ix2 r k := ⟨j 0, j 1, by idx_ext⟩
  refine (out9_at _ _ _ _ _ _ _ _ _ _ _ _ _ _ _ _ _ _ _ _ _ _ _ _ _ _ _ _ _ _ _ _ _ r k).trans ?_
  refine Eq.trans ?_ (congrArg (G9 m c) (emb9 t r k)).symm
  exact bprod_eq m c t r _ (rowOf t r) ⟨2824 + k.val, by omega⟩ rfl fun j => packed6_at _ j k

theorem covered9 (i : S16384x512.Idx) :
    ∃ t : Fin cfg0.N, (cfg0.win 9).flush t = true ∧ i ∈ ((cfg0.win 9).blk t).view.set := by
  obtain ⟨r, k, rfl⟩ : ∃ (r : Fin 16384) (k : Fin 512), i = ix2 r k := ⟨i 0, i 1, by idx_ext⟩
  have hlt : r.val / 512 < cfg0.N := by change _ < cfg0.grid.N; rw [N_eq]; omega
  refine ⟨⟨r.val / 512, hlt⟩, flush0_9 _, ?_⟩
  have h := ((cfg0.win 9).blk ⟨r.val / 512, hlt⟩).view.emb_mem_set (ix2 ⟨r.val % 512, by omega⟩ k)
  rw [emb9] at h
  have e : rowOf ⟨r.val / 512, hlt⟩ ⟨r.val % 512, by omega⟩ = r := Fin.ext (by
    show r.val / 512 * 512 + r.val % 512 = r.val; omega)
  rwa [e] at h

theorem final9 (c : Dev nD) : (dats m 0 c).arrAt 9 cfg0.N = G9 m c :=
  (dats m 0 c).arrAt_eq_of_cover 9 (G9 m c) (fun t _ => flushed_eq9 m c t) covered9

/-- The contents of output 7. -/
abbrev G10 (c : Dev nD) : Vec Ideal S16384x512 .bf16 := sec (hOf m c) (nOf m c) (wOf m c) 3336 512 (by decide)

theorem flushed_eq10 (c : Dev nD) (t : Fin cfg0.N) :
    (dats m 0 c).flushed 10 t = ((cfg0.win 10).blk t).view.read (Elt Ideal) (G10 m c) := by
  rw [flushed10_A]
  funext j
  obtain ⟨r, k, rfl⟩ : ∃ (r : Fin 512) (k : Fin 512), j = ix2 r k := ⟨j 0, j 1, by idx_ext⟩
  refine (out10_at _ _ _ _ _ _ _ _ _ _ _ _ _ _ _ _ _ _ _ _ _ _ _ _ _ _ _ _ _ _ _ _ _ r k).trans ?_
  refine Eq.trans ?_ (congrArg (G10 m c) (emb10 t r k)).symm
  exact bprod_eq m c t r _ (rowOf t r) ⟨3336 + k.val, by omega⟩ rfl fun j => packed7_at _ j k

theorem covered10 (i : S16384x512.Idx) :
    ∃ t : Fin cfg0.N, (cfg0.win 10).flush t = true ∧ i ∈ ((cfg0.win 10).blk t).view.set := by
  obtain ⟨r, k, rfl⟩ : ∃ (r : Fin 16384) (k : Fin 512), i = ix2 r k := ⟨i 0, i 1, by idx_ext⟩
  have hlt : r.val / 512 < cfg0.N := by change _ < cfg0.grid.N; rw [N_eq]; omega
  refine ⟨⟨r.val / 512, hlt⟩, flush0_10 _, ?_⟩
  have h := ((cfg0.win 10).blk ⟨r.val / 512, hlt⟩).view.emb_mem_set (ix2 ⟨r.val % 512, by omega⟩ k)
  rw [emb10] at h
  have e : rowOf ⟨r.val / 512, hlt⟩ ⟨r.val % 512, by omega⟩ = r := Fin.ext (by
    show r.val / 512 * 512 + r.val % 512 = r.val; omega)
  rwa [e] at h

theorem final10 (c : Dev nD) : (dats m 0 c).arrAt 10 cfg0.N = G10 m c :=
  (dats m 0 c).arrAt_eq_of_cover 10 (G10 m c) (fun t _ => flushed_eq10 m c t) covered10

/-- The contents of output 8. -/
abbrev G11 (c : Dev nD) : Vec Ideal S16384x512 .bf16 := sec (hOf m c) (nOf m c) (wOf m c) 3848 512 (by decide)

theorem flushed_eq11 (c : Dev nD) (t : Fin cfg0.N) :
    (dats m 0 c).flushed 11 t = ((cfg0.win 11).blk t).view.read (Elt Ideal) (G11 m c) := by
  rw [flushed11_A]
  funext j
  obtain ⟨r, k, rfl⟩ : ∃ (r : Fin 512) (k : Fin 512), j = ix2 r k := ⟨j 0, j 1, by idx_ext⟩
  refine (out11_at _ _ _ _ _ _ _ _ _ _ _ _ _ _ _ _ _ _ _ _ _ _ _ _ _ _ _ _ _ _ _ _ _ r k).trans ?_
  refine Eq.trans ?_ (congrArg (G11 m c) (emb11 t r k)).symm
  exact bprod_eq m c t r _ (rowOf t r) ⟨3848 + k.val, by omega⟩ rfl fun j => packed8_at _ j k

theorem covered11 (i : S16384x512.Idx) :
    ∃ t : Fin cfg0.N, (cfg0.win 11).flush t = true ∧ i ∈ ((cfg0.win 11).blk t).view.set := by
  obtain ⟨r, k, rfl⟩ : ∃ (r : Fin 16384) (k : Fin 512), i = ix2 r k := ⟨i 0, i 1, by idx_ext⟩
  have hlt : r.val / 512 < cfg0.N := by change _ < cfg0.grid.N; rw [N_eq]; omega
  refine ⟨⟨r.val / 512, hlt⟩, flush0_11 _, ?_⟩
  have h := ((cfg0.win 11).blk ⟨r.val / 512, hlt⟩).view.emb_mem_set (ix2 ⟨r.val % 512, by omega⟩ k)
  rw [emb11] at h
  have e : rowOf ⟨r.val / 512, hlt⟩ ⟨r.val % 512, by omega⟩ = r := Fin.ext (by
    show r.val / 512 * 512 + r.val % 512 = r.val; omega)
  rwa [e] at h

theorem final11 (c : Dev nD) : (dats m 0 c).arrAt 11 cfg0.N = G11 m c :=
  (dats m 0 c).arrAt_eq_of_cover 11 (G11 m c) (fun t _ => flushed_eq11 m c t) covered11

/-- The contents of output 9. -/
abbrev G12 (c : Dev nD) : Vec Ideal S16384x512 .bf16 := sec (hOf m c) (nOf m c) (wOf m c) 4360 512 (by decide)

theorem flushed_eq12 (c : Dev nD) (t : Fin cfg0.N) :
    (dats m 0 c).flushed 12 t = ((cfg0.win 12).blk t).view.read (Elt Ideal) (G12 m c) := by
  rw [flushed12_A]
  funext j
  obtain ⟨r, k, rfl⟩ : ∃ (r : Fin 512) (k : Fin 512), j = ix2 r k := ⟨j 0, j 1, by idx_ext⟩
  refine (out12_at _ _ _ _ _ _ _ _ _ _ _ _ _ _ _ _ _ _ _ _ _ _ _ _ _ _ _ _ _ _ _ _ _ r k).trans ?_
  refine Eq.trans ?_ (congrArg (G12 m c) (emb12 t r k)).symm
  exact bprod_eq m c t r _ (rowOf t r) ⟨4360 + k.val, by omega⟩ rfl fun j => packed9_at _ j k

theorem covered12 (i : S16384x512.Idx) :
    ∃ t : Fin cfg0.N, (cfg0.win 12).flush t = true ∧ i ∈ ((cfg0.win 12).blk t).view.set := by
  obtain ⟨r, k, rfl⟩ : ∃ (r : Fin 16384) (k : Fin 512), i = ix2 r k := ⟨i 0, i 1, by idx_ext⟩
  have hlt : r.val / 512 < cfg0.N := by change _ < cfg0.grid.N; rw [N_eq]; omega
  refine ⟨⟨r.val / 512, hlt⟩, flush0_12 _, ?_⟩
  have h := ((cfg0.win 12).blk ⟨r.val / 512, hlt⟩).view.emb_mem_set (ix2 ⟨r.val % 512, by omega⟩ k)
  rw [emb12] at h
  have e : rowOf ⟨r.val / 512, hlt⟩ ⟨r.val % 512, by omega⟩ = r := Fin.ext (by
    show r.val / 512 * 512 + r.val % 512 = r.val; omega)
  rwa [e] at h

theorem final12 (c : Dev nD) : (dats m 0 c).arrAt 12 cfg0.N = G12 m c :=
  (dats m 0 c).arrAt_eq_of_cover 12 (G12 m c) (fun t _ => flushed_eq12 m c t) covered12

/-- The contents of the first output. -/
abbrev G3 (c : Dev nD) : Vec Ideal S4x1024x2048 .bf16 := fold (hOf m c) (nOf m c) (wOf m c)

theorem flushed_eq3 (c : Dev nD) (t : Fin cfg0.N) :
    (dats m 0 c).flushed 3 t = ((cfg0.win 3).blk t).view.read (Elt Ideal) (G3 m c) := by
  rw [flushed3_A]
  funext j
  obtain ⟨q, b, k, rfl⟩ : ∃ (q : Fin 4) (b : Fin 32) (k : Fin 2048), j = ix3 q b k := ⟨j 0, j 1, j 2, by idx_ext⟩
  refine (out3_at _ _ _ _ _ _ _ _ _ _ _ _ _ _ _ _ _ _ _ _ _ _ _ _ _ _ _ _ _ _ _ _ _ q b k).trans ?_
  refine Eq.trans ?_ (congrArg (G3 m c) (emb3 t q b k)).symm
  have ht := lt32 t
  refine bprod_eq m c t _ _ _ _ (Fin.ext ?_) fun j => ?_
  · show (t.val * 32 + b.val) * 16 + k.val / 128 = t.val * 512 + (b.val * 16 + k.val / 128)
    omega
  · have h := packed0_at (wOf m c) j ⟨q.val * 128 + k.val % 128, by omega⟩
    simp only [Nat.zero_add] at h
    exact h

theorem covered3 (i : S4x1024x2048.Idx) :
    ∃ t : Fin cfg0.N, (cfg0.win 3).flush t = true ∧ i ∈ ((cfg0.win 3).blk t).view.set := by
  obtain ⟨q, b, k, rfl⟩ : ∃ (q : Fin 4) (b : Fin 1024) (k : Fin 2048), i = ix3 q b k := ⟨i 0, i 1, i 2, by idx_ext⟩
  have hlt : b.val / 32 < cfg0.N := by change _ < cfg0.grid.N; rw [N_eq]; omega
  refine ⟨⟨b.val / 32, hlt⟩, flush0_3 _, ?_⟩
  have h := ((cfg0.win 3).blk ⟨b.val / 32, hlt⟩).view.emb_mem_set (ix3 q ⟨b.val % 32, by omega⟩ k)
  rw [emb3] at h
  have e : row3 ⟨b.val / 32, hlt⟩ ⟨b.val % 32, by omega⟩ = b := Fin.ext (by
    show b.val / 32 * 32 + b.val % 32 = b.val; omega)
  rwa [e] at h

theorem final3 (c : Dev nD) : (dats m 0 c).arrAt 3 cfg0.N = G3 m c :=
  (dats m 0 c).arrAt_eq_of_cover 3 (G3 m c) (fun t _ => flushed_eq3 m c t) covered3

/-- The kernel's run, its results named. -/
theorem run : θ_run defs (onTc (τ := τ) (main (F := Ideal))) ⟨m, fun _ => 0, ρ⟩ fun r => ∀ c : Dev nD,
      r.2.mem ((c : Thread nD τ).loc main_v18_0) = G3 m c
      ∧ r.2.mem ((c : Thread nD τ).loc main_v18_1) = G4 m c
      ∧ r.2.mem ((c : Thread nD τ).loc main_v18_2) = G5 m c
      ∧ r.2.mem ((c : Thread nD τ).loc main_v18_3) = G6 m c
      ∧ r.2.mem ((c : Thread nD τ).loc main_v18_4) = G7 m c
      ∧ r.2.mem ((c : Thread nD τ).loc main_v18_5) = G8 m c
      ∧ r.2.mem ((c : Thread nD τ).loc main_v18_6) = G9 m c
      ∧ r.2.mem ((c : Thread nD τ).loc main_v18_7) = G10 m c
      ∧ r.2.mem ((c : Thread nD τ).loc main_v18_8) = G11 m c
      ∧ r.2.mem ((c : Thread nD τ).loc main_v18_9) = G12 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => by
    obtain ⟨h0, h1, h2, h3, h4, h5, h6, h7, h8, h9, ha⟩ := h c
    exact ⟨h0.trans (final3 m c), h1.trans (final4 m c), h2.trans (final5 m c), h3.trans (final6 m c), h4.trans (final7 m c), h5.trans (final8 m c), h6.trans (final9 m c), h7.trans (final10 m c), h8.trans (final11 m c), h9.trans (final12 m c), ha⟩) (run_blocks m ρ)

end Cert.Proof.Proj

end
-- ==== Proof.ProjRef.lean ====
/-
  The reference of the input projection, section by section.
-/
module

public import proofs.«01_k».proof.Proof.Gen.Reference4Ideal.Run
public import proofs.«01_k».proof.Proof.Gen.Reference4Ideal.Read
public import proofs.«01_k».proof.Proof.Proj

@[expose] public section

set_option maxRecDepth 16384

noncomputable section

namespace Cert.Proof.Proj

open Idealize.ShloMosaic Idealize.ShloMosaic.TcCoe Cert.Proof.Math
open Cert.Reference4Ideal Cert.Reference4Ideal.Gen Cert.Reference4Ideal.Read

variable (x0 : Vec Ideal S16384x1024 .f32) (x1 : Vec Ideal S1024 .f32) (x2 : Vec Ideal S1024x8968 .f32)

/-- The whole product. -/
theorem ref_prod (r : Fin 16384) (c : Fin 8968) : val_main_v13 (F := Ideal) x0 x1 x2 (ix2 r c) = prod x0 x1 x2 r c := by
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

/-- The row an entry of the S5 layout is read from. -/
theorem fold_row (q b c : Nat) (hq : q < 4) (hb : b < 1024) (hc : c < 2048) :
    ((((q * 1024 + b) * 2048 + c) / 2048 % 1024 * 16 + ((q * 1024 + b) * 2048 + c) / 128 % 16) * 4 +
      ((q * 1024 + b) * 2048 + c) / 2097152 ) * 128 / 512 = b * 16 + c / 128 ∧
    ((((q * 1024 + b) * 2048 + c) / 2048 % 1024 * 16 + ((q * 1024 + b) * 2048 + c) / 128 % 16) * 4 +
      ((q * 1024 + b) * 2048 + c) / 2097152) = (b * 16 + c / 128) * 4 + q ∧
      ((q * 1024 + b) * 2048 + c) % 128 = c % 128 := by
  have h1 : ((q * 1024 + b) * 2048 + c) / 2048 = q * 1024 + b := by omega
  have h2 : ((q * 1024 + b) * 2048 + c) / 128 = (q * 1024 + b) * 16 + c / 128 := by omega
  have h3 : ((q * 1024 + b) * 2048 + c) / 2097152 = q := by omega
  rw [h1, h2, h3]
  omega

theorem ref_fold : val_main_v29 (F := Ideal) x0 x1 x2 = fold x0 x1 x2 := by
  funext i
  obtain ⟨q, b, c, rfl⟩ : ∃ (q : Fin 4) (b : Fin 1024) (c : Fin 2048), i = ix3 q b c := ⟨i 0, i 1, i 2, by idx_ext⟩
  rw [val_main_v29_apply, val_main_v27_apply, val_main_v26_apply, val_main_v25_apply, val_main_v14_apply]
  refine Eq.trans ?_ (ref_prod x0 x1 x2 ⟨b.val * 16 + c.val / 128, by omega⟩ ⟨q.val * 128 + c.val % 128, by omega⟩)
  refine congrArg (val_main_v13 (F := Ideal) x0 x1 x2) (funext fun a => Fin.ext ?_)
  match a with
  | ⟨0, _⟩ => dsimp [idx_main_v14, idx_main_v25, idx_main_v26, idx_main_v27, ix2, ix3]; obtain ⟨-, h1, h2⟩ := fold_row _ _ _ q.2 b.2 c.2; rw [h1, h2]; omega
  | ⟨1, _⟩ => dsimp [idx_main_v14, idx_main_v25, idx_main_v26, idx_main_v27, ix2, ix3]; obtain ⟨-, h1, h2⟩ := fold_row _ _ _ q.2 b.2 c.2; rw [h1, h2]; omega

theorem ref_steps : val_main_v32 (F := Ideal) x0 x1 x2 = steps x0 x1 x2 := by
  funext i
  obtain ⟨r, c, rfl⟩ : ∃ (r : Fin 16384) (c : Fin 128), i = ix2 r c := ⟨i 0, i 1, by idx_ext⟩
  rw [val_main_v32_apply]
  unfold val_main_v28
  have hz : ∀ j, val_main_call0_v0 (F := Ideal) j = (0 : EReal) := fun j => by
    rw [val_main_call0_v0_apply, val_main_c_apply]; simp [FloatOps.sitofp]
  generalize val_main_call0_v0 (F := Ideal) = z at hz
  have hr : ∀ (j : Fin 8), val_main_v17 (F := Ideal) x0 x1 x2 (ix2 r j) = prod x0 x1 x2 r ⟨1792 + j.val, by omega⟩ := fun j => by
    rw [val_main_v17_apply, ← ref_prod]
    exact congrArg _ (funext fun a => match a with | ⟨0, _⟩ => rfl | ⟨1, _⟩ => rfl)
  generalize val_main_v17 (F := Ideal) x0 x1 x2 = y at hr
  pointwise
  simp only [hr, hz]
  rfl

theorem ref_30 : val_main_v30 (F := Ideal) x0 x1 x2 = sec x0 x1 x2 512 512 (by decide) := by
  funext i
  obtain ⟨r, c, rfl⟩ : ∃ (r : Fin 16384) (c : Fin 512), i = ix2 r c := ⟨i 0, i 1, by idx_ext⟩
  rw [val_main_v30_apply, val_main_v15_apply]
  refine Eq.trans ?_ (ref_prod x0 x1 x2 r ⟨512 + c.val, by omega⟩)
  exact congrArg (val_main_v13 (F := Ideal) x0 x1 x2) (funext fun a => match a with | ⟨0, _⟩ => rfl | ⟨1, _⟩ => rfl)

theorem ref_31 : val_main_v31 (F := Ideal) x0 x1 x2 = sec x0 x1 x2 1024 768 (by decide) := by
  funext i
  obtain ⟨r, c, rfl⟩ : ∃ (r : Fin 16384) (c : Fin 768), i = ix2 r c := ⟨i 0, i 1, by idx_ext⟩
  rw [val_main_v31_apply, val_main_v16_apply]
  refine Eq.trans ?_ (ref_prod x0 x1 x2 r ⟨1024 + c.val, by omega⟩)
  exact congrArg (val_main_v13 (F := Ideal) x0 x1 x2) (funext fun a => match a with | ⟨0, _⟩ => rfl | ⟨1, _⟩ => rfl)

theorem ref_33 : val_main_v33 (F := Ideal) x0 x1 x2 = sec x0 x1 x2 1800 512 (by decide) := by
  funext i
  obtain ⟨r, c, rfl⟩ : ∃ (r : Fin 16384) (c : Fin 512), i = ix2 r c := ⟨i 0, i 1, by idx_ext⟩
  rw [val_main_v33_apply, val_main_v18_apply]
  refine Eq.trans ?_ (ref_prod x0 x1 x2 r ⟨1800 + c.val, by omega⟩)
  exact congrArg (val_main_v13 (F := Ideal) x0 x1 x2) (funext fun a => match a with | ⟨0, _⟩ => rfl | ⟨1, _⟩ => rfl)

theorem ref_34 : val_main_v34 (F := Ideal) x0 x1 x2 = sec x0 x1 x2 2312 512 (by decide) := by
  funext i
  obtain ⟨r, c, rfl⟩ : ∃ (r : Fin 16384) (c : Fin 512), i = ix2 r c := ⟨i 0, i 1, by idx_ext⟩
  rw [val_main_v34_apply, val_main_v19_apply]
  refine Eq.trans ?_ (ref_prod x0 x1 x2 r ⟨2312 + c.val, by omega⟩)
  exact congrArg (val_main_v13 (F := Ideal) x0 x1 x2) (funext fun a => match a with | ⟨0, _⟩ => rfl | ⟨1, _⟩ => rfl)

theorem ref_35 : val_main_v35 (F := Ideal) x0 x1 x2 = sec x0 x1 x2 2824 512 (by decide) := by
  funext i
  obtain ⟨r, c, rfl⟩ : ∃ (r : Fin 16384) (c : Fin 512), i = ix2 r c := ⟨i 0, i 1, by idx_ext⟩
  rw [val_main_v35_apply, val_main_v20_apply]
  refine Eq.trans ?_ (ref_prod x0 x1 x2 r ⟨2824 + c.val, by omega⟩)
  exact congrArg (val_main_v13 (F := Ideal) x0 x1 x2) (funext fun a => match a with | ⟨0, _⟩ => rfl | ⟨1, _⟩ => rfl)

theorem ref_36 : val_main_v36 (F := Ideal) x0 x1 x2 = sec x0 x1 x2 3336 512 (by decide) := by
  funext i
  obtain ⟨r, c, rfl⟩ : ∃ (r : Fin 16384) (c : Fin 512), i = ix2 r c := ⟨i 0, i 1, by idx_ext⟩
  rw [val_main_v36_apply, val_main_v21_apply]
  refine Eq.trans ?_ (ref_prod x0 x1 x2 r ⟨3336 + c.val, by omega⟩)
  exact congrArg (val_main_v13 (F := Ideal) x0 x1 x2) (funext fun a => match a with | ⟨0, _⟩ => rfl | ⟨1, _⟩ => rfl)

theorem ref_37 : val_main_v37 (F := Ideal) x0 x1 x2 = sec x0 x1 x2 3848 512 (by decide) := by
  funext i
  obtain ⟨r, c, rfl⟩ : ∃ (r : Fin 16384) (c : Fin 512), i = ix2 r c := ⟨i 0, i 1, by idx_ext⟩
  rw [val_main_v37_apply, val_main_v22_apply]
  refine Eq.trans ?_ (ref_prod x0 x1 x2 r ⟨3848 + c.val, by omega⟩)
  exact congrArg (val_main_v13 (F := Ideal) x0 x1 x2) (funext fun a => match a with | ⟨0, _⟩ => rfl | ⟨1, _⟩ => rfl)

theorem ref_38 : val_main_v38 (F := Ideal) x0 x1 x2 = sec x0 x1 x2 4360 512 (by decide) := by
  funext i
  obtain ⟨r, c, rfl⟩ : ∃ (r : Fin 16384) (c : Fin 512), i = ix2 r c := ⟨i 0, i 1, by idx_ext⟩
  rw [val_main_v38_apply, val_main_v23_apply]
  refine Eq.trans ?_ (ref_prod x0 x1 x2 r ⟨4360 + c.val, by omega⟩)
  exact congrArg (val_main_v13 (F := Ideal) x0 x1 x2) (funext fun a => match a with | ⟨0, _⟩ => rfl | ⟨1, _⟩ => rfl)

end Cert.Proof.Proj

end
-- ==== Proof.ProjAlgebra.lean ====
/-
  The algebraic claim of the input projection: no precondition, since both programs add the same products in the same
  sums.
-/
module

public import proofs.«01_k».proof.Defs
public import proofs.«01_k».proof.Proof.ProjValue
public import proofs.«01_k».proof.Proof.ProjRef

@[expose] public section

set_option maxRecDepth 16384

noncomputable section

namespace Cert.Proof.Proj

open Idealize.ShloMosaic Idealize.ShloMosaic.TcCoe Idealize.SL.Sem Cert.Proof.Math

theorem algebraic : Cert.algebraic_Kernel4Ideal_Reference4Ideal := fun m ρ m' ρ' _ hag =>
  ⟨fun c => G3 m c, fun c => G4 m c, fun c => G5 m c, fun c => G6 m c, fun c => G7 m c, fun c => G8 m c, fun c => G9 m c, fun c => G10 m c, fun c => G11 m c, fun c => G12 m c, run m ρ,
    (θ_run _ _ _).mono (fun _ h c => by
      obtain ⟨h0, h1, h2, h3, h4, h5, h6, h7, h8, h9, ha⟩ := h c
      obtain ⟨e0, e1, e2⟩ := hag c
      refine ⟨h0.trans ?_, h1.trans ?_, h2.trans ?_, h3.trans ?_, h4.trans ?_, h5.trans ?_, h6.trans ?_, h7.trans ?_, h8.trans ?_, h9.trans ?_, ha⟩
      · rw [Cert.Reference4Ideal.Read.val_main_v29_eq, ref_fold, e0, e1, e2]
      · rw [Cert.Reference4Ideal.Read.val_main_v30_eq, ref_30, e0, e1, e2]
      · rw [Cert.Reference4Ideal.Read.val_main_v31_eq, ref_31, e0, e1, e2]
      · rw [Cert.Reference4Ideal.Read.val_main_v32_eq, ref_steps, e0, e1, e2]
      · rw [Cert.Reference4Ideal.Read.val_main_v33_eq, ref_33, e0, e1, e2]
      · rw [Cert.Reference4Ideal.Read.val_main_v34_eq, ref_34, e0, e1, e2]
      · rw [Cert.Reference4Ideal.Read.val_main_v35_eq, ref_35, e0, e1, e2]
      · rw [Cert.Reference4Ideal.Read.val_main_v36_eq, ref_36, e0, e1, e2]
      · rw [Cert.Reference4Ideal.Read.val_main_v37_eq, ref_37, e0, e1, e2]
      · rw [Cert.Reference4Ideal.Read.val_main_v38_eq, ref_38, e0, e1, e2]) (Cert.Reference4Ideal.Value.run m' ρ')⟩

end Cert.Proof.Proj

end
-- ==== Proof.Merge.lean ====
/-
  The mathematics of the gated merge on extended reals: the hyperbolic-tangent gelu, the gated product of the first branch,
  and the two ways of writing a gate. The kernel halves the gate's weights and the output weights beforehand and adds
  `p + tanh(g/2) · p`; the reference takes `sig g · p`. The two agree when the gated values are real numbers.
-/
module

public import proofs.«01_k».proof.Proof.Softmax

@[expose] public section

noncomputable section

namespace Cert.Proof.Merge

open Idealize.ShloMosaic Cert.Proof.Math

/-- The gelu written with a hyperbolic tangent. -/
def gelu (x : EReal) : EReal :=
  x * (Ideal.ofBits .f32 1056964608#32
    * (1 + Ideal.tanh (Ideal.ofBits .f32 1061962282#32 * (x + Ideal.ofBits .f32 1027024659#32 * (x * (x * x))))))

/-- Entry `k` of the first branch: the gelu of its row, each entry times the logistic of the row's product with `w`. -/
def glu (z : Fin 512 → EReal) (w : Fin 512 → Fin 512 → EReal) (k : Fin 512) : EReal :=
  gelu (z k) * sig (∑ j, gelu (z j) * w j k)

/-- Column `e` of gate `i` among the 4096 columns of the four gates. -/
def gcol (i : Fin 4) (e : Fin 1024) : Fin 4096 := ⟨i.val * 1024 + e.val, by omega⟩

/-- Entry `e` of a branch's row `b` times its weights. -/
def prod (b : Fin 512 → EReal) (w : Fin 512 → Fin 1024 → EReal) (e : Fin 1024) : EReal := ∑ k, b k * w k e

/-- The argument of a gate: the normalised row `x` times a column of weights, plus the bias. -/
def garg (x : Fin 1024 → EReal) (w : Fin 1024 → Fin 4096 → EReal) (b : Fin 4096 → EReal) (j : Fin 4096) : EReal :=
  ∑ k, x k * w k j + b j

/-- One row of the kernel's merge: `x` the normalised row, `p` the four branches' products. -/
def rowK (h x : Fin 1024 → EReal) (wg : Fin 1024 → Fin 4096 → EReal) (bg : Fin 4096 → EReal)
    (p : Fin 4 → Fin 1024 → EReal) (wo : Fin 1024 → Fin 1024 → EReal) (c : Fin 1024) : EReal :=
  h c + ∑ e, ((((p 0 e + Ideal.tanh (garg x wg bg (gcol 0 e)) * p 0 e)
    + (p 1 e + Ideal.tanh (garg x wg bg (gcol 1 e)) * p 1 e)) + (p 2 e + Ideal.tanh (garg x wg bg (gcol 2 e)) * p 2 e))
    + (p 3 e + Ideal.tanh (garg x wg bg (gcol 3 e)) * p 3 e)) * wo e c

/-- One row of the reference's merge. -/
def rowR (h x : Fin 1024 → EReal) (wg : Fin 1024 → Fin 4096 → EReal) (bg : Fin 4096 → EReal)
    (p : Fin 4 → Fin 1024 → EReal) (wo : Fin 1024 → Fin 1024 → EReal) (c : Fin 1024) : EReal :=
  h c + ∑ e, (((sig (garg x wg bg (gcol 0 e)) * p 0 e + sig (garg x wg bg (gcol 1 e)) * p 1 e)
    + sig (garg x wg bg (gcol 2 e)) * p 2 e) + sig (garg x wg bg (gcol 3 e)) * p 3 e) * wo e c

/-! ### Real values -/

theorem isReal_tanh (x : EReal) : IsReal (Ideal.tanh x) := by
  induction x with
  | bot => exact ⟨-1, by rw [Ideal.tanh_bot]; norm_num⟩
  | top => exact ⟨1, by rw [Ideal.tanh_top]; norm_num⟩
  | coe x => exact ⟨_, Ideal.tanh_coe x⟩

theorem isReal_one : IsReal 1 := ⟨1, by norm_num⟩

theorem isReal_sig (x : EReal) : IsReal (sig x) := by
  rw [← half_tanh, half_eq]
  exact IsReal.add ⟨_, rfl⟩ (IsReal.mul ⟨_, rfl⟩ (isReal_tanh _))

theorem isReal_gelu {x : EReal} (hx : IsReal x) : IsReal (gelu x) := by
  unfold gelu
  rw [half_eq]
  exact hx.mul (IsReal.mul ⟨_, rfl⟩ (isReal_one.add (isReal_tanh _)))

theorem isReal_glu {z : Fin 512 → EReal} (w : Fin 512 → Fin 512 → EReal) (hz : ∀ k, IsReal (z k)) (k : Fin 512) :
    IsReal (glu z w k) := (isReal_gelu (hz k)).mul (isReal_sig _)

theorem isReal_prod {b : Fin 512 → EReal} {w : Fin 512 → Fin 1024 → EReal} (hb : ∀ k, IsReal (b k))
    (hw : ∀ k e, IsReal (w k e)) (e : Fin 1024) : IsReal (prod b w e) := IsReal.sum _ fun k => (hb k).mul (hw k e)

/-! ### The two gates -/

/-- Half of everything in a gate's argument is half the argument. -/
theorem garg_half (x : Fin 1024 → EReal) (w : Fin 1024 → Fin 4096 → EReal) (b : Fin 4096 → EReal) (j : Fin 4096) :
    garg x (fun k j => Ideal.ofBits .f32 1056964608#32 * w k j) (fun j => Ideal.ofBits .f32 1056964608#32 * b j) j
      = Ideal.ofBits .f32 1056964608#32 * garg x w b j := by
  have h0 : (0 : ℝ) ≤ 1 / 2 := by norm_num
  unfold garg
  rw [half_eq, mul_comm _ (_ + _),
    EReal.right_distrib_of_nonneg_of_ne_top (EReal.coe_nonneg.mpr h0) (EReal.coe_ne_top _), sum_mul_coe _ _ h0]
  refine congrArg₂ (· + ·) (Finset.sum_congr rfl fun k _ => ?_) (mul_comm _ _)
  show x k * (((1 / 2 : ℝ) : EReal) * w k j) = x k * w k j * ((1 / 2 : ℝ) : EReal)
  rw [mul_comm _ (w k j), mul_assoc]

/-- A real value plus the hyperbolic tangent of half an argument times it is twice the logistic of the argument times it. -/
theorem gated (g : EReal) {p : EReal} (hp : IsReal p) :
    p + Ideal.tanh (Ideal.ofBits .f32 1056964608#32 * g) * p = ((2 : ℝ) : EReal) * (sig g * p) := by
  rw [← half_tanh]
  obtain ⟨t, ht⟩ := isReal_tanh (Ideal.ofBits .f32 1056964608#32 * g)
  obtain ⟨p, rfl⟩ := hp
  rw [ht, half_eq]
  simp only [← EReal.coe_mul, ← EReal.coe_add]
  congr 1
  ring

/-- Twice a value times half a weight is the value times the weight. -/
theorem two_half (s w : EReal) : ((2 : ℝ) : EReal) * s * (Ideal.ofBits .f32 1056964608#32 * w) = s * w := by
  have h : ((2 : ℝ) : EReal) * ((1 / 2 : ℝ) : EReal) = 1 := by rw [← EReal.coe_mul]; norm_num
  rw [half_eq, mul_mul_mul_comm, h, one_mul]

theorem two_add {a b : EReal} (ha : IsReal a) (hb : IsReal b) :
    ((2 : ℝ) : EReal) * a + ((2 : ℝ) : EReal) * b = ((2 : ℝ) : EReal) * (a + b) := by
  obtain ⟨a, rfl⟩ := ha
  obtain ⟨b, rfl⟩ := hb
  simp only [← EReal.coe_mul, ← EReal.coe_add]
  congr 1
  ring

/-- With the weights halved as the host halves them, the two merges agree on branches of real numbers. -/
theorem rowK_eq (h x : Fin 1024 → EReal) (wg : Fin 1024 → Fin 4096 → EReal) (bg : Fin 4096 → EReal)
    (p : Fin 4 → Fin 1024 → EReal) (wo : Fin 1024 → Fin 1024 → EReal) (hp : ∀ i e, IsReal (p i e)) (c : Fin 1024) :
    rowK h x (fun k j => Ideal.ofBits .f32 1056964608#32 * wg k j) (fun j => Ideal.ofBits .f32 1056964608#32 * bg j) p
      (fun e c => Ideal.ofBits .f32 1056964608#32 * wo e c) c = rowR h x wg bg p wo c := by
  unfold rowK rowR
  refine congrArg (h c + ·) (Finset.sum_congr rfl fun e _ => ?_)
  have hs : ∀ i, IsReal (sig (garg x wg bg (gcol i e)) * p i e) := fun i => (isReal_sig _).mul (hp i e)
  rw [garg_half, garg_half, garg_half, garg_half, gated _ (hp 0 e), gated _ (hp 1 e), gated _ (hp 2 e), gated _ (hp 3 e),
    two_add (hs 0) (hs 1), two_add ((hs 0).add (hs 1)) (hs 2), two_add (((hs 0).add (hs 1)).add (hs 2)) (hs 3), two_half]

end Cert.Proof.Merge

end
-- ==== Proof.MergePay.lean ====
/-
  The steps of a grid point of the gated merge, each read at an index: the scan's skip term, the first branch, a gate.
-/
module

public import proofs.«01_k».proof.Proof.Gen.Kernel5Ideal.Value
public import proofs.«01_k».proof.Proof.Merge

@[expose] public section

set_option maxRecDepth 16384

noncomputable section

namespace Cert.Proof.Merge

open Idealize.ShloMosaic Idealize.ShloMosaic.TcCoe Idealize.SL.Sem Cert.Proof.Math
open Cert.Kernel5Ideal Cert.Kernel5Ideal.Gen Cert.Kernel5Ideal.Value

theorem zero2 : (![0, 0] : Fin 2 → Nat) = fun _ => 0 := by funext a; fin_cases a <;> rfl

/-! ### The payloads, read at an index -/

/-- The scan's output plus the skip term, in the block's layout. -/
def zb (x2 x3 : Vec Ideal S4x32x2048 .bf16) (x9 : Vec Ideal S4x1x2048 .f32) (q : Fin 4) (b : Fin 32) (k : Fin 2048) : EReal :=
  x3 (ix3 q b k) + x9 (ix3 q 0 k) * x2 (ix3 q b k)

theorem skip_at (v0 : Vec Ideal S1x32x2048 .bf16) (v3 : Vec Ideal S1x1x2048 .f32) (v5 : Vec Ideal S1x32x2048 .bf16)
    (b : Fin 32) (k : Fin 2048) :
    k0_pay2 v0 v3 v5 (ix2 b k) = v0 (ix3 0 b k) + v3 (ix3 0 0 k) * v5 (ix3 0 b k) := by
  pointwise [k0_pay2]

/-- 128 columns of a matrix, as a part of one row block. -/
theorem slice_at (z : FVec Ideal S32x2048 .f32) (o : Nat) (hs) (b : Fin 32) (l : Fin 128) (k : Fin 2048)
    (hk : k.val = o + l.val) :
    shapeCast S1x32x128 (extractStridedSlice (α := EReal) S32x128 ![0, o] z hs) shapeCasts_S32x128_S1x32x128 (ix3 0 b l)
      = z (ix2 b k) := by
  pointwise
  exact congrArg (fun k => z (ix2 b k)) (Fin.ext hk.symm)

/-- The normalised rows of a block. -/
theorem norm_at (x : Vec Ideal S512x1024 .f32) (w : Vec Ideal S1x1024 .f32) (r : Fin 512) (k : Fin 1024) :
    k0_pay76 x w (ix2 r k) = rmsRow (fun j => x (ix2 r j)) (fun j => w (ix2 0 j)) k := by
  pointwise [k0_pay76]
  rfl

/-- Four parts of 128 columns side by side. -/
theorem cat_at (a b c d : FVec Ideal S512x128 .f32) (r : Fin 512) (z : Fin 512 → EReal)
    (ha : ∀ l : Fin 128, a (ix2 r l) = z ⟨l.val, by omega⟩) (hb : ∀ l : Fin 128, b (ix2 r l) = z ⟨128 + l.val, by omega⟩)
    (hc : ∀ l : Fin 128, c (ix2 r l) = z ⟨256 + l.val, by omega⟩) (hd : ∀ l : Fin 128, d (ix2 r l) = z ⟨384 + l.val, by omega⟩)
    (k : Fin 512) :
    concatenate S512x512 1 [⟨S512x128, a⟩, ⟨S512x128, b⟩, ⟨S512x128, c⟩, ⟨S512x128, d⟩]
      concatenates_S512x128_S512x128_S512x128_S512x128_S512x512_d1 (ix2 r k) = z k := by
  have key : ∀ (n : Nat) (hn : n < 4) (p : FVec Ideal S512x128 .f32) (pre : Nat)
      (_ : [(⟨S512x128, a⟩ : (s : Shape) × (s.Idx → EReal)), ⟨S512x128, b⟩, ⟨S512x128, c⟩, ⟨S512x128, d⟩][n] = ⟨S512x128, p⟩)
      (_ : pre = n * 128) (l : Fin 128) (_ : pre + l.val = k.val),
      concatenate S512x512 1 [⟨S512x128, a⟩, ⟨S512x128, b⟩, ⟨S512x128, c⟩, ⟨S512x128, d⟩]
        concatenates_S512x128_S512x128_S512x128_S512x128_S512x512_d1 (ix2 r k) = p (ix2 r l) := by
    intro n hn p pre hp hpre l hl
    refine concatenate_apply_piece (t := S512x512) 1 [⟨S512x128, a⟩, ⟨S512x128, b⟩, ⟨S512x128, c⟩, ⟨S512x128, d⟩] _ _ n
      hn S512x128 p hp rfl pre ?_ (ix2 r l) ?_ hl
    · subst hpre
      interval_cases n <;> rfl
    · intro b hb
      match b with
      | ⟨0, _⟩ => rfl
      | ⟨1, _⟩ => exact absurd rfl hb
  rcases lt_or_ge k.val 128 with h1 | h1
  · rw [key 0 (by decide) a 0 rfl rfl ⟨k.val, h1⟩ (Nat.zero_add _), ha]
  rcases lt_or_ge k.val 256 with h2 | h2
  · have e : 128 + (k.val - 128) = k.val := by omega
    rw [key 1 (by decide) b 128 rfl rfl ⟨k.val - 128, by omega⟩ e, hb]
    exact congrArg z (Fin.ext e)
  rcases lt_or_ge k.val 384 with h3 | h3
  · have e : 256 + (k.val - 256) = k.val := by omega
    rw [key 2 (by decide) c 256 rfl rfl ⟨k.val - 256, by omega⟩ e, hc]
    exact congrArg z (Fin.ext e)
  · have e : 384 + (k.val - 384) = k.val := by omega
    rw [key 3 (by decide) d 384 rfl rfl ⟨k.val - 384, by omega⟩ e, hd]
    exact congrArg z (Fin.ext e)

/-- The first branch's entries, its rows read from the four parts. -/
theorem glu_at (a b c d : Vec Ideal S1x512x128 .f32) (w : Vec Ideal S512x512 .bf16) (r : Fin 512) (z : Fin 512 → EReal)
    (ha : ∀ l : Fin 128, a (ix3 0 r l) = z ⟨l.val, by omega⟩) (hb : ∀ l : Fin 128, b (ix3 0 r l) = z ⟨128 + l.val, by omega⟩)
    (hc : ∀ l : Fin 128, c (ix3 0 r l) = z ⟨256 + l.val, by omega⟩) (hd : ∀ l : Fin 128, d (ix3 0 r l) = z ⟨384 + l.val, by omega⟩)
    (k : Fin 512) :
    k0_pay75 (k0_pay74 a) b c d w (ix2 r k) = glu z (fun j k => w (ix2 j k)) k := by
  have h := cat_at (k0_pay74 a) (shapeCast S512x128 b shapeCasts_S1x512x128_S512x128)
    (shapeCast S512x128 c shapeCasts_S1x512x128_S512x128) (shapeCast S512x128 d shapeCasts_S1x512x128_S512x128) r z
    (fun l => by pointwise [k0_pay74]; exact ha l) (fun l => by pointwise; exact hb l)
    (fun l => by pointwise; exact hc l) (fun l => by pointwise; exact hd l)
  unfold k0_pay75
  generalize concatenate S512x512 1 _ _ = Z at h ⊢
  pointwise
  simp only [h, half_tanh]
  rfl

/-- A gate's argument. -/
theorem gate_at (x : Vec Ideal S512x1024 .f32) (w : Vec Ideal S1x1024 .f32) (g : Vec Ideal S1024x1024 .bf16)
    (b : Vec Ideal S1x1024 .f32) (r : Fin 512) (e : Fin 1024) :
    k0_pay79 x w g b (ix2 r e)
      = ∑ k : Fin 1024, rmsRow (fun j => x (ix2 r j)) (fun j => w (ix2 0 j)) k * g (ix2 k e) + b (ix2 0 e) := by
  pointwise [k0_pay79, norm_at]

theorem gate0_at (x : Vec Ideal S512x1024 .f32) (w : Vec Ideal S1x1024 .f32) (g : Vec Ideal S1024x1024 .bf16)
    (b : Vec Ideal S1x1024 .f32) (r : Fin 512) (e : Fin 1024) :
    k0_pay77 x w g b (ix2 r e) = Ideal.tanh (∑ k : Fin 1024, rmsRow (fun j => x (ix2 r j)) (fun j => w (ix2 0 j)) k * g (ix2 k e) + b (ix2 0 e)) :=
  congrArg Ideal.tanh (gate_at x w g b r e)

theorem gate1_at (x : Vec Ideal S512x1024 .f32) (w : Vec Ideal S1x1024 .f32) (g : Vec Ideal S1024x1024 .bf16)
    (b : Vec Ideal S1x1024 .f32) (r : Fin 512) (e : Fin 1024) :
    k0_pay78 x w g b (ix2 r e) = Ideal.tanh (∑ k : Fin 1024, rmsRow (fun j => x (ix2 r j)) (fun j => w (ix2 0 j)) k * g (ix2 k e) + b (ix2 0 e)) :=
  congrArg Ideal.tanh (gate_at x w g b r e)

/-- Loads of one gate's weights, of one gate's biases and of one branch's weights, read at an index. -/
theorem ld_gate (x : Vec Ideal S1024x4096 .bf16) (n : Fin 4) (o : Nat) (ho : n.val * 1024 = o) (inb) (k e : Fin 1024) :
    View.ld x (Rect.unit (s := S1024x4096) ![0, o] ![1024, 1024] inb) (ix2 k e) = x (ix2 k (gcol n e)) := by
  subst ho
  refine congrArg x (funext fun a => Fin.ext ?_)
  match a with
  | ⟨0, _⟩ => show 0 + 1 * k.val = k.val; omega
  | ⟨1, _⟩ => show n.val * 1024 + 1 * e.val = n.val * 1024 + e.val; omega

theorem ld_bias (x : Vec Ideal S1x4096 .f32) (n : Fin 4) (o : Nat) (ho : n.val * 1024 = o) (inb) (e : Fin 1024) :
    View.ld x (Rect.unit (s := S1x4096) ![0, o] ![1, 1024] inb) (ix2 0 e) = x (ix2 0 (gcol n e)) := by
  subst ho
  refine congrArg x (funext fun a => Fin.ext ?_)
  match a with
  | ⟨0, _⟩ => rfl
  | ⟨1, _⟩ => show n.val * 1024 + 1 * e.val = n.val * 1024 + e.val; omega

theorem ld_branch (x : Vec Ideal S4x512x1024 .bf16) (n : Fin 4) (o : Nat) (ho : n.val = o) (inb) (k : Fin 512) (e : Fin 1024) :
    View.ld x (Rect.unit (s := S4x512x1024) ![o, 0, 0] ![1, 512, 1024] inb) (ix3 0 k e) = x (ix3 n k e) := by
  subst ho
  refine congrArg x (funext fun a => Fin.ext ?_)
  match a with
  | ⟨0, _⟩ => show n.val + 1 * 0 = n.val; omega
  | ⟨1, _⟩ => show 0 + 1 * k.val = k.val; omega
  | ⟨2, _⟩ => show 0 + 1 * e.val = e.val; omega

end Cert.Proof.Merge

end
-- ==== Proof.MergeKern.lean ====
/-
  What a grid point of the gated merge computes from its blocks. The scan's rows come sixteen to a row of the block: the
  point adds the skip term, writes them into a scratch buffer with row stride 16, and reads the buffer back a part at a
  time, so that its rows are the rows of the other branches.
-/
module

public import proofs.«01_k».proof.Proof.Gen.Kernel5Ideal.Value
public import proofs.«01_k».proof.Proof.MergePay

@[expose] public section

set_option maxRecDepth 16384

noncomputable section

namespace Cert.Proof.Merge

open Idealize.ShloMosaic Idealize.ShloMosaic.TcCoe Idealize.SL.Sem Cert.Proof.Math
open Cert.Kernel5Ideal Cert.Kernel5Ideal.Gen Cert.Kernel5Ideal.Value

/-! ### The scratch buffer -/

section Point
variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S4x32x2048 .bf16) (harg3 : arg3.IsWhole) (arg4 : Memref sig .tc .vmem S4x32x2048 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S1024x4096 .bf16) (harg8 : arg8.IsWhole) (arg9 : Memref sig .tc .vmem S1x4096 .f32) (harg9 : arg9.IsWhole) (arg10 : Memref sig .tc .vmem S4x1x2048 .f32) (harg10 : arg10.IsWhole) (arg11 : Memref sig .tc .vmem S512x512 .bf16) (harg11 : arg11.IsWhole) (arg12 : Memref sig .tc .vmem S4x512x1024 .bf16) (harg12 : arg12.IsWhole) (arg13 : Memref sig .tc .vmem S1024x1024 .bf16) (harg13 : arg13.IsWhole) (arg14 : Memref sig .tc .vmem S512x1024 .f32) (harg14 : arg14.IsWhole) (arg15 : Memref sig .tc .vmem S4x512x128 .f32) (harg15 : arg15.IsWhole)
    (x0 : Vec Ideal S512x1024 .f32) (x1 : Vec Ideal S1x1024 .f32) (x2 : Vec Ideal S4x32x2048 .bf16) (x3 : Vec Ideal S4x32x2048 .bf16) (x4 : Vec Ideal S512x512 .bf16) (x5 : Vec Ideal S512x512 .bf16) (x6 : Vec Ideal S512x512 .bf16) (x7 : Vec Ideal S1024x4096 .bf16) (x8 : Vec Ideal S1x4096 .f32) (x9 : Vec Ideal S4x1x2048 .f32) (x10 : Vec Ideal S512x512 .bf16) (x11 : Vec Ideal S4x512x1024 .bf16) (x12 : Vec Ideal S1024x1024 .bf16)

/-- What the scratch buffer holds when it is read: row `r` of part `q` is the piece of 128 columns `r % 16` of row
    `r / 16` of the block. -/
def scr : S4x512x128.Idx → EReal := fun y =>
  zb x2 x3 x9 (y 0) ⟨(y 1).val / 16, by have : (y 1).val < 512 := (y 1).isLt; omega⟩
    ⟨(y 1).val % 16 * 128 + (y 2).val, by have : (y 2).val < 128 := (y 2).isLt; omega⟩

/-- The block's skip sum, from the loads of part `q`. -/
def zq (q : Nat) (inb1 : ∀ a, (![q, 0, 0] : Fin 3 → Nat) a + S1x32x2048.size a ≤ S4x32x2048.size a)
    (inb2 : ∀ a, (![q, 0, 0] : Fin 3 → Nat) a + S1x1x2048.size a ≤ S4x1x2048.size a) : FVec Ideal S32x2048 .f32 :=
  k0_pay2 (F := Ideal) (View.readAt (Elt Ideal) arg4.view (Rect.unit (s := S4x32x2048) ![q, 0, 0] S1x32x2048.size inb1).toLoadRect (harg4.unread x3))
    (View.readAt (Elt Ideal) arg10.view (Rect.unit (s := S4x1x2048) ![q, 0, 0] S1x1x2048.size inb2).toLoadRect (harg10.unread x9))
    (View.readAt (Elt Ideal) arg3.view (Rect.unit (s := S4x32x2048) ![q, 0, 0] S1x32x2048.size inb1).toLoadRect (harg3.unread x2))

theorem zq_at (q : Fin 4) (inb1) (inb2) (b : Fin 32) (k : Fin 2048) :
    zq arg3 harg3 arg4 harg4 arg10 harg10 x2 x3 x9 q.val inb1 inb2 (ix2 b k) = zb x2 x3 x9 q b k := by
  unfold zq
  rw [skip_at]
  simp only [View.readAt_eq_ld, harg4.read_unread, harg10.read_unread, harg3.read_unread, View.ld]
  unfold zb
  refine congrArg₂ (· + ·) (congrArg x3 ?_) (congrArg₂ (· * ·) (congrArg x9 ?_) (congrArg x2 ?_)) <;>
  · funext a; apply Fin.ext
    match a with
    | ⟨0, _⟩ => show q.val + 1 * 0 = q.val; omega
    | ⟨1, _⟩ => first | (show 0 + 1 * b.val = b.val; omega) | rfl
    | ⟨2, _⟩ => show 0 + 1 * k.val = k.val; omega

/-- The rows of part `q` a store writes: every sixteenth from row `t` on. -/
abbrev strip (q t : Nat)
    (inb : ∀ a, S1x32x128.size a = 0 ∨ (![q, t, 0] : Fin 3 → Nat) a + (![1, 16, 1] : Fin 3 → Nat) a * (S1x32x128.size a - 1) < S4x512x128.size a)
    (pos : ∀ a, 0 < (![1, 16, 1] : Fin 3 → Nat) a) : Rect S4x512x128 :=
  { off := ![q, t, 0], size := S1x32x128.size, stride := ![1, 16, 1], inb := inb, stride_pos := pos }

/-- Such a store leaves `scr` under it. -/
theorem strip_at (q : Fin 4) (t : Nat) (ht : t < 16) (inb) (pos) (inb1) (inb2) (w : S1x32x128.Idx → EReal)
    (hw : ∀ (b : Fin 32) (l : Fin 128) (k : Fin 2048), k.val = t * 128 + l.val →
      w (ix3 0 b l) = zq arg3 harg3 arg4 harg4 arg10 harg10 x2 x3 x9 q.val inb1 inb2 (ix2 b k)) (x : S1x32x128.Idx) :
    w x = scr x2 x3 x9 ((strip q.val t inb pos).emb x) := by
  obtain ⟨b, l, rfl⟩ : ∃ (b : Fin 32) (l : Fin 128), x = ix3 0 b l := ⟨x 1, x 2, by idx_ext⟩
  rw [hw b l ⟨t * 128 + l.val, by omega⟩ rfl, zq_at]
  unfold scr
  have e0 : (strip q.val t inb pos).emb (ix3 0 b l) 0 = q := Fin.ext (show q.val + 1 * 0 = q.val by omega)
  have e1 : ((strip q.val t inb pos).emb (ix3 0 b l) 1).val = t + 16 * b.val := rfl
  have e2 : ((strip q.val t inb pos).emb (ix3 0 b l) 2).val = 0 + 1 * l.val := rfl
  rw [e0]
  refine congrArg₂ (zb x2 x3 x9 q) (Fin.ext ?_) (Fin.ext ?_)
  · show b.val = _ / 16
    rw [e1]; omega
  · show t * 128 + l.val = _ % 16 * 128 + _
    rw [e1, e2]; omega

/-- The same of a store of 128 columns of the block's skip sum. -/
theorem strip_slice (q : Fin 4) (t : Nat) (ht : t < 16) (inb) (pos) (inb1) (inb2) (o : Nat) (ho : o = t * 128) (hs) (x : S1x32x128.Idx) :
    shapeCast S1x32x128 (extractStridedSlice (α := EReal) S32x128 ![0, o] (zq arg3 harg3 arg4 harg4 arg10 harg10 x2 x3 x9 q.val inb1 inb2) hs)
      shapeCasts_S32x128_S1x32x128 x = scr x2 x3 x9 ((strip q.val t inb pos).emb x) :=
  strip_at arg3 harg3 arg4 harg4 arg10 harg10 x2 x3 x9 q t ht inb pos inb1 inb2 _ (fun b l k h => slice_at _ o hs b l k (ho ▸ h)) x

theorem strip_covers (q : Fin 4) (t : Fin 16) :
    ∃ p ∈ (kernelRun0_A.sl.HS0_64 (F := Ideal) c arg3 harg3 arg4 harg4 arg10 harg10 x2 x3 x9), ∃ inb pos, p.1 = strip q.val t.val inb pos := by
  refine ⟨(kernelRun0_A.sl.HS0_64 (F := Ideal) c arg3 harg3 arg4 harg4 arg10 harg10 x2 x3 x9)[63 - (q.val * 16 + t.val)]'(by show _ < 64; omega), List.getElem_mem _, ?_⟩
  fin_cases q <;> fin_cases t <;> exact ⟨_, _, rfl⟩

set_option maxHeartbeats 8000000 in
/-- The 64 stores leave `scr` everywhere. -/
theorem scratch (y : S4x512x128.Idx) : View.canon (kernelRun0_A.sl.HS0_64 (F := Ideal) c arg3 harg3 arg4 harg4 arg10 harg10 x2 x3 x9) y = scr x2 x3 x9 y := by
  refine View.canon_apply_of_pieces (Val := Elt Ideal) (e := .f32) (scr x2 x3 x9) _ ?_ y ?_
  · unfold kernelRun0_A.sl.HS0_64
    have s0 := fun t ht inb pos o ho hs => strip_slice arg3 harg3 arg4 harg4 arg10 harg10 x2 x3 x9 0 t ht inb pos inb_S4x32x2048_S1x32x2048_0_0_0 inb_S4x1x2048_S1x1x2048_0_0_0 o ho hs
    have s1 := fun t ht inb pos o ho hs => strip_slice arg3 harg3 arg4 harg4 arg10 harg10 x2 x3 x9 1 t ht inb pos inb_S4x32x2048_S1x32x2048_1_0_0 inb_S4x1x2048_S1x1x2048_1_0_0 o ho hs
    have s2 := fun t ht inb pos o ho hs => strip_slice arg3 harg3 arg4 harg4 arg10 harg10 x2 x3 x9 2 t ht inb pos inb_S4x32x2048_S1x32x2048_2_0_0 inb_S4x1x2048_S1x1x2048_2_0_0 o ho hs
    have s3 := fun t ht inb pos o ho hs => strip_slice arg3 harg3 arg4 harg4 arg10 harg10 x2 x3 x9 3 t ht inb pos inb_S4x32x2048_S1x32x2048_3_0_0 inb_S4x1x2048_S1x1x2048_3_0_0 o ho hs
    refine List.forall_mem_cons.2 ⟨s3 15 (by decide) _ _ 1920 rfl slices_S32x2048_o0_1920_S32x128, ?_⟩
    refine List.forall_mem_cons.2 ⟨s3 14 (by decide) _ _ 1792 rfl slices_S32x2048_o0_1792_S32x128, ?_⟩
    refine List.forall_mem_cons.2 ⟨s3 13 (by decide) _ _ 1664 rfl slices_S32x2048_o0_1664_S32x128, ?_⟩
    refine List.forall_mem_cons.2 ⟨s3 12 (by decide) _ _ 1536 rfl slices_S32x2048_o0_1536_S32x128, ?_⟩
    refine List.forall_mem_cons.2 ⟨s3 11 (by decide) _ _ 1408 rfl slices_S32x2048_o0_1408_S32x128, ?_⟩
    refine List.forall_mem_cons.2 ⟨s3 10 (by decide) _ _ 1280 rfl slices_S32x2048_o0_1280_S32x128, ?_⟩
    refine List.forall_mem_cons.2 ⟨s3 9 (by decide) _ _ 1152 rfl slices_S32x2048_o0_1152_S32x128, ?_⟩
    refine List.forall_mem_cons.2 ⟨s3 8 (by decide) _ _ 1024 rfl slices_S32x2048_o0_1024_S32x128, ?_⟩
    refine List.forall_mem_cons.2 ⟨s3 7 (by decide) _ _ 896 rfl slices_S32x2048_o0_896_S32x128, ?_⟩
    refine List.forall_mem_cons.2 ⟨s3 6 (by decide) _ _ 768 rfl slices_S32x2048_o0_768_S32x128, ?_⟩
    refine List.forall_mem_cons.2 ⟨s3 5 (by decide) _ _ 640 rfl slices_S32x2048_o0_640_S32x128, ?_⟩
    refine List.forall_mem_cons.2 ⟨s3 4 (by decide) _ _ 512 rfl slices_S32x2048_o0_512_S32x128, ?_⟩
    refine List.forall_mem_cons.2 ⟨s3 3 (by decide) _ _ 384 rfl slices_S32x2048_o0_384_S32x128, ?_⟩
    refine List.forall_mem_cons.2 ⟨s3 2 (by decide) _ _ 256 rfl slices_S32x2048_o0_256_S32x128, ?_⟩
    refine List.forall_mem_cons.2 ⟨s3 1 (by decide) _ _ 128 rfl slices_S32x2048_o0_128_S32x128, ?_⟩
    refine List.forall_mem_cons.2 ⟨s3 0 (by decide) _ _ 0 rfl slices_S32x2048_o0_0_S32x128, ?_⟩
    refine List.forall_mem_cons.2 ⟨s2 15 (by decide) _ _ 1920 rfl slices_S32x2048_o0_1920_S32x128, ?_⟩
    refine List.forall_mem_cons.2 ⟨s2 14 (by decide) _ _ 1792 rfl slices_S32x2048_o0_1792_S32x128, ?_⟩
    refine List.forall_mem_cons.2 ⟨s2 13 (by decide) _ _ 1664 rfl slices_S32x2048_o0_1664_S32x128, ?_⟩
    refine List.forall_mem_cons.2 ⟨s2 12 (by decide) _ _ 1536 rfl slices_S32x2048_o0_1536_S32x128, ?_⟩
    refine List.forall_mem_cons.2 ⟨s2 11 (by decide) _ _ 1408 rfl slices_S32x2048_o0_1408_S32x128, ?_⟩
    refine List.forall_mem_cons.2 ⟨s2 10 (by decide) _ _ 1280 rfl slices_S32x2048_o0_1280_S32x128, ?_⟩
    refine List.forall_mem_cons.2 ⟨s2 9 (by decide) _ _ 1152 rfl slices_S32x2048_o0_1152_S32x128, ?_⟩
    refine List.forall_mem_cons.2 ⟨s2 8 (by decide) _ _ 1024 rfl slices_S32x2048_o0_1024_S32x128, ?_⟩
    refine List.forall_mem_cons.2 ⟨s2 7 (by decide) _ _ 896 rfl slices_S32x2048_o0_896_S32x128, ?_⟩
    refine List.forall_mem_cons.2 ⟨s2 6 (by decide) _ _ 768 rfl slices_S32x2048_o0_768_S32x128, ?_⟩
    refine List.forall_mem_cons.2 ⟨s2 5 (by decide) _ _ 640 rfl slices_S32x2048_o0_640_S32x128, ?_⟩
    refine List.forall_mem_cons.2 ⟨s2 4 (by decide) _ _ 512 rfl slices_S32x2048_o0_512_S32x128, ?_⟩
    refine List.forall_mem_cons.2 ⟨s2 3 (by decide) _ _ 384 rfl slices_S32x2048_o0_384_S32x128, ?_⟩
    refine List.forall_mem_cons.2 ⟨s2 2 (by decide) _ _ 256 rfl slices_S32x2048_o0_256_S32x128, ?_⟩
    refine List.forall_mem_cons.2 ⟨s2 1 (by decide) _ _ 128 rfl slices_S32x2048_o0_128_S32x128, ?_⟩
    refine List.forall_mem_cons.2 ⟨s2 0 (by decide) _ _ 0 rfl slices_S32x2048_o0_0_S32x128, ?_⟩
    refine List.forall_mem_cons.2 ⟨s1 15 (by decide) _ _ 1920 rfl slices_S32x2048_o0_1920_S32x128, ?_⟩
    refine List.forall_mem_cons.2 ⟨s1 14 (by decide) _ _ 1792 rfl slices_S32x2048_o0_1792_S32x128, ?_⟩
    refine List.forall_mem_cons.2 ⟨s1 13 (by decide) _ _ 1664 rfl slices_S32x2048_o0_1664_S32x128, ?_⟩
    refine List.forall_mem_cons.2 ⟨s1 12 (by decide) _ _ 1536 rfl slices_S32x2048_o0_1536_S32x128, ?_⟩
    refine List.forall_mem_cons.2 ⟨s1 11 (by decide) _ _ 1408 rfl slices_S32x2048_o0_1408_S32x128, ?_⟩
    refine List.forall_mem_cons.2 ⟨s1 10 (by decide) _ _ 1280 rfl slices_S32x2048_o0_1280_S32x128, ?_⟩
    refine List.forall_mem_cons.2 ⟨s1 9 (by decide) _ _ 1152 rfl slices_S32x2048_o0_1152_S32x128, ?_⟩
    refine List.forall_mem_cons.2 ⟨s1 8 (by decide) _ _ 1024 rfl slices_S32x2048_o0_1024_S32x128, ?_⟩
    refine List.forall_mem_cons.2 ⟨s1 7 (by decide) _ _ 896 rfl slices_S32x2048_o0_896_S32x128, ?_⟩
    refine List.forall_mem_cons.2 ⟨s1 6 (by decide) _ _ 768 rfl slices_S32x2048_o0_768_S32x128, ?_⟩
    refine List.forall_mem_cons.2 ⟨s1 5 (by decide) _ _ 640 rfl slices_S32x2048_o0_640_S32x128, ?_⟩
    refine List.forall_mem_cons.2 ⟨s1 4 (by decide) _ _ 512 rfl slices_S32x2048_o0_512_S32x128, ?_⟩
    refine List.forall_mem_cons.2 ⟨s1 3 (by decide) _ _ 384 rfl slices_S32x2048_o0_384_S32x128, ?_⟩
    refine List.forall_mem_cons.2 ⟨s1 2 (by decide) _ _ 256 rfl slices_S32x2048_o0_256_S32x128, ?_⟩
    refine List.forall_mem_cons.2 ⟨s1 1 (by decide) _ _ 128 rfl slices_S32x2048_o0_128_S32x128, ?_⟩
    refine List.forall_mem_cons.2 ⟨s1 0 (by decide) _ _ 0 rfl slices_S32x2048_o0_0_S32x128, ?_⟩
    refine List.forall_mem_cons.2 ⟨s0 15 (by decide) _ _ 1920 rfl slices_S32x2048_o0_1920_S32x128, ?_⟩
    refine List.forall_mem_cons.2 ⟨s0 14 (by decide) _ _ 1792 rfl slices_S32x2048_o0_1792_S32x128, ?_⟩
    refine List.forall_mem_cons.2 ⟨s0 13 (by decide) _ _ 1664 rfl slices_S32x2048_o0_1664_S32x128, ?_⟩
    refine List.forall_mem_cons.2 ⟨s0 12 (by decide) _ _ 1536 rfl slices_S32x2048_o0_1536_S32x128, ?_⟩
    refine List.forall_mem_cons.2 ⟨s0 11 (by decide) _ _ 1408 rfl slices_S32x2048_o0_1408_S32x128, ?_⟩
    refine List.forall_mem_cons.2 ⟨s0 10 (by decide) _ _ 1280 rfl slices_S32x2048_o0_1280_S32x128, ?_⟩
    refine List.forall_mem_cons.2 ⟨s0 9 (by decide) _ _ 1152 rfl slices_S32x2048_o0_1152_S32x128, ?_⟩
    refine List.forall_mem_cons.2 ⟨s0 8 (by decide) _ _ 1024 rfl slices_S32x2048_o0_1024_S32x128, ?_⟩
    refine List.forall_mem_cons.2 ⟨s0 7 (by decide) _ _ 896 rfl slices_S32x2048_o0_896_S32x128, ?_⟩
    refine List.forall_mem_cons.2 ⟨s0 6 (by decide) _ _ 768 rfl slices_S32x2048_o0_768_S32x128, ?_⟩
    refine List.forall_mem_cons.2 ⟨s0 5 (by decide) _ _ 640 rfl slices_S32x2048_o0_640_S32x128, ?_⟩
    refine List.forall_mem_cons.2 ⟨s0 4 (by decide) _ _ 512 rfl slices_S32x2048_o0_512_S32x128, ?_⟩
    refine List.forall_mem_cons.2 ⟨s0 3 (by decide) _ _ 384 rfl slices_S32x2048_o0_384_S32x128, ?_⟩
    refine List.forall_mem_cons.2 ⟨s0 2 (by decide) _ _ 256 rfl slices_S32x2048_o0_256_S32x128, ?_⟩
    refine List.forall_mem_cons.2 ⟨s0 1 (by decide) _ _ 128 rfl slices_S32x2048_o0_128_S32x128, ?_⟩
    refine List.forall_mem_cons.2 ⟨s0 0 (by decide) _ _ 0 rfl slices_S32x2048_o0_0_S32x128, ?_⟩
    exact List.forall_mem_nil _
  · obtain ⟨q, r, l, rfl⟩ : ∃ (q : Fin 4) (r : Fin 512) (l : Fin 128), y = ix3 q r l := ⟨y 0, y 1, y 2, by idx_ext⟩
    obtain ⟨p, hp, inb, pos, e⟩ := strip_covers c arg3 harg3 arg4 harg4 arg10 harg10 x2 x3 x9 q ⟨r.val % 16, by omega⟩
    refine ⟨p, hp, ?_⟩
    rw [e]
    have h := (strip q.val (r.val % 16) inb pos).idx_mem (ix3 0 (⟨r.val / 16, by omega⟩ : Fin 32) l)
    have ee : (strip q.val (r.val % 16) inb pos).idx (ix3 0 (⟨r.val / 16, by omega⟩ : Fin 32) l) = ix3 q r l := by
      funext a; apply Fin.ext
      match a with
      | ⟨0, _⟩ => show q.val + 1 * 0 = q.val; omega
      | ⟨1, _⟩ => show r.val % 16 + 16 * (r.val / 16) = r.val; omega
      | ⟨2, _⟩ => show 0 + 1 * l.val = l.val; omega
    rwa [ee] at h

/-- A part of the scratch buffer, read back. -/
theorem part_at (q : Fin 4) (inb) (r : Fin 512) (l : Fin 128) :
    arg15.view.readCov (kernelRun0_A.sl.HS0_64 (F := Ideal) c arg3 harg3 arg4 harg4 arg10 harg10 x2 x3 x9)
      (Rect.unit (s := S4x512x128) ![q.val, 0, 0] S1x512x128.size inb).toLoadRect (ix3 0 r l) = scr x2 x3 x9 (ix3 q r l) := by
  rw [View.readCov_eq_canon']
  refine (scratch c arg3 harg3 arg4 harg4 arg10 harg10 x2 x3 x9 _).trans (congrArg (scr x2 x3 x9) ?_)
  funext a; apply Fin.ext
  match a with
  | ⟨0, _⟩ => show q.val + 1 * 0 = q.val; omega
  | ⟨1, _⟩ => show 0 + 1 * r.val = r.val; omega
  | ⟨2, _⟩ => show 0 + 1 * l.val = l.val; omega

/-- Row `r` of the first branch's input, its 512 columns from the four parts. -/
def zrow (r : Fin 512) (k : Fin 512) : EReal :=
  scr x2 x3 x9 (ix3 (⟨k.val / 128, by omega⟩ : Fin 4) r (⟨k.val % 128, by omega⟩ : Fin 128))

/-- The four branches' products of a block. -/
def bprods (r : Fin 512) (n : Fin 4) : Fin 1024 → EReal :=
  match n with
  | 0 => prod (glu (zrow x2 x3 x9 r) (fun j k => x10 (ix2 j k))) (fun k e => x11 (ix3 0 k e))
  | 1 => prod (fun k => x4 (ix2 r k)) (fun k e => x11 (ix3 1 k e))
  | 2 => prod (fun k => x5 (ix2 r k)) (fun k e => x11 (ix3 2 k e))
  | 3 => prod (fun k => x6 (ix2 r k)) (fun k e => x11 (ix3 3 k e))

/-- The first branch's entries. -/
theorem branch0_at (r k : Fin 512) :
    kernelRun0_A.sl.r_13 (F := Ideal) c arg3 harg3 arg4 harg4 arg10 harg10 arg11 harg11 arg15 x2 x3 x9 x10 (ix2 r k)
      = glu (zrow x2 x3 x9 r) (fun j k => x10 (ix2 j k)) k := by
  unfold kernelRun0_A.sl.r_13 kernelRun0_A.sl.r_12
  rw [glu_at _ _ _ _ _ r (zrow x2 x3 x9 r)]
  · simp only [View.readAt_eq_ld, harg11.read_unread]
    rw [View.ld_unit_zero (S := S512x512) zero2]
  · intro l
    refine (part_at c arg3 harg3 arg4 harg4 arg10 harg10 arg15 x2 x3 x9 0 _ r l).trans (congrArg (scr x2 x3 x9) ?_)
    funext a; apply Fin.ext
    match a with
    | ⟨0, _⟩ => show 0 = l.val / 128; omega
    | ⟨1, _⟩ => rfl
    | ⟨2, _⟩ => show l.val = l.val % 128; omega
  · intro l
    refine (part_at c arg3 harg3 arg4 harg4 arg10 harg10 arg15 x2 x3 x9 1 _ r l).trans (congrArg (scr x2 x3 x9) ?_)
    funext a; apply Fin.ext
    match a with
    | ⟨0, _⟩ => show 1 = (128 + l.val) / 128; omega
    | ⟨1, _⟩ => rfl
    | ⟨2, _⟩ => show l.val = (128 + l.val) % 128; omega
  · intro l
    refine (part_at c arg3 harg3 arg4 harg4 arg10 harg10 arg15 x2 x3 x9 2 _ r l).trans (congrArg (scr x2 x3 x9) ?_)
    funext a; apply Fin.ext
    match a with
    | ⟨0, _⟩ => show 2 = (256 + l.val) / 128; omega
    | ⟨1, _⟩ => rfl
    | ⟨2, _⟩ => show l.val = (256 + l.val) % 128; omega
  · intro l
    refine (part_at c arg3 harg3 arg4 harg4 arg10 harg10 arg15 x2 x3 x9 3 _ r l).trans (congrArg (scr x2 x3 x9) ?_)
    funext a; apply Fin.ext
    match a with
    | ⟨0, _⟩ => show 3 = (384 + l.val) / 128; omega
    | ⟨1, _⟩ => rfl
    | ⟨2, _⟩ => show l.val = (384 + l.val) % 128; omega

set_option maxHeartbeats 8000000 in
/-- What a grid point computes from its blocks, read at an index. -/
theorem out_at (r : Fin 512) (j : Fin 1024) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 (ix2 r j)
      = rowK (fun k => x0 (ix2 r k)) (rmsRow (fun k => x0 (ix2 r k)) (fun k => x1 (ix2 0 k))) (fun k e => x7 (ix2 k e))
          (fun e => x8 (ix2 0 e)) (bprods x2 x3 x4 x5 x6 x9 x10 x11 r) (fun e d => x12 (ix2 e d)) j := by
  unfold out0_A_13
  rw [View.read_writes_junk_eq_canon]
  unfold kernelRun0_A
  dsimp only
  rw [View.canon_unit_zero zero2]
  unfold kernelRun0_A.sl.r_22
  pointwise [k0_pay1, k0_pay80, branch0_at, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21,
    gate_at, gate0_at, gate1_at, norm_at]
  simp only [View.readAt_eq_ld, harg1.read_unread, harg2.read_unread, harg5.read_unread, harg6.read_unread, harg7.read_unread, harg8.read_unread, harg9.read_unread, harg12.read_unread, harg13.read_unread]
  rw [View.ld_unit_zero (S := S512x1024) zero2, View.ld_unit_zero (S := S1x1024) zero2, View.ld_unit_zero (S := S1024x1024) zero2]
  rw [View.ld_unit_zero (S := S512x512) zero2, View.ld_unit_zero (S := S512x512) zero2, View.ld_unit_zero (S := S512x512) zero2]
  simp only [ld_gate x7 0 0 rfl, ld_gate x7 1 1024 rfl, ld_gate x7 2 2048 rfl, ld_gate x7 3 3072 rfl,
    ld_bias x8 0 0 rfl, ld_bias x8 1 1024 rfl, ld_bias x8 2 2048 rfl, ld_bias x8 3 3072 rfl, ld_branch x11 0 0 rfl,
    ld_branch x11 1 1 rfl, ld_branch x11 2 2 rfl, ld_branch x11 3 3 rfl]
  rfl

end Point

end Cert.Proof.Merge

end
-- ==== Proof.MergeAll.lean ====
/-
  The gated merge of whole arrays, row by row: `all` as the kernel computes it, its gate and output weights halved, and
  `allR` as the reference does. The two agree when the branches' entries are real numbers.
-/
module

public import proofs.«01_k».proof.Proof.Merge

@[expose] public section

noncomputable section

namespace Cert.Proof.Merge

open Idealize.ShloMosaic Cert.Proof.Math

section Branches
variable (u ys : Vec Ideal ⟨3, ![4, 1024, 2048]⟩ .bf16) (d : Vec Ideal ⟨2, ![32, 16]⟩ .f32)

/-- Entry `k` of row `r` of the scan's output plus the skip term. The scan's arrays hold row `r` as the sixteenth
    `r % 16` of row `r / 16`, its columns in four parts of 128. -/
def skip (r : Fin 16384) (k : Fin 512) : EReal :=
  ys (ix3 (⟨k.val / 128, by omega⟩ : Fin 4) (⟨r.val / 16, by omega⟩ : Fin 1024) (⟨r.val % 16 * 128 + k.val % 128, by omega⟩ : Fin 2048))
    + d (ix2 (⟨k.val / 16, by omega⟩ : Fin 32) (⟨k.val % 16, by omega⟩ : Fin 16))
      * u (ix3 (⟨k.val / 128, by omega⟩ : Fin 4) (⟨r.val / 16, by omega⟩ : Fin 1024) (⟨r.val % 16 * 128 + k.val % 128, by omega⟩ : Fin 2048))

variable (b1 b2 b3 : Vec Ideal ⟨2, ![16384, 512]⟩ .bf16) (wglu : Vec Ideal ⟨2, ![512, 512]⟩ .f32)
  (wb : Vec Ideal ⟨3, ![4, 512, 1024]⟩ .f32)

/-- Row `r` of the four branches, each times its weights. -/
def prods (r : Fin 16384) (n : Fin 4) : Fin 1024 → EReal :=
  match n with
  | 0 => prod (glu (skip u ys d r) (fun j k => wglu (ix2 j k))) (fun k e => wb (ix3 0 k e))
  | 1 => prod (fun k => b1 (ix2 r k)) (fun k e => wb (ix3 1 k e))
  | 2 => prod (fun k => b2 (ix2 r k)) (fun k e => wb (ix3 2 k e))
  | 3 => prod (fun k => b3 (ix2 r k)) (fun k e => wb (ix3 3 k e))

theorem isReal_prods (hu : ∀ i, IsReal (u i)) (hy : ∀ i, IsReal (ys i)) (hd : ∀ i, IsReal (d i)) (h1 : ∀ i, IsReal (b1 i))
    (h2 : ∀ i, IsReal (b2 i)) (h3 : ∀ i, IsReal (b3 i)) (hw : ∀ i, IsReal (wb i)) (r : Fin 16384) (n : Fin 4) (e : Fin 1024) :
    IsReal (prods u ys d b1 b2 b3 wglu wb r n e) :=
  match n with
  | 0 => isReal_prod (isReal_glu _ fun _ => (hy _).add ((hd _).mul (hu _))) (fun _ _ => hw _) e
  | 1 => isReal_prod (fun _ => h1 _) (fun _ _ => hw _) e
  | 2 => isReal_prod (fun _ => h2 _) (fun _ _ => hw _) e
  | 3 => isReal_prod (fun _ => h3 _) (fun _ _ => hw _) e

end Branches

variable (h : Vec Ideal ⟨2, ![16384, 1024]⟩ .f32) (nw : Vec Ideal ⟨1, ![1024]⟩ .f32)
  (u ys : Vec Ideal ⟨3, ![4, 1024, 2048]⟩ .bf16) (b1 b2 b3 : Vec Ideal ⟨2, ![16384, 512]⟩ .bf16)
  (w : Vec Ideal ⟨2, ![1024, 8968]⟩ .f32) (bg : Vec Ideal ⟨1, ![4096]⟩ .f32) (d : Vec Ideal ⟨2, ![32, 16]⟩ .f32)
  (wglu : Vec Ideal ⟨2, ![512, 512]⟩ .f32) (wb : Vec Ideal ⟨3, ![4, 512, 1024]⟩ .f32)
  (wo : Vec Ideal ⟨2, ![1024, 1024]⟩ .f32)

/-- The gates' section of the input weights. -/
def gateW (k : Fin 1024) (j : Fin 4096) : EReal := w (ix2 k (⟨4872 + j.val, by omega⟩ : Fin 8968))

def all : Vec Ideal ⟨2, ![16384, 1024]⟩ .f32 := fun i =>
  rowK (fun k => h (ix2 (i 0) k)) (rmsRow (fun k => h (ix2 (i 0) k)) (fun k => nw (ix1 k)))
    (fun k j => Ideal.ofBits .f32 1056964608#32 * gateW w k j) (fun j => Ideal.ofBits .f32 1056964608#32 * bg (ix1 j))
    (prods u ys d b1 b2 b3 wglu wb (i 0)) (fun e c => Ideal.ofBits .f32 1056964608#32 * wo (ix2 e c)) (i 1)

def allR : Vec Ideal ⟨2, ![16384, 1024]⟩ .f32 := fun i =>
  rowR (fun k => h (ix2 (i 0) k)) (rmsRow (fun k => h (ix2 (i 0) k)) (fun k => nw (ix1 k)))
    (gateW w) (fun j => bg (ix1 j)) (prods u ys d b1 b2 b3 wglu wb (i 0)) (fun e c => wo (ix2 e c)) (i 1)

theorem all_eq (hu : ∀ i, IsReal (u i)) (hy : ∀ i, IsReal (ys i)) (h1 : ∀ i, IsReal (b1 i)) (h2 : ∀ i, IsReal (b2 i))
    (h3 : ∀ i, IsReal (b3 i)) (hd : ∀ i, IsReal (d i)) (hw : ∀ i, IsReal (wb i)) :
    all h nw u ys b1 b2 b3 w bg d wglu wb wo = allR h nw u ys b1 b2 b3 w bg d wglu wb wo := by
  funext i
  exact rowK_eq _ _ _ _ _ _ (isReal_prods u ys d b1 b2 b3 wglu wb hu hy hd h1 h2 h3 hw (i 0)) (i 1)

end Cert.Proof.Merge

end
-- ==== Proof.MergeValue.lean ====
/-
  The value of the gated merge's call: each grid point takes 512 rows and writes back its rows of `all`; the 32 points write
  the whole array.
-/
module

public import proofs.«01_k».proof.Proof.MergeKern
public import proofs.«01_k».proof.Proof.MergeAll

@[expose] public section

set_option maxRecDepth 16384

noncomputable section

namespace Cert.Proof.Merge

open Idealize.ShloMosaic Idealize.ShloMosaic.TcCoe Idealize.SL.Sem Cert.Proof.Math
open Cert.Kernel5Ideal Cert.Kernel5Ideal.Gen Cert.Kernel5Ideal.Value

variable (m : (ℓ : Loc nD τ sig) → Buf (Elt Ideal) ℓ) (ρ : Dev nD → PrngReg)

/-- Which block of its array each window takes at a grid point: the rows move, everything else is taken whole. -/
theorem idx : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 3) = 0 ∧ win0_2.index t (1 : Fin 3) = t.val ∧ win0_2.index t (2 : Fin 3) = 0)
    ∧ (win0_3.index t (0 : Fin 3) = 0 ∧ win0_3.index t (1 : Fin 3) = t.val ∧ win0_3.index t (2 : Fin 3) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 3) = 0 ∧ win0_9.index t (1 : Fin 3) = 0 ∧ win0_9.index t (2 : Fin 3) = 0)
    ∧ (win0_10.index t (0 : Fin 2) = 0 ∧ win0_10.index t (1 : Fin 2) = 0)
    ∧ (win0_11.index t (0 : Fin 3) = 0 ∧ win0_11.index t (1 : Fin 3) = 0 ∧ win0_11.index t (2 : Fin 3) = 0)
    ∧ (win0_12.index t (0 : Fin 2) = 0 ∧ win0_12.index t (1 : Fin 2) = 0)
    ∧ (win0_13.index t (0 : Fin 2) = t.val ∧ win0_13.index t (1 : Fin 2) = 0) := by decide +kernel

theorem lt32 : ∀ t : Fin cfg0.N, t.val < 32 := by decide +kernel

/-- Row `r` of block `t`, as a row of the array. -/
def rowOf (t : Fin cfg0.N) (r : Fin 512) : Fin 16384 := ⟨t.val * 512 + r.val, by have := lt32 t; omega⟩

/-- Row `b` of a block of the scan's arrays. -/
def foldOf (t : Fin cfg0.N) (b : Fin 32) : Fin 1024 := ⟨t.val * 32 + b.val, by have := lt32 t; omega⟩

theorem emb0 (t : Fin cfg0.N) (r : Fin 512) (k : Fin 1024) :
    ((cfg0.win 0).blk t).view.emb (ix2 r k) = ix2 (rowOf t r) k := by
  obtain ⟨⟨e0, e1⟩, -⟩ := idx t
  funext a; apply Fin.ext
  match a with
  | ⟨0, _⟩ => show win0_0.index t (0 : Fin 2) * 512 + 1 * r.val = t.val * 512 + r.val; omega
  | ⟨1, _⟩ => show win0_0.index t (1 : Fin 2) * 1024 + 1 * k.val = k.val; omega

theorem emb1 (t : Fin cfg0.N) (j : S1x1024.Idx) : ((cfg0.win 1).blk t).view.emb j = j := by
  obtain ⟨-, ⟨e0, e1⟩, -⟩ := idx t
  funext a; apply Fin.ext
  match a with
  | ⟨0, _⟩ => show win0_1.index t (0 : Fin 2) * 1 + 1 * (j 0).val = (j 0).val; omega
  | ⟨1, _⟩ => show win0_1.index t (1 : Fin 2) * 1024 + 1 * (j 1).val = (j 1).val; omega

theorem emb2 (t : Fin cfg0.N) (q : Fin 4) (b : Fin 32) (k : Fin 2048) :
    ((cfg0.win 2).blk t).view.emb (ix3 q b k) = ix3 q (foldOf t b) k := by
  obtain ⟨-, -, ⟨e0, e1, e2⟩, -⟩ := idx t
  funext a; apply Fin.ext
  match a with
  | ⟨0, _⟩ => show win0_2.index t (0 : Fin 3) * 4 + 1 * q.val = q.val; omega
  | ⟨1, _⟩ => show win0_2.index t (1 : Fin 3) * 32 + 1 * b.val = t.val * 32 + b.val; omega
  | ⟨2, _⟩ => show win0_2.index t (2 : Fin 3) * 2048 + 1 * k.val = k.val; omega

theorem emb3 (t : Fin cfg0.N) (q : Fin 4) (b : Fin 32) (k : Fin 2048) :
    ((cfg0.win 3).blk t).view.emb (ix3 q b k) = ix3 q (foldOf t b) k := by
  obtain ⟨-, -, -, ⟨e0, e1, e2⟩, -⟩ := idx t
  funext a; apply Fin.ext
  match a with
  | ⟨0, _⟩ => show win0_3.index t (0 : Fin 3) * 4 + 1 * q.val = q.val; omega
  | ⟨1, _⟩ => show win0_3.index t (1 : Fin 3) * 32 + 1 * b.val = t.val * 32 + b.val; omega
  | ⟨2, _⟩ => show win0_3.index t (2 : Fin 3) * 2048 + 1 * k.val = k.val; omega

theorem emb4 (t : Fin cfg0.N) (r : Fin 512) (k : Fin 512) :
    ((cfg0.win 4).blk t).view.emb (ix2 r k) = ix2 (rowOf t r) k := by
  obtain ⟨-, -, -, -, ⟨e0, e1⟩, -⟩ := idx t
  funext a; apply Fin.ext
  match a with
  | ⟨0, _⟩ => show win0_4.index t (0 : Fin 2) * 512 + 1 * r.val = t.val * 512 + r.val; omega
  | ⟨1, _⟩ => show win0_4.index t (1 : Fin 2) * 512 + 1 * k.val = k.val; omega

theorem emb5 (t : Fin cfg0.N) (r : Fin 512) (k : Fin 512) :
    ((cfg0.win 5).blk t).view.emb (ix2 r k) = ix2 (rowOf t r) k := by
  obtain ⟨-, -, -, -, -, ⟨e0, e1⟩, -⟩ := idx t
  funext a; apply Fin.ext
  match a with
  | ⟨0, _⟩ => show win0_5.index t (0 : Fin 2) * 512 + 1 * r.val = t.val * 512 + r.val; omega
  | ⟨1, _⟩ => show win0_5.index t (1 : Fin 2) * 512 + 1 * k.val = k.val; omega

theorem emb6 (t : Fin cfg0.N) (r : Fin 512) (k : Fin 512) :
    ((cfg0.win 6).blk t).view.emb (ix2 r k) = ix2 (rowOf t r) k := by
  obtain ⟨-, -, -, -, -, -, ⟨e0, e1⟩, -⟩ := idx t
  funext a; apply Fin.ext
  match a with
  | ⟨0, _⟩ => show win0_6.index t (0 : Fin 2) * 512 + 1 * r.val = t.val * 512 + r.val; omega
  | ⟨1, _⟩ => show win0_6.index t (1 : Fin 2) * 512 + 1 * k.val = k.val; omega

theorem emb7 (t : Fin cfg0.N) (j : S1024x4096.Idx) : ((cfg0.win 7).blk t).view.emb j = j := by
  obtain ⟨-, -, -, -, -, -, -, ⟨e0, e1⟩, -⟩ := idx t
  funext a; apply Fin.ext
  match a with
  | ⟨0, _⟩ => show win0_7.index t (0 : Fin 2) * 1024 + 1 * (j 0).val = (j 0).val; omega
  | ⟨1, _⟩ => show win0_7.index t (1 : Fin 2) * 4096 + 1 * (j 1).val = (j 1).val; omega

theorem emb8 (t : Fin cfg0.N) (j : S1x4096.Idx) : ((cfg0.win 8).blk t).view.emb j = j := by
  obtain ⟨-, -, -, -, -, -, -, -, ⟨e0, e1⟩, -⟩ := idx t
  funext a; apply Fin.ext
  match a with
  | ⟨0, _⟩ => show win0_8.index t (0 : Fin 2) * 1 + 1 * (j 0).val = (j 0).val; omega
  | ⟨1, _⟩ => show win0_8.index t (1 : Fin 2) * 4096 + 1 * (j 1).val = (j 1).val; omega

theorem emb9 (t : Fin cfg0.N) (j : S4x1x2048.Idx) : ((cfg0.win 9).blk t).view.emb j = j := by
  obtain ⟨-, -, -, -, -, -, -, -, -, ⟨e0, e1, e2⟩, -⟩ := idx t
  funext a; apply Fin.ext
  match a with
  | ⟨0, _⟩ => show win0_9.index t (0 : Fin 3) * 4 + 1 * (j 0).val = (j 0).val; omega
  | ⟨1, _⟩ => show win0_9.index t (1 : Fin 3) * 1 + 1 * (j 1).val = (j 1).val; omega
  | ⟨2, _⟩ => show win0_9.index t (2 : Fin 3) * 2048 + 1 * (j 2).val = (j 2).val; omega

theorem emb10 (t : Fin cfg0.N) (j : S512x512.Idx) : ((cfg0.win 10).blk t).view.emb j = j := by
  obtain ⟨-, -, -, -, -, -, -, -, -, -, ⟨e0, e1⟩, -⟩ := idx t
  funext a; apply Fin.ext
  match a with
  | ⟨0, _⟩ => show win0_10.index t (0 : Fin 2) * 512 + 1 * (j 0).val = (j 0).val; omega
  | ⟨1, _⟩ => show win0_10.index t (1 : Fin 2) * 512 + 1 * (j 1).val = (j 1).val; omega

theorem emb11 (t : Fin cfg0.N) (j : S4x512x1024.Idx) : ((cfg0.win 11).blk t).view.emb j = j := by
  obtain ⟨-, -, -, -, -, -, -, -, -, -, -, ⟨e0, e1, e2⟩, -⟩ := idx t
  funext a; apply Fin.ext
  match a with
  | ⟨0, _⟩ => show win0_11.index t (0 : Fin 3) * 4 + 1 * (j 0).val = (j 0).val; omega
  | ⟨1, _⟩ => show win0_11.index t (1 : Fin 3) * 512 + 1 * (j 1).val = (j 1).val; omega
  | ⟨2, _⟩ => show win0_11.index t (2 : Fin 3) * 1024 + 1 * (j 2).val = (j 2).val; omega

theorem emb12 (t : Fin cfg0.N) (j : S1024x1024.Idx) : ((cfg0.win 12).blk t).view.emb j = j := by
  obtain ⟨-, -, -, -, -, -, -, -, -, -, -, -, ⟨e0, e1⟩, -⟩ := idx t
  funext a; apply Fin.ext
  match a with
  | ⟨0, _⟩ => show win0_12.index t (0 : Fin 2) * 1024 + 1 * (j 0).val = (j 0).val; omega
  | ⟨1, _⟩ => show win0_12.index t (1 : Fin 2) * 1024 + 1 * (j 1).val = (j 1).val; omega

theorem emb13 (t : Fin cfg0.N) (r : Fin 512) (k : Fin 1024) :
    ((cfg0.win 13).blk t).view.emb (ix2 r k) = ix2 (rowOf t r) k := by
  obtain ⟨-, -, -, -, -, -, -, -, -, -, -, -, -, ⟨e0, e1⟩⟩ := idx t
  funext a; apply Fin.ext
  match a with
  | ⟨0, _⟩ => show win0_13.index t (0 : Fin 2) * 512 + 1 * r.val = t.val * 512 + r.val; omega
  | ⟨1, _⟩ => show win0_13.index t (1 : Fin 2) * 1024 + 1 * k.val = k.val; omega

/-- The arrays the host prepares: vectors as matrices of one row, the gates' section cut out, gate and output weights halved,
    the skip weights repeated for the sixteen rows of a block row, matrices rounded. -/
theorem V_main_v21 (c : Dev nD) : V m c main_v21 = shapeCast _ (m ((c : Thread nD τ).loc main_arg1)) shapeCasts_S1024_S1x1024 := rfl
theorem V_main_v14 (c : Dev nD) : V m c main_v14 = truncf (F := Ideal) (s := S1024x4096) .bf16
    (mulf (broadcastInDim S1024x4096 ![] bcast_S_S1024x4096 (constant (F := Ideal) S_ .f32 0x3F000000#32))
      (extractStridedSlice S1024x4096 ![0, 4872] (m ((c : Thread nD τ).loc main_arg7)) slices_S1024x8968_S1024x4096_0_4872)) bitsLt_bf16_f32 := rfl
theorem V_main_v24 (c : Dev nD) : V m c main_v24 =
    mulf (broadcastInDim S1x4096 ![] bcast_S_S1x4096 (constant (F := Ideal) S_ .f32 0x3F000000#32))
      (shapeCast _ (m ((c : Thread nD τ).loc main_arg8)) shapeCasts_S4096_S1x4096) := rfl
theorem V_main_v20 (c : Dev nD) : V m c main_v20 = shapeCast _
    (broadcastInDim S1x4x1x1x16x128 ![0, 1, 2, 3, 4, 5] bcast_S1x4x1x1x1x128_S1x4x1x1x16x128_0_1_2_3_4_5
      (shapeCast _ (shapeCast _ (m ((c : Thread nD τ).loc main_arg9)) shapeCasts_S32x16_S4x1x128) shapeCasts_S4x1x128_S1x4x1x1x1x128))
    shapeCasts_S1x4x1x1x16x128_S4x1x2048 := rfl
theorem V_main_v25 (c : Dev nD) :
    V m c main_v25 = truncf (F := Ideal) (s := S512x512) .bf16 (m ((c : Thread nD τ).loc main_arg10)) bitsLt_bf16_f32 := rfl
theorem V_main_v26 (c : Dev nD) :
    V m c main_v26 = truncf (F := Ideal) (s := S4x512x1024) .bf16 (m ((c : Thread nD τ).loc main_arg11)) bitsLt_bf16_f32 := rfl
theorem V_main_v29 (c : Dev nD) : V m c main_v29 = truncf (F := Ideal) (s := S1024x1024) .bf16
    (mulf (broadcastInDim S1024x1024 ![] bcast_S_S1024x1024 (constant (F := Ideal) S_ .f32 0x3F000000#32)) (m ((c : Thread nD τ).loc main_arg12)))
    bitsLt_bf16_f32 := rfl

/-- The skip weights as the kernel is given them: column `k` of part `q` is entry `q * 128 + k % 128`, sixteen to a row. -/
theorem skipW_at (c : Dev nD) (q : Fin 4) (k : Fin 2048) :
    (V m c main_v20 : Vec Ideal S4x1x2048 .f32) (ix3 q 0 k)
      = m ((c : Thread nD τ).loc main_arg9) (ix2 (⟨(q.val * 128 + k.val % 128) / 16, by omega⟩ : Fin 32) (⟨k.val % 16, by omega⟩ : Fin 16)) := by
  rw [V_main_v20]
  rw [shapeCast_apply _ _ _ (ix6 (0 : Fin 1) q (0 : Fin 1) (0 : Fin 1) (⟨k.val / 128, by omega⟩ : Fin 16) (⟨k.val % 128, by omega⟩ : Fin 128))
    (by rw [Shape.rowMajor_val_six, Shape.rowMajor_val_three]
        show (((((0 * 4 + q.val) * 1 + 0) * 1 + 0) * 16 + k.val / 128) * 128 + k.val % 128) = (q.val * 1 + 0) * 2048 + k.val
        omega)]
  rw [broadcastInDim_apply _ _ _ _ (ix6 (0 : Fin 1) q (0 : Fin 1) (0 : Fin 1) (0 : Fin 1) (⟨k.val % 128, by omega⟩ : Fin 128))
    (fun a => by match a with | ⟨0, _⟩ => rfl | ⟨1, _⟩ => rfl | ⟨2, _⟩ => rfl | ⟨3, _⟩ => rfl | ⟨4, _⟩ => rfl | ⟨5, _⟩ => rfl)]
  rw [shapeCast_apply _ _ _ (ix3 q (0 : Fin 1) (⟨k.val % 128, by omega⟩ : Fin 128))
    (by rw [Shape.rowMajor_val_six, Shape.rowMajor_val_three]
        show (q.val * 1 + 0) * 128 + k.val % 128 = (((((0 * 4 + q.val) * 1 + 0) * 1 + 0) * 1 + 0) * 128 + k.val % 128)
        omega)]
  rw [shapeCast_apply _ _ _ (ix2 (⟨(q.val * 128 + k.val % 128) / 16, by omega⟩ : Fin 32) (⟨k.val % 16, by omega⟩ : Fin 16))
    (by rw [Shape.rowMajor_val_two, Shape.rowMajor_val_three]
        show (q.val * 128 + k.val % 128) / 16 * 16 + k.val % 16 = (q.val * 1 + 0) * 128 + k.val % 128
        omega)]

/-- Each window's block, read at an index of the argument it comes from. -/
theorem iblk0_at (c : Dev nD) (t : Fin cfg0.N) (r : Fin 512) (k : Fin 1024) :
    (iblk m c 0 t : Vec Ideal S512x1024 .f32) (ix2 r k) = m ((c : Thread nD τ).loc main_arg0) (ix2 (rowOf t r) k) := by
  show V m c main_arg0 (((cfg0.win 0).blk t).view.emb (ix2 r k)) = _
  rw [emb0, V_main_arg0]

theorem iblk4_at (c : Dev nD) (t : Fin cfg0.N) (r : Fin 512) (k : Fin 512) :
    (iblk m c 4 t : Vec Ideal S512x512 .bf16) (ix2 r k) = m ((c : Thread nD τ).loc main_arg4) (ix2 (rowOf t r) k) := by
  show V m c main_arg4 (((cfg0.win 4).blk t).view.emb (ix2 r k)) = _
  rw [emb4, V_main_arg4]

theorem iblk5_at (c : Dev nD) (t : Fin cfg0.N) (r : Fin 512) (k : Fin 512) :
    (iblk m c 5 t : Vec Ideal S512x512 .bf16) (ix2 r k) = m ((c : Thread nD τ).loc main_arg5) (ix2 (rowOf t r) k) := by
  show V m c main_arg5 (((cfg0.win 5).blk t).view.emb (ix2 r k)) = _
  rw [emb5, V_main_arg5]

theorem iblk6_at (c : Dev nD) (t : Fin cfg0.N) (r : Fin 512) (k : Fin 512) :
    (iblk m c 6 t : Vec Ideal S512x512 .bf16) (ix2 r k) = m ((c : Thread nD τ).loc main_arg6) (ix2 (rowOf t r) k) := by
  show V m c main_arg6 (((cfg0.win 6).blk t).view.emb (ix2 r k)) = _
  rw [emb6, V_main_arg6]

theorem iblk2_at (c : Dev nD) (t : Fin cfg0.N) (q : Fin 4) (b : Fin 32) (k : Fin 2048) :
    (iblk m c 2 t : Vec Ideal S4x32x2048 .bf16) (ix3 q b k) = m ((c : Thread nD τ).loc main_arg2) (ix3 q (foldOf t b) k) := by
  show V m c main_arg2 (((cfg0.win 2).blk t).view.emb (ix3 q b k)) = _
  rw [emb2, V_main_arg2]

theorem iblk3_at (c : Dev nD) (t : Fin cfg0.N) (q : Fin 4) (b : Fin 32) (k : Fin 2048) :
    (iblk m c 3 t : Vec Ideal S4x32x2048 .bf16) (ix3 q b k) = m ((c : Thread nD τ).loc main_arg3) (ix3 q (foldOf t b) k) := by
  show V m c main_arg3 (((cfg0.win 3).blk t).view.emb (ix3 q b k)) = _
  rw [emb3, V_main_arg3]

theorem iblk1_at (c : Dev nD) (t : Fin cfg0.N) (k : Fin 1024) :
    (iblk m c 1 t : Vec Ideal S1x1024 .f32) (ix2 0 k) = m ((c : Thread nD τ).loc main_arg1) (ix1 k) := by
  show V m c main_v21 (((cfg0.win 1).blk t).view.emb (ix2 0 k)) = _
  rw [emb1, V_main_v21]
  pointwise

theorem iblk7_at (c : Dev nD) (t : Fin cfg0.N) (k : Fin 1024) (j : Fin 4096) :
    (iblk m c 7 t : Vec Ideal S1024x4096 .bf16) (ix2 k j)
      = Ideal.ofBits .f32 1056964608#32 * gateW (m ((c : Thread nD τ).loc main_arg7)) k j := by
  show V m c main_v14 (((cfg0.win 7).blk t).view.emb (ix2 k j)) = _
  rw [emb7, V_main_v14]
  pointwise
  rfl

theorem iblk8_at (c : Dev nD) (t : Fin cfg0.N) (j : Fin 4096) :
    (iblk m c 8 t : Vec Ideal S1x4096 .f32) (ix2 0 j) = Ideal.ofBits .f32 1056964608#32 * m ((c : Thread nD τ).loc main_arg8) (ix1 j) := by
  show V m c main_v24 (((cfg0.win 8).blk t).view.emb (ix2 0 j)) = _
  rw [emb8, V_main_v24]
  exact congrArg (fun a : EReal => Ideal.ofBits .f32 1056964608#32 * a)
    (shapeCast_apply (m ((c : Thread nD τ).loc main_arg8)) shapeCasts_S4096_S1x4096 (ix2 0 j) (ix1 j)
      ((Shape.rowMajor_val_one (ix1 j : S4096.Idx)).trans ((show j.val = 0 * 4096 + j.val by omega).trans
        (Shape.rowMajor_val_two (ix2 0 j : S1x4096.Idx)).symm)))

theorem iblk9_at (c : Dev nD) (t : Fin cfg0.N) (q : Fin 4) (k : Fin 2048) :
    (iblk m c 9 t : Vec Ideal S4x1x2048 .f32) (ix3 q 0 k)
      = m ((c : Thread nD τ).loc main_arg9) (ix2 (⟨(q.val * 128 + k.val % 128) / 16, by omega⟩ : Fin 32) (⟨k.val % 16, by omega⟩ : Fin 16)) := by
  show V m c main_v20 (((cfg0.win 9).blk t).view.emb (ix3 q 0 k)) = _
  rw [emb9, skipW_at]

theorem iblk10_at (c : Dev nD) (t : Fin cfg0.N) (j : S512x512.Idx) :
    (iblk m c 10 t : Vec Ideal S512x512 .bf16) j = m ((c : Thread nD τ).loc main_arg10) j := by
  show V m c main_v25 (((cfg0.win 10).blk t).view.emb j) = _
  rw [emb10, V_main_v25]
  rfl

theorem iblk11_at (c : Dev nD) (t : Fin cfg0.N) (j : S4x512x1024.Idx) :
    (iblk m c 11 t : Vec Ideal S4x512x1024 .bf16) j = m ((c : Thread nD τ).loc main_arg11) j := by
  show V m c main_v26 (((cfg0.win 11).blk t).view.emb j) = _
  rw [emb11, V_main_v26]
  rfl

theorem iblk12_at (c : Dev nD) (t : Fin cfg0.N) (k : Fin 1024) (j : Fin 1024) :
    (iblk m c 12 t : Vec Ideal S1024x1024 .bf16) (ix2 k j) = Ideal.ofBits .f32 1056964608#32 * m ((c : Thread nD τ).loc main_arg12) (ix2 k j) := by
  show V m c main_v29 (((cfg0.win 12).blk t).view.emb (ix2 k j)) = _
  rw [emb12, V_main_v29]
  pointwise

/-- A block's scan output with the skip term added, and its four branches, are those of its rows of the arrays. -/
theorem zrow_eq (c : Dev nD) (t : Fin cfg0.N) (r k : Fin 512) :
    zrow (iblk m c 2 t) (iblk m c 3 t) (iblk m c 9 t) r k
      = skip (m ((c : Thread nD τ).loc main_arg2)) (m ((c : Thread nD τ).loc main_arg3)) (m ((c : Thread nD τ).loc main_arg9)) (rowOf t r) k := by
  have ht := lt32 t
  have e1 : ∀ h g, foldOf t ⟨r.val / 16, h⟩ = ⟨(rowOf t r).val / 16, g⟩ := fun h g => Fin.ext (by
    show t.val * 32 + r.val / 16 = (t.val * 512 + r.val) / 16; omega)
  have e2 : ∀ h g, (⟨r.val % 16 * 128 + k.val % 128, h⟩ : Fin 2048) = ⟨(rowOf t r).val % 16 * 128 + k.val % 128, g⟩ := fun h g => Fin.ext (by
    show r.val % 16 * 128 + k.val % 128 = (t.val * 512 + r.val) % 16 * 128 + k.val % 128; omega)
  refine congrArg₂ (fun a b : EReal => a + b) ((iblk3_at m c t _ _ _).trans (congrArg _ ?_))
    (congrArg₂ (fun a b : EReal => a * b) ((iblk9_at m c t _ _).trans (congrArg _ ?_)) ((iblk2_at m c t _ _ _).trans (congrArg _ ?_)))
  · exact congrArg₂ (ix3 _) (e1 _ _) (e2 _ _)
  · refine congrArg₂ ix2 (Fin.ext ?_) (Fin.ext ?_)
    · show (k.val / 128 * 128 + (r.val % 16 * 128 + k.val % 128) % 128) / 16 = k.val / 16; omega
    · show (r.val % 16 * 128 + k.val % 128) % 16 = k.val % 16; omega
  · exact congrArg₂ (ix3 _) (e1 _ _) (e2 _ _)

theorem bprods_eq (c : Dev nD) (t : Fin cfg0.N) (r : Fin 512) :
    bprods (iblk m c 2 t) (iblk m c 3 t) (iblk m c 4 t) (iblk m c 5 t) (iblk m c 6 t) (iblk m c 9 t) (iblk m c 10 t) (iblk m c 11 t) r
      = prods (m ((c : Thread nD τ).loc main_arg2)) (m ((c : Thread nD τ).loc main_arg3)) (m ((c : Thread nD τ).loc main_arg9)) (m ((c : Thread nD τ).loc main_arg4)) (m ((c : Thread nD τ).loc main_arg5))
          (m ((c : Thread nD τ).loc main_arg6)) (m ((c : Thread nD τ).loc main_arg10)) (m ((c : Thread nD τ).loc main_arg11)) (rowOf t r) := by
  funext n
  match n with
  | 0 =>
    show prod (glu (zrow (iblk m c 2 t) (iblk m c 3 t) (iblk m c 9 t) r) _) _ = prod _ _
    rw [show zrow (iblk m c 2 t) (iblk m c 3 t) (iblk m c 9 t) r = _ from funext fun k => zrow_eq m c t r k]
    simp only [iblk10_at, iblk11_at]
  | 1 => show prod (fun k => (iblk m c 4 t : Vec Ideal S512x512 .bf16) (ix2 r k)) _ = prod _ _; simp only [iblk4_at, iblk11_at]
  | 2 => show prod (fun k => (iblk m c 5 t : Vec Ideal S512x512 .bf16) (ix2 r k)) _ = prod _ _; simp only [iblk5_at, iblk11_at]
  | 3 => show prod (fun k => (iblk m c 6 t : Vec Ideal S512x512 .bf16) (ix2 r k)) _ = prod _ _; simp only [iblk6_at, iblk11_at]

/-- `all` of the launched arguments. -/
abbrev Gm (c : Dev nD) : Vec Ideal S16384x1024 .f32 :=
  all (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-- A grid point writes back its rows of `all`. -/
theorem flushed_eq (c : Dev nD) (t : Fin cfg0.N) :
    (dats m 0 c).flushed 13 t = ((cfg0.win 13).blk t).view.read (Elt Ideal) (Gm m c) := by
  rw [flushed13_A]
  funext j
  obtain ⟨r, k, rfl⟩ : ∃ (r : Fin 512) (k : Fin 1024), j = ix2 r k := ⟨j 0, j 1, by idx_ext⟩
  refine (out_at _ _ _ _ _ _ _ _ _ _ _ _ _ _ _ _ _ _ _ _ _ _ _ _ _ _ _ _ _ _ _ _ _ _ _ _ _ _ _ _ _ _ _ _ _ r k).trans ?_
  refine Eq.trans ?_ (congrArg (Gm m c) (emb13 t r k)).symm
  rw [bprods_eq]
  simp only [iblk0_at, iblk1_at, iblk7_at, iblk8_at, iblk12_at]
  rfl

theorem covered (i : S16384x1024.Idx) :
    ∃ t : Fin cfg0.N, (cfg0.win 13).flush t = true ∧ i ∈ ((cfg0.win 13).blk t).view.set := by
  obtain ⟨r, k, rfl⟩ : ∃ (r : Fin 16384) (k : Fin 1024), i = ix2 r k := ⟨i 0, i 1, by idx_ext⟩
  have hN : cfg0.grid.N = 32 := by decide +kernel
  refine ⟨⟨r.val / 512, by change _ < cfg0.grid.N; rw [hN]; omega⟩, flush0_13 _, ?_⟩
  have h := ((cfg0.win 13).blk ⟨r.val / 512, by change _ < cfg0.grid.N; rw [hN]; omega⟩).view.emb_mem_set (ix2 ⟨r.val % 512, by omega⟩ k)
  rw [emb13] at h
  have e : rowOf ⟨r.val / 512, by change _ < cfg0.grid.N; rw [hN]; omega⟩ ⟨r.val % 512, by omega⟩ = r := Fin.ext (by
    show r.val / 512 * 512 + r.val % 512 = r.val; omega)
  rwa [e] at h

theorem final (c : Dev nD) : (dats m 0 c).arrAt 13 cfg0.N = Gm m c :=
  (dats m 0 c).arrAt_eq_of_cover 13 (Gm m c) (fun t _ => flushed_eq m c t) covered

/-- The kernel's run, its result named. -/
theorem run : θ_run defs (onTc (τ := τ) (main (F := Ideal))) ⟨m, fun _ => 0, ρ⟩ fun r => ∀ c : Dev nD,
      r.2.mem ((c : Thread nD τ).loc main_v30) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final m c), (h c).2⟩) (run_blocks m ρ)

end Cert.Proof.Merge

end
-- ==== Proof.MergeRef.lean ====
/-
  The reference of the gated merge, step by step: it is `allR` of its arguments.
-/
module

public import proofs.«01_k».proof.Proof.Gen.Reference5Ideal.Run
public import proofs.«01_k».proof.Proof.Gen.Reference5Ideal.Read
public import proofs.«01_k».proof.Proof.MergeAll

@[expose] public section

set_option maxRecDepth 16384

noncomputable section

namespace Cert.Proof.Merge

open Idealize.ShloMosaic Idealize.ShloMosaic.TcCoe Cert.Proof.Math
open Cert.Reference5Ideal Cert.Reference5Ideal.Gen Cert.Reference5Ideal.Read

variable (x0 : Vec Ideal S16384x1024 .f32) (x1 : Vec Ideal S1024 .f32) (x2 x3 : Vec Ideal S4x1024x2048 .bf16)
  (x4 x5 x6 : Vec Ideal S16384x512 .bf16) (x7 : Vec Ideal S1024x8968 .f32) (x8 : Vec Ideal S4096 .f32)
  (x9 : Vec Ideal S32x16 .f32) (x10 : Vec Ideal S512x512 .f32) (x11 : Vec Ideal S4x512x1024 .f32)
  (x12 : Vec Ideal S1024x1024 .f32)

/-- The entry of the scan's layout that entry `k` of row `r` is read from. -/
theorem unfold_idx (r k : Nat) (hr : r < 16384) (hk : k < 512) :
    (r * 512 + k) / 8192 = r / 16 ∧ (r * 512 + k) / 512 % 16 = r % 16 ∧ (r * 512 + k) / 128 % 4 = k / 128
      ∧ (r * 512 + k) % 128 = k % 128 := by
  omega

theorem fold_idx (q b s c : Nat) (hq : q < 4) (hb : b < 1024) (hs : s < 16) (hc : c < 128) :
    (((q * 1024 + b) * 16 + s) * 128 + c) / 2097152 = q ∧ (((q * 1024 + b) * 16 + s) * 128 + c) / 2048 % 1024 = b
      ∧ (((q * 1024 + b) * 16 + s) * 128 + c) % 2048 = s * 128 + c := by
  omega

theorem scan_idx (r : Fin 16384) (k : Fin 512) :
    idx_main_v1 (idx_main_v2 (idx_main_v3 (ix2 r k)))
      = ix3 (⟨k.val / 128, by omega⟩ : Fin 4) (⟨r.val / 16, by omega⟩ : Fin 1024) (⟨r.val % 16 * 128 + k.val % 128, by omega⟩ : Fin 2048) := by
  obtain ⟨h1, h2, h3, h4⟩ := unfold_idx r.val k.val r.2 k.2
  obtain ⟨g1, g2, g3⟩ := fold_idx (k.val / 128) (r.val / 16) (r.val % 16) (k.val % 128) (by omega) (by omega) (by omega) (by omega)
  funext a; apply Fin.ext
  match a with
  | ⟨0, _⟩ => dsimp [idx_main_v1, idx_main_v2, idx_main_v3, ix2, ix3]; rw [h1, h2, h3, h4, g1]
  | ⟨1, _⟩ => dsimp [idx_main_v1, idx_main_v2, idx_main_v3, ix2, ix3]; rw [h1, h2, h3, h4, g2]
  | ⟨2, _⟩ => dsimp [idx_main_v1, idx_main_v2, idx_main_v3, ix2, ix3]; rw [h1, h2, h3, h4, g3]

/-- The scan's output plus the skip term. -/
theorem ref_skip (r : Fin 16384) (k : Fin 512) : val_main_v12 (F := Ideal) x2 x3 x9 (ix2 r k) = skip x2 x3 x9 r k := by
  rw [val_main_v12_apply, val_main_v11_apply, val_main_v10_apply, val_main_v9_apply, val_main_v8_apply,
    val_main_v7_apply, val_main_v6_apply, val_main_v5_apply, val_main_v4_apply, val_main_v3_apply, val_main_v2_apply, val_main_v1_apply,
    val_main_v0_apply]
  refine congrArg₂ (fun a b : EReal => a + b) (congrArg x3 (scan_idx r k))
    (congrArg₂ (fun a b : EReal => a * b) (congrArg x9 ?_) (congrArg x2 (scan_idx r k)))
  funext a; match a with | ⟨0, _⟩ => rfl | ⟨1, _⟩ => rfl

theorem gelu_eq (x : EReal) :
    x * (Ideal.ofBits .f32 1056964608#32
      * (1 + Ideal.tanh (Ideal.ofBits .f32 1061962282#32 * (x + Ideal.ofBits .f32 1027024659#32 * (x * x * x))))) = gelu x := by
  rw [gelu, mul_comm (x * x) x]

/-- The gelu of it. -/
theorem ref_gelu (r : Fin 16384) (k : Fin 512) : val_main_v25 (F := Ideal) x2 x3 x9 (ix2 r k) = gelu (skip x2 x3 x9 r k) := by
  rw [← gelu_eq, ← ref_skip]
  pointwise [val_main_v25, val_main_v24, val_main_v23, val_main_v22, val_main_v21, val_main_v20, val_main_v19, val_main_v18,
    val_main_v17, val_main_v16, val_main_v15, val_main_v14, val_main_v13, val_main_cst, val_main_cst_0, val_main_cst_1, val_main_cst_2]

/-- The first branch. -/
theorem ref_glu (r : Fin 16384) (k : Fin 512) : val_main_v33 (F := Ideal) x2 x3 x9 x10 (ix2 r k)
    = glu (skip x2 x3 x9 r) (fun j k => x10 (ix2 j k)) k := by
  pointwise [val_main_v33, val_main_v32, val_main_v31, val_main_v30, val_main_v29, val_main_v28, val_main_v27, val_main_v26,
    val_main_cst_3, val_main_cst_4, ref_gelu]
  rfl

/-- The gates. -/
theorem ref_gate (r : Fin 16384) (j : Fin 4096) : val_main_v60 (F := Ideal) x0 x1 x7 x8 (ix2 r j)
    = sig (garg (rmsRow (fun k => x0 (ix2 r k)) (fun k => x1 (ix1 k))) (gateW x7) (fun j => x8 (ix1 j)) j) := by
  pointwise [val_main_v60, val_main_v59, val_main_v58, val_main_v57, val_main_v56, val_main_v55, val_main_v54, val_main_v53,
    val_main_v52, val_main_v51, val_main_v50, val_main_v49, val_main_v48, val_main_v47, val_main_v46, val_main_v45, val_main_v44,
    val_main_v43, val_main_v42, val_main_v41, val_main_v40, val_main_v39, val_main_v38, val_main_v37, val_main_cst_5,
    val_main_cst_6, val_main_cst_7, val_main_cst_8, val_main_cst_9]
  rfl

theorem gate0 (r : Fin 16384) (e : Fin 1024) : val_main_v63 (F := Ideal) x0 x1 x7 x8 (ix2 r e)
    = val_main_v60 (F := Ideal) x0 x1 x7 x8 (ix2 r (gcol 0 e)) := by
  rw [val_main_v63_apply, val_main_v62_apply, val_main_v61_apply]
  refine congrArg (val_main_v60 (F := Ideal) x0 x1 x7 x8) (funext fun a => Fin.ext ?_)
  match a with
  | ⟨0, _⟩ => dsimp [idx_main_v63, idx_main_v62, idx_main_v61, ix2, ix3]; omega
  | ⟨1, _⟩ => dsimp [idx_main_v63, idx_main_v62, idx_main_v61, gcol, ix2, ix3]; omega

theorem gate1 (r : Fin 16384) (e : Fin 1024) : val_main_v69 (F := Ideal) x0 x1 x7 x8 (ix2 r e)
    = val_main_v60 (F := Ideal) x0 x1 x7 x8 (ix2 r (gcol 1 e)) := by
  rw [val_main_v69_apply, val_main_v68_apply, val_main_v61_apply]
  refine congrArg (val_main_v60 (F := Ideal) x0 x1 x7 x8) (funext fun a => Fin.ext ?_)
  match a with
  | ⟨0, _⟩ => dsimp [idx_main_v69, idx_main_v68, idx_main_v61, ix2, ix3]; omega
  | ⟨1, _⟩ => dsimp [idx_main_v69, idx_main_v68, idx_main_v61, gcol, ix2, ix3]; omega

theorem gate2 (r : Fin 16384) (e : Fin 1024) : val_main_v76 (F := Ideal) x0 x1 x7 x8 (ix2 r e)
    = val_main_v60 (F := Ideal) x0 x1 x7 x8 (ix2 r (gcol 2 e)) := by
  rw [val_main_v76_apply, val_main_v75_apply, val_main_v61_apply]
  refine congrArg (val_main_v60 (F := Ideal) x0 x1 x7 x8) (funext fun a => Fin.ext ?_)
  match a with
  | ⟨0, _⟩ => dsimp [idx_main_v76, idx_main_v75, idx_main_v61, ix2, ix3]; omega
  | ⟨1, _⟩ => dsimp [idx_main_v76, idx_main_v75, idx_main_v61, gcol, ix2, ix3]; omega

theorem gate3 (r : Fin 16384) (e : Fin 1024) : val_main_v83 (F := Ideal) x0 x1 x7 x8 (ix2 r e)
    = val_main_v60 (F := Ideal) x0 x1 x7 x8 (ix2 r (gcol 3 e)) := by
  rw [val_main_v83_apply, val_main_v82_apply, val_main_v61_apply]
  refine congrArg (val_main_v60 (F := Ideal) x0 x1 x7 x8) (funext fun a => Fin.ext ?_)
  match a with
  | ⟨0, _⟩ => dsimp [idx_main_v83, idx_main_v82, idx_main_v61, ix2, ix3]; omega
  | ⟨1, _⟩ => dsimp [idx_main_v83, idx_main_v82, idx_main_v61, gcol, ix2, ix3]; omega

/-- The branches' products. -/
theorem prod0 (r : Fin 16384) (e : Fin 1024) : val_main_v66 (F := Ideal) x2 x3 x9 x10 x11 (ix2 r e)
    = prods x2 x3 x9 x4 x5 x6 x10 x11 r 0 e := by
  pointwise [val_main_v66, val_main_v65, val_main_v64, ref_glu]
  rfl

theorem prod1 (r : Fin 16384) (e : Fin 1024) : val_main_v72 (F := Ideal) x4 x11 (ix2 r e)
    = prods x2 x3 x9 x4 x5 x6 x10 x11 r 1 e := by
  pointwise [val_main_v72, val_main_v71, val_main_v70, val_main_v34]
  rfl

theorem prod2 (r : Fin 16384) (e : Fin 1024) : val_main_v79 (F := Ideal) x5 x11 (ix2 r e)
    = prods x2 x3 x9 x4 x5 x6 x10 x11 r 2 e := by
  pointwise [val_main_v79, val_main_v78, val_main_v77, val_main_v35]
  rfl

theorem prod3 (r : Fin 16384) (e : Fin 1024) : val_main_v86 (F := Ideal) x6 x11 (ix2 r e)
    = prods x2 x3 x9 x4 x5 x6 x10 x11 r 3 e := by
  pointwise [val_main_v86, val_main_v85, val_main_v84, val_main_v36]
  rfl

/-- The reference's result. -/
theorem ref_eq : val_main_v90 (F := Ideal) x0 x1 x2 x3 x4 x5 x6 x7 x8 x9 x10 x11 x12
    = allR x0 x1 x2 x3 x4 x5 x6 x7 x8 x9 x10 x11 x12 := by
  funext i
  obtain ⟨r, k, rfl⟩ : ∃ (r : Fin 16384) (k : Fin 1024), i = ix2 r k := ⟨i 0, i 1, by idx_ext⟩
  pointwise [val_main_v90, val_main_v89, val_main_v88, val_main_v87, val_main_v81, val_main_v80, val_main_v74, val_main_v73,
    val_main_v67, gate0, gate1, gate2, gate3, prod0 x2 x3 x4 x5 x6 x9 x10 x11, prod1 x2 x3 x4 x5 x6 x9 x10 x11,
    prod2 x2 x3 x4 x5 x6 x9 x10 x11, prod3 x2 x3 x4 x5 x6 x9 x10 x11, ref_gate]
  rfl

end Cert.Proof.Merge

end
-- ==== Proof.MergeAlgebra.lean ====
/-
  The algebraic claim of the gated merge, under the precondition that the branches and their weights are finite.
-/
module

public import proofs.«01_k».proof.Defs
public import proofs.«01_k».proof.Proof.MergeValue
public import proofs.«01_k».proof.Proof.MergeRef
public import proofs.«01_k».proof.Proof.Algebra
public import proofs.«01_k».proof.Proof.Gen.Pre_finite_branches

@[expose] public section

set_option maxRecDepth 16384

noncomputable section

namespace Cert.Proof.Merge

open Idealize.ShloMosaic Idealize.ShloMosaic.TcCoe Idealize.SL.Sem Cert.Proof.Math

instance : Subsingleton Cert.Pre_finite_branches.S_.Idx := ⟨fun a b => funext fun i => i.elim0⟩

open Cert.Pre_finite_branches in
/-- What the precondition says of the seven arrays. -/
theorem finite_of_pre (x0 : Vec Ideal S16384x1024 .f32) (x1 : Vec Ideal S1024 .f32) (x2 x3 : Vec Ideal S4x1024x2048 .bf16)
    (x4 x5 x6 : Vec Ideal S16384x512 .bf16) (x7 : Vec Ideal S1024x8968 .f32) (x8 : Vec Ideal S4096 .f32)
    (x9 : Vec Ideal S32x16 .f32) (x10 : Vec Ideal S512x512 .f32) (x11 : Vec Ideal S4x512x1024 .f32)
    (x12 : Vec Ideal S1024x1024 .f32)
    (h : Cert.Pre_finite_branches.fn (F := Ideal) x0 x1 x2 x3 x4 x5 x6 x7 x8 x9 x10 x11 x12 = fun _ => 1#1) :
    (∀ i, IsReal (x2 i)) ∧ (∀ i, IsReal (x3 i)) ∧ (∀ i, IsReal (x4 i)) ∧ (∀ i, IsReal (x5 i)) ∧ (∀ i, IsReal (x6 i))
      ∧ (∀ i, IsReal (x9 i)) ∧ ∀ i, IsReal (x11 i) := by
  have e := congrFun h (fun a => a.elim0)
  unfold Cert.Pre_finite_branches.fn Cert.Pre_finite_branches.fn_part1 Cert.Pre_finite_branches.fn_part2 at e
  obtain ⟨e, e11⟩ := IntOp.andi_eq_one.1 e
  obtain ⟨e, e9⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e2, e3⟩ := IntOp.andi_eq_one.1 e
  exact ⟨fun i => Attn.isReal_of_lt (Host.reduce_andi_all _ _ _ _ _ e2 i), fun i => Attn.isReal_of_lt (Host.reduce_andi_all _ _ _ _ _ e3 i),
    fun i => Attn.isReal_of_lt (Host.reduce_andi_all _ _ _ _ _ e4 i), fun i => Attn.isReal_of_lt (Host.reduce_andi_all _ _ _ _ _ e5 i),
    fun i => Attn.isReal_of_lt (Host.reduce_andi_all _ _ _ _ _ e6 i), fun i => Attn.isReal_of_lt (Host.reduce_andi_all _ _ _ _ _ e9 i),
    fun i => Attn.isReal_of_lt (Host.reduce_andi_all _ _ _ _ _ e11 i)⟩

theorem algebraic : Cert.algebraic_Kernel5Ideal_Reference5Ideal_pre_finite_branches := fun m ρ m' ρ' hp hag =>
  ⟨fun c => Gm m c, run m ρ, (θ_run _ _ _).mono (fun _ h c => ⟨(h c).1.trans (by
    obtain ⟨f2, f3, f4, f5, f6, f9, f11⟩ := finite_of_pre _ _ _ _ _ _ _ _ _ _ _ _ _ (hp c)
    obtain ⟨g0, g1, g2, g3, g4, g5, g6, g7, g8, g9, g10, g11, g12⟩ := hag c
    rw [Cert.Reference5Ideal.Read.val_main_v90_eq, ref_eq, g0, g1, g2, g3, g4, g5, g6, g7, g8, g9, g10, g11, g12]
    exact (all_eq _ _ _ _ _ _ _ _ _ _ _ _ _ f2 f3 f4 f5 f6 f9 f11).symm), (h c).2⟩) (Cert.Reference5Ideal.Value.run m' ρ')⟩

end Cert.Proof.Merge

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite_scores
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Algebra
public import proofs.«01_k».proof.Proof.Gen.Kernel3
public import proofs.«01_k».proof.Proof.Gen.Kernel3Ideal
public import proofs.«01_k».proof.Proof.Gen.Reference3Ideal
public import proofs.«01_k».proof.Proof.Gen.Pre_table_ranges
public import proofs.«01_k».proof.Proof.Gen.Pre_finite_branches
public import proofs.«01_k».proof.Proof.Gen.Reference3Ideal.Run
public import proofs.«01_k».proof.Proof.Gen.Reference3Ideal.Read
public import proofs.«01_k».proof.Proof.ExpertsAlgebra
public import proofs.«01_k».proof.Proof.ProjAlgebra
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.MergeAlgebra
public import Idealize.ShloMosaic.Adequacy
public import Idealize.ShloMosaic.Init

@[expose] public section

noncomputable section

namespace Cert.Proof

open Idealize.ShloMosaic Idealize.SL.Sem Cert.Kernel

/-- The references write no argument and declare no semaphore. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_ref2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_ref4 : Cert.quiescent_Reference4Ideal := fun m ρ _ =>
  (θ_run Cert.Reference4Ideal.defs _ _).mono (fun r h => ⟨fun c => by
    obtain ⟨-, -, -, -, -, -, -, -, -, -, ha⟩ := h c
    exact ha, sem_eq_zero_of_no_sems (by decide) r.2⟩)
    (Cert.Reference4Ideal.Value.run (F := Ideal) m ρ)

theorem frame_ref5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Pre_finite_scores.Gen.facts, Cert.Pre_table_ranges.Gen.facts, Cert.Pre_finite_branches.Gen.facts,
  fun m ρ _ => Cert.Kernel.Gen.frame m ρ,
  fun m ρ _ => Cert.KernelIdeal.Gen.frame m ρ,
  fun m ρ _ => Cert.KernelIdeal.Gen.frame m ρ,
  frame_ref,
  fun m ρ _ => frame_ref m ρ trivial,
  fun m ρ _ => Cert.Kernel2.Gen.frame m ρ,
  fun m ρ _ => Cert.Kernel2Ideal.Gen.frame m ρ,
  frame_ref2,
  Experts.frame_kernel,
  Experts.frame_ideal,
  Experts.frame_ref,
  fun m ρ _ => Experts.frame_ref m ρ trivial,
  fun m ρ _ => Cert.Kernel4.Gen.frame m ρ,
  fun m ρ _ => Cert.Kernel4Ideal.Gen.frame m ρ,
  frame_ref4,
  fun m ρ _ => Cert.Kernel5.Gen.frame m ρ,
  fun m ρ _ => Cert.Kernel5Ideal.Gen.frame m ρ,
  fun m ρ _ => Cert.Kernel5Ideal.Gen.frame m ρ,
  frame_ref5,
  fun m ρ _ => frame_ref5 m ρ trivial,
  trivial,
  Attn.algebraic,
  trivial,
  Ffn.algebraic,
  trivial,
  Experts.algebraic,
  trivial,
  Proj.algebraic,
  trivial,
  Merge.algebraic⟩

end Cert.Proof

end
